-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_pool_weights [hPre_finite_pool_weights : Cert.Pre_finite_pool_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pool_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_pool_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pool_weights [hPre_finite_pool_weights : Cert.Pre_finite_pool_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pool_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_pool_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2 = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_pool_rows [hPre_finite_pool_rows : Cert.Pre_finite_pool_rows.Facts] (m : (ℓ : Loc Cert.SampleIdeal.nD Cert.SampleIdeal.τ Cert.SampleIdeal.sig) → Buf (Elt Ideal) ℓ) : Prop :=
  ∀ c : Dev Cert.SampleIdeal.nD,
    (Cert.Pre_finite_pool_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18))).1 = (fun _ => 1#1)
    ∧ (Cert.Pre_finite_pool_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18))).2.1 = (fun _ => 1#1)
    ∧ (Cert.Pre_finite_pool_rows.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18))).2.2 = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_finite_pool_rows [hPre_finite_pool_rows : Cert.Pre_finite_pool_rows.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_finite_pool_rows.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9)) (m ((c.tc : Thread Cert.SampleReferenceIdeal.nD Cert.SampleReferenceIdeal.τ).loc Cert.SampleReferenceIdeal.main_arg10)) (m ((c.tc : Thread Cert.SampleReferenceIdeal.nD Cert.SampleReferenceIdeal.τ).loc Cert.SampleReferenceIdeal.main_arg11)) (m ((c.tc : Thread Cert.SampleReferenceIdeal.nD Cert.SampleReferenceIdeal.τ).loc Cert.SampleReferenceIdeal.main_arg12)) (m ((c.tc : Thread Cert.SampleReferenceIdeal.nD Cert.SampleReferenceIdeal.τ).loc Cert.SampleReferenceIdeal.main_arg13)) (m ((c.tc : Thread Cert.SampleReferenceIdeal.nD Cert.SampleReferenceIdeal.τ).loc Cert.SampleReferenceIdeal.main_arg14)) (m ((c.tc : Thread Cert.SampleReferenceIdeal.nD Cert.SampleReferenceIdeal.τ).loc Cert.SampleReferenceIdeal.main_arg15)) (m ((c.tc : Thread Cert.SampleReferenceIdeal.nD Cert.SampleReferenceIdeal.τ).loc Cert.SampleReferenceIdeal.main_arg16)) (m ((c.tc : Thread Cert.SampleReferenceIdeal.nD Cert.SampleReferenceIdeal.τ).loc Cert.SampleReferenceIdeal.main_arg17)) (m ((c.tc : Thread Cert.SampleReferenceIdeal.nD Cert.SampleReferenceIdeal.τ).loc Cert.SampleReferenceIdeal.main_arg18))).1 = (fun _ => 1#1)
    ∧ (Cert.Pre_finite_pool_rows.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9)) (m ((c.tc : Thread Cert.SampleReferenceIdeal.nD Cert.SampleReferenceIdeal.τ).loc Cert.SampleReferenceIdeal.main_arg10)) (m ((c.tc : Thread Cert.SampleReferenceIdeal.nD Cert.SampleReferenceIdeal.τ).loc Cert.SampleReferenceIdeal.main_arg11)) (m ((c.tc : Thread Cert.SampleReferenceIdeal.nD Cert.SampleReferenceIdeal.τ).loc Cert.SampleReferenceIdeal.main_arg12)) (m ((c.tc : Thread Cert.SampleReferenceIdeal.nD Cert.SampleReferenceIdeal.τ).loc Cert.SampleReferenceIdeal.main_arg13)) (m ((c.tc : Thread Cert.SampleReferenceIdeal.nD Cert.SampleReferenceIdeal.τ).loc Cert.SampleReferenceIdeal.main_arg14)) (m ((c.tc : Thread Cert.SampleReferenceIdeal.nD Cert.SampleReferenceIdeal.τ).loc Cert.SampleReferenceIdeal.main_arg15)) (m ((c.tc : Thread Cert.SampleReferenceIdeal.nD Cert.SampleReferenceIdeal.τ).loc Cert.SampleReferenceIdeal.main_arg16)) (m ((c.tc : Thread Cert.SampleReferenceIdeal.nD Cert.SampleReferenceIdeal.τ).loc Cert.SampleReferenceIdeal.main_arg17)) (m ((c.tc : Thread Cert.SampleReferenceIdeal.nD Cert.SampleReferenceIdeal.τ).loc Cert.SampleReferenceIdeal.main_arg18))).2.1 = (fun _ => 1#1)
    ∧ (Cert.Pre_finite_pool_rows.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9)) (m ((c.tc : Thread Cert.SampleReferenceIdeal.nD Cert.SampleReferenceIdeal.τ).loc Cert.SampleReferenceIdeal.main_arg10)) (m ((c.tc : Thread Cert.SampleReferenceIdeal.nD Cert.SampleReferenceIdeal.τ).loc Cert.SampleReferenceIdeal.main_arg11)) (m ((c.tc : Thread Cert.SampleReferenceIdeal.nD Cert.SampleReferenceIdeal.τ).loc Cert.SampleReferenceIdeal.main_arg12)) (m ((c.tc : Thread Cert.SampleReferenceIdeal.nD Cert.SampleReferenceIdeal.τ).loc Cert.SampleReferenceIdeal.main_arg13)) (m ((c.tc : Thread Cert.SampleReferenceIdeal.nD Cert.SampleReferenceIdeal.τ).loc Cert.SampleReferenceIdeal.main_arg14)) (m ((c.tc : Thread Cert.SampleReferenceIdeal.nD Cert.SampleReferenceIdeal.τ).loc Cert.SampleReferenceIdeal.main_arg15)) (m ((c.tc : Thread Cert.SampleReferenceIdeal.nD Cert.SampleReferenceIdeal.τ).loc Cert.SampleReferenceIdeal.main_arg16)) (m ((c.tc : Thread Cert.SampleReferenceIdeal.nD Cert.SampleReferenceIdeal.τ).loc Cert.SampleReferenceIdeal.main_arg17)) (m ((c.tc : Thread Cert.SampleReferenceIdeal.nD Cert.SampleReferenceIdeal.τ).loc Cert.SampleReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_pool_weights [hKernelIdeal : Cert.KernelIdeal.Facts] [hPre_finite_pool_weights : Cert.Pre_finite_pool_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pool_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_pool_weights [hReferenceIdeal : Cert.ReferenceIdeal.Facts] [hPre_finite_pool_weights : Cert.Pre_finite_pool_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pool_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17)
      ∧ r.2.mem ((c.tc : Thread Cert.Sample.nD Cert.Sample.τ).loc Cert.Sample.main_arg18) = m ((c.tc : Thread Cert.Sample.nD Cert.Sample.τ).loc Cert.Sample.main_arg18))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ r.2.sem = fun _ => 0)

def quiescent_SampleIdeal_pre_finite_pool_rows [hSampleIdeal : Cert.SampleIdeal.Facts] [hPre_finite_pool_rows : Cert.Pre_finite_pool_rows.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_pool_rows m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15)
      ∧ r.2.mem ((c.tc : Thread Cert.SampleReferenceIdeal.nD Cert.SampleReferenceIdeal.τ).loc Cert.SampleReferenceIdeal.main_arg16) = m ((c.tc : Thread Cert.SampleReferenceIdeal.nD Cert.SampleReferenceIdeal.τ).loc Cert.SampleReferenceIdeal.main_arg16)
      ∧ r.2.mem ((c.tc : Thread Cert.SampleReferenceIdeal.nD Cert.SampleReferenceIdeal.τ).loc Cert.SampleReferenceIdeal.main_arg17) = m ((c.tc : Thread Cert.SampleReferenceIdeal.nD Cert.SampleReferenceIdeal.τ).loc Cert.SampleReferenceIdeal.main_arg17)
      ∧ r.2.mem ((c.tc : Thread Cert.SampleReferenceIdeal.nD Cert.SampleReferenceIdeal.τ).loc Cert.SampleReferenceIdeal.main_arg18) = m ((c.tc : Thread Cert.SampleReferenceIdeal.nD Cert.SampleReferenceIdeal.τ).loc Cert.SampleReferenceIdeal.main_arg18))
      ∧ r.2.sem = fun _ => 0)

def quiescent_SampleReferenceIdeal_pre_finite_pool_rows [hSampleReferenceIdeal : Cert.SampleReferenceIdeal.Facts] [hPre_finite_pool_rows : Cert.Pre_finite_pool_rows.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_finite_pool_rows m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15)
      ∧ r.2.mem ((c.tc : Thread Cert.SampleReferenceIdeal.nD Cert.SampleReferenceIdeal.τ).loc Cert.SampleReferenceIdeal.main_arg16) = m ((c.tc : Thread Cert.SampleReferenceIdeal.nD Cert.SampleReferenceIdeal.τ).loc Cert.SampleReferenceIdeal.main_arg16)
      ∧ r.2.mem ((c.tc : Thread Cert.SampleReferenceIdeal.nD Cert.SampleReferenceIdeal.τ).loc Cert.SampleReferenceIdeal.main_arg17) = m ((c.tc : Thread Cert.SampleReferenceIdeal.nD Cert.SampleReferenceIdeal.τ).loc Cert.SampleReferenceIdeal.main_arg17)
      ∧ r.2.mem ((c.tc : Thread Cert.SampleReferenceIdeal.nD Cert.SampleReferenceIdeal.τ).loc Cert.SampleReferenceIdeal.main_arg18) = m ((c.tc : Thread Cert.SampleReferenceIdeal.nD Cert.SampleReferenceIdeal.τ).loc Cert.SampleReferenceIdeal.main_arg18))
      ∧ r.2.sem = fun _ => 0)

def preserves_Kernel_KernelIdeal : Prop :=
  True

def algebraic_KernelIdeal_ReferenceIdeal_pre_finite_pool_weights [hKernelIdeal : Cert.KernelIdeal.Facts] [hReferenceIdeal : Cert.ReferenceIdeal.Facts] [hPre_finite_pool_weights : Cert.Pre_finite_pool_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pool_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Sample_SampleIdeal : Prop :=
  True

def algebraic_SampleIdeal_SampleReferenceIdeal_pre_finite_pool_rows [hSampleIdeal : Cert.SampleIdeal.Facts] [hSampleReferenceIdeal : Cert.SampleReferenceIdeal.Facts] [hPre_finite_pool_rows : Cert.Pre_finite_pool_rows.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_finite_pool_rows m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
      ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
      ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
      ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
      ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
      ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)
      ∧ m' ((c.tc : Thread Cert.SampleReferenceIdeal.nD Cert.SampleReferenceIdeal.τ).loc Cert.SampleReferenceIdeal.main_arg16) = m ((c.tc : Thread Cert.SampleIdeal.nD Cert.SampleIdeal.τ).loc Cert.SampleIdeal.main_arg16)
      ∧ m' ((c.tc : Thread Cert.SampleReferenceIdeal.nD Cert.SampleReferenceIdeal.τ).loc Cert.SampleReferenceIdeal.main_arg17) = m ((c.tc : Thread Cert.SampleIdeal.nD Cert.SampleIdeal.τ).loc Cert.SampleIdeal.main_arg17)
      ∧ m' ((c.tc : Thread Cert.SampleReferenceIdeal.nD Cert.SampleReferenceIdeal.τ).loc Cert.SampleReferenceIdeal.main_arg18) = m ((c.tc : Thread Cert.SampleIdeal.nD Cert.SampleIdeal.τ).loc Cert.SampleIdeal.main_arg18)) →
    ∃ (v0 : (c : Dev Cert.SampleIdeal.nD) → Buf (Elt Ideal) ((c.tc : Thread Cert.SampleIdeal.nD Cert.SampleIdeal.τ).loc Cert.SampleIdeal.main_v40_0)) (v1 : (c : Dev Cert.SampleIdeal.nD) → Buf (Elt Ideal) ((c.tc : Thread Cert.SampleIdeal.nD Cert.SampleIdeal.τ).loc Cert.SampleIdeal.main_v40_1)) (v2 : (c : Dev Cert.SampleIdeal.nD) → Buf (Elt Ideal) ((c.tc : Thread Cert.SampleIdeal.nD Cert.SampleIdeal.τ).loc Cert.SampleIdeal.main_v40_2)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v40_0) = v0 c
          ∧ r.2.mem ((c.tc : Thread Cert.SampleIdeal.nD Cert.SampleIdeal.τ).loc Cert.SampleIdeal.main_v40_1) = v1 c
          ∧ r.2.mem ((c.tc : Thread Cert.SampleIdeal.nD Cert.SampleIdeal.τ).loc Cert.SampleIdeal.main_v40_2) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
          ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v243) = v0 c
          ∧ r.2.mem ((c.tc : Thread Cert.SampleReferenceIdeal.nD Cert.SampleReferenceIdeal.τ).loc Cert.SampleReferenceIdeal.main_v244) = v1 c
          ∧ r.2.mem ((c.tc : Thread Cert.SampleReferenceIdeal.nD Cert.SampleReferenceIdeal.τ).loc Cert.SampleReferenceIdeal.main_v245) = v2 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11)
          ∧ r.2.mem ((c.tc : Thread Cert.SampleReferenceIdeal.nD Cert.SampleReferenceIdeal.τ).loc Cert.SampleReferenceIdeal.main_arg12) = m' ((c.tc : Thread Cert.SampleReferenceIdeal.nD Cert.SampleReferenceIdeal.τ).loc Cert.SampleReferenceIdeal.main_arg12)
          ∧ r.2.mem ((c.tc : Thread Cert.SampleReferenceIdeal.nD Cert.SampleReferenceIdeal.τ).loc Cert.SampleReferenceIdeal.main_arg13) = m' ((c.tc : Thread Cert.SampleReferenceIdeal.nD Cert.SampleReferenceIdeal.τ).loc Cert.SampleReferenceIdeal.main_arg13)
          ∧ r.2.mem ((c.tc : Thread Cert.SampleReferenceIdeal.nD Cert.SampleReferenceIdeal.τ).loc Cert.SampleReferenceIdeal.main_arg14) = m' ((c.tc : Thread Cert.SampleReferenceIdeal.nD Cert.SampleReferenceIdeal.τ).loc Cert.SampleReferenceIdeal.main_arg14)
          ∧ r.2.mem ((c.tc : Thread Cert.SampleReferenceIdeal.nD Cert.SampleReferenceIdeal.τ).loc Cert.SampleReferenceIdeal.main_arg15) = m' ((c.tc : Thread Cert.SampleReferenceIdeal.nD Cert.SampleReferenceIdeal.τ).loc Cert.SampleReferenceIdeal.main_arg15)
          ∧ r.2.mem ((c.tc : Thread Cert.SampleReferenceIdeal.nD Cert.SampleReferenceIdeal.τ).loc Cert.SampleReferenceIdeal.main_arg16) = m' ((c.tc : Thread Cert.SampleReferenceIdeal.nD Cert.SampleReferenceIdeal.τ).loc Cert.SampleReferenceIdeal.main_arg16)
          ∧ r.2.mem ((c.tc : Thread Cert.SampleReferenceIdeal.nD Cert.SampleReferenceIdeal.τ).loc Cert.SampleReferenceIdeal.main_arg17) = m' ((c.tc : Thread Cert.SampleReferenceIdeal.nD Cert.SampleReferenceIdeal.τ).loc Cert.SampleReferenceIdeal.main_arg17)
          ∧ r.2.mem ((c.tc : Thread Cert.SampleReferenceIdeal.nD Cert.SampleReferenceIdeal.τ).loc Cert.SampleReferenceIdeal.main_arg18) = m' ((c.tc : Thread Cert.SampleReferenceIdeal.nD Cert.SampleReferenceIdeal.τ).loc Cert.SampleReferenceIdeal.main_arg18))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hPre_finite_pool_weights : Cert.Pre_finite_pool_weights.Facts) (hPre_finite_pool_rows : Cert.Pre_finite_pool_rows.Facts),
    quiescent_Kernel (hKernel := hKernel)
    ∧ quiescent_KernelIdeal (hKernelIdeal := hKernelIdeal)
    ∧ quiescent_KernelIdeal_pre_finite_pool_weights (hKernelIdeal := hKernelIdeal) (hPre_finite_pool_weights := hPre_finite_pool_weights)
    ∧ quiescent_ReferenceIdeal (hReferenceIdeal := hReferenceIdeal)
    ∧ quiescent_ReferenceIdeal_pre_finite_pool_weights (hReferenceIdeal := hReferenceIdeal) (hPre_finite_pool_weights := hPre_finite_pool_weights)
    ∧ quiescent_Sample (hSample := hSample)
    ∧ quiescent_SampleIdeal (hSampleIdeal := hSampleIdeal)
    ∧ quiescent_SampleIdeal_pre_finite_pool_rows (hSampleIdeal := hSampleIdeal) (hPre_finite_pool_rows := hPre_finite_pool_rows)
    ∧ quiescent_SampleReferenceIdeal (hSampleReferenceIdeal := hSampleReferenceIdeal)
    ∧ quiescent_SampleReferenceIdeal_pre_finite_pool_rows (hSampleReferenceIdeal := hSampleReferenceIdeal) (hPre_finite_pool_rows := hPre_finite_pool_rows)
    ∧ preserves_Kernel_KernelIdeal
    ∧ algebraic_KernelIdeal_ReferenceIdeal_pre_finite_pool_weights (hKernelIdeal := hKernelIdeal) (hReferenceIdeal := hReferenceIdeal) (hPre_finite_pool_weights := hPre_finite_pool_weights)
    ∧ preserves_Sample_SampleIdeal
    ∧ algebraic_SampleIdeal_SampleReferenceIdeal_pre_finite_pool_rows (hSampleIdeal := hSampleIdeal) (hSampleReferenceIdeal := hSampleReferenceIdeal) (hPre_finite_pool_rows := hPre_finite_pool_rows)
-- ==== Pre_finite_pool_rows.lean ====
abbrev S128x1x1024 : Shape := ⟨3, ![128, 1, 1024]⟩
abbrev S1x128x15x1024 : Shape := ⟨4, ![1, 128, 15, 1024]⟩
abbrev S1x128x1x256 : Shape := ⟨4, ![1, 128, 1, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S1x128x14x256 : Shape := ⟨4, ![1, 128, 14, 256]⟩
abbrev S_ : Shape := ⟨0, ![]⟩
abbrev S1x128x12x256 : Shape := ⟨4, ![1, 128, 12, 256]⟩
abbrev S1x128x8x256 : Shape := ⟨4, ![1, 128, 8, 256]⟩

class Facts : Prop where
  slices_S1x128x15x1024_S1x128x14x256_0_0_0_0 : S1x128x15x1024.Slices ![0, 0, 0, 0] S1x128x14x256
  bcast_S_S1x128x14x256 : S_.BroadcastsInDim S1x128x14x256 (![] : Fin 0 → Fin S1x128x14x256.rank)
  slices_S1x128x15x1024_S1x128x12x256_0_0_0_256 : S1x128x15x1024.Slices ![0, 0, 0, 256] S1x128x12x256
  bcast_S_S1x128x12x256 : S_.BroadcastsInDim S1x128x12x256 (![] : Fin 0 → Fin S1x128x12x256.rank)
  slices_S1x128x15x1024_S1x128x8x256_0_0_0_512 : S1x128x15x1024.Slices ![0, 0, 0, 512] S1x128x8x256
  bcast_S_S1x128x8x256 : S_.BroadcastsInDim S1x128x8x256 (![] : Fin 0 → Fin S1x128x8x256.rank)

variable [Facts]

def fn {F : FTy → Type} [FloatOps F] (main_arg0 : FVec F S128x1x1024 .f32) (main_arg1 : FVec F S1x128x15x1024 .f32) (main_arg2 : FVec F S1x128x1x256 .f32) (main_arg3 : FVec F S1x1024 .f32) (main_arg4 : FVec F S1x1024x7168 .f32) (main_arg5 : FVec F S1x1024 .f32) (main_arg6 : FVec F S1x1024 .f32) (main_arg7 : FVec F S1x8x128x128 .f32) (main_arg8 : FVec F S1x8x128 .f32) (main_arg9 : FVec F S1x4x256x256 .f32) (main_arg10 : FVec F S1x1024 .f32) (main_arg11 : FVec F S1x1024x1024 .f32) (main_arg12 : FVec F S1x1024x1024 .f32) (main_arg13 : FVec F S1x1024x1024 .f32) (main_arg14 : FVec F S1x1024 .f32) (main_arg15 : FVec F S1x256x1024 .f32) (main_arg16 : FVec F S1x1024x1024 .f32) (main_arg17 : FVec F S1x1024 .f32) (main_arg18 : FVec F S1x1024 .f32) : IVec S1x128x14x256 1 × IVec S1x128x12x256 1 × IVec S1x128x8x256 1 :=
  let main_v0 : FVec F S1x128x14x256 .f32 := (extractStridedSlice S1x128x14x256 ![0, 0, 0, 0] · slices_S1x128x15x1024_S1x128x14x256_0_0_0_0) main_arg1
  let main_v1 : FVec F S1x128x14x256 .f32 := Host.absf main_v0
  let main_cst : FVec F S_ .f32 := constant S_ .f32 0x7F800000#32
  let main_v2 : FVec F S1x128x14x256 .f32 := broadcastInDim S1x128x14x256 ![] bcast_S_S1x128x14x256 main_cst
  let main_v3 : IVec S1x128x14x256 1 := cmpf .olt main_v1 main_v2
  let main_v4 : FVec F S1x128x12x256 .f32 := (extractStridedSlice S1x128x12x256 ![0, 0, 0, 256] · slices_S1x128x15x1024_S1x128x12x256_0_0_0_256) main_arg1
  let main_v5 : FVec F S1x128x12x256 .f32 := Host.absf main_v4
  let main_cst_0 : FVec F S_ .f32 := constant S_ .f32 0x7F800000#32
  let main_v6 : FVec F S1x128x12x256 .f32 := broadcastInDim S1x128x12x256 ![] bcast_S_S1x128x12x256 main_cst_0
  let main_v7 : IVec S1x128x12x256 1 := cmpf .olt main_v5 main_v6
  let main_v8 : FVec F S1x128x8x256 .f32 := (extractStridedSlice S1x128x8x256 ![0, 0, 0, 512] · slices_S1x128x15x1024_S1x128x8x256_0_0_0_512) main_arg1
  let main_v9 : FVec F S1x128x8x256 .f32 := Host.absf main_v8
  let main_cst_1 : FVec F S_ .f32 := constant S_ .f32 0x7F800000#32
  let main_v10 : FVec F S1x128x8x256 .f32 := broadcastInDim S1x128x8x256 ![] bcast_S_S1x128x8x256 main_cst_1
  let main_v11 : IVec S1x128x8x256 1 := cmpf .olt main_v9 main_v10
  (main_v3, main_v7, main_v11)
-- ==== Pre_finite_pool_weights.lean ====
abbrev S8x2048x1024 : Shape := ⟨3, ![8, 2048, 1024]⟩
abbrev S1x8x2048x256 : Shape := ⟨4, ![1, 8, 2048, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S_ : Shape := ⟨0, ![]⟩

class Facts : Prop where
  bcast_S_S1x1024 : S_.BroadcastsInDim S1x1024 (![] : Fin 0 → Fin S1x1024.rank)
  slices_S1x1024x7168_S1x1024x1024_0_0_3072 : S1x1024x7168.Slices ![0, 0, 3072] S1x1024x1024
  bcast_S_S1x1024x1024 : S_.BroadcastsInDim S1x1024x1024 (![] : Fin 0 → Fin S1x1024x1024.rank)

variable [Facts]

def fn {F : FTy → Type} [FloatOps F] (main_arg0 : FVec F S8x2048x1024 .f32) (main_arg1 : FVec F S1x8x2048x256 .f32) (main_arg2 : FVec F S1x1024 .f32) (main_arg3 : FVec F S1x1024x7168 .f32) (main_arg4 : FVec F S1x1024 .f32) (main_arg5 : FVec F S1x1024 .f32) (main_arg6 : FVec F S1x8x128x128 .f32) (main_arg7 : FVec F S1x8x128 .f32) (main_arg8 : FVec F S1x4x256x256 .f32) (main_arg9 : FVec F S1x1024 .f32) (main_arg10 : FVec F S1x1024x1024 .f32) (main_arg11 : FVec F S1x1024x1024 .f32) (main_arg12 : FVec F S1x1024x1024 .f32) (main_arg13 : FVec F S1x1024 .f32) (main_arg14 : FVec F S1x256x1024 .f32) (main_arg15 : FVec F S1x1024x1024 .f32) (main_arg16 : FVec F S1x1024 .f32) (main_arg17 : FVec F S1x1024 .f32) : IVec S1x1024 1 × IVec S1x1024x1024 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x1024 .f32 := (extractStridedSlice S1x1024x1024 ![0, 0, 3072] · slices_S1x1024x7168_S1x1024x1024_0_0_3072) main_arg3
  let main_v4 : FVec F S1x1024x1024 .f32 := Host.absf main_v3
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  (main_v2, main_v6)
-- ==== Kernel.lean ====
abbrev S8x2048x1024 : Shape := ⟨3, ![8, 2048, 1024]⟩
abbrev S1x8x2048x256 : Shape := ⟨4, ![1, 8, 2048, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S8x1024 : Shape := ⟨2, ![8, 1024]⟩
abbrev S1024x7168 : Shape := ⟨2, ![1024, 7168]⟩
abbrev S8x128x128 : Shape := ⟨3, ![8, 128, 128]⟩
abbrev S8x128 : Shape := ⟨2, ![8, 128]⟩
abbrev S128x8 : Shape := ⟨2, ![128, 8]⟩
abbrev S4x256x256 : Shape := ⟨3, ![4, 256, 256]⟩
abbrev S1024x1024 : Shape := ⟨2, ![1024, 1024]⟩
abbrev S256x1024 : Shape := ⟨2, ![256, 1024]⟩
abbrev S8x2048x256 : Shape := ⟨3, ![8, 2048, 256]⟩
abbrev S8x128x1024 : Shape := ⟨3, ![8, 128, 1024]⟩
abbrev S8x15x1024 : Shape := ⟨3, ![8, 15, 1024]⟩
abbrev S1x256x256 : Shape := ⟨3, ![1, 256, 256]⟩
abbrev S1x128x1024 : Shape := ⟨3, ![1, 128, 1024]⟩
abbrev S1x15x1024 : Shape := ⟨3, ![1, 15, 1024]⟩
abbrev S272x1024 : Shape := ⟨2, ![272, 1024]⟩
abbrev S16x1024 : Shape := ⟨2, ![16, 1024]⟩
abbrev S256 : Shape := ⟨1, ![256]⟩
abbrev S256x1 : Shape := ⟨2, ![256, 1]⟩
abbrev S128x1024 : Shape := ⟨2, ![128, 1024]⟩
abbrev S128x128 : Shape := ⟨2, ![128, 128]⟩
abbrev S1x128x128 : Shape := ⟨3, ![1, 128, 128]⟩
abbrev S128x1 : Shape := ⟨2, ![128, 1]⟩
abbrev S256x256 : Shape := ⟨2, ![256, 256]⟩
abbrev S15x1024 : Shape := ⟨2, ![15, 1024]⟩

abbrev nBuf : Space → Nat
  | .hbm => 58
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x1024, .f32⟩
  | .hbm, ⟨3, _⟩ => ⟨S1x1024x7168, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x4x256x256, .f32⟩
  | .hbm, ⟨9, _⟩ => ⟨S1x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x256x1024, .f32⟩
  | .hbm, ⟨15, _⟩ => ⟨S1x1024x1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S8x1024, .f32⟩
  | .hbm, ⟨37, _⟩ => ⟨S1024x7168, .f32⟩
  | .hbm, ⟨38, _⟩ => ⟨S1024x7168, .bf16⟩
  | .hbm, ⟨39, _⟩ => ⟨S8x128x128, .f32⟩
  | .hbm, ⟨40, _⟩ => ⟨S8x128, .f32⟩
  | .hbm, ⟨41, _⟩ => ⟨S128x8, .f32⟩
  | .hbm, ⟨42, _⟩ => ⟨S4x256x256, .f32⟩
  | .hbm, ⟨43, _⟩ => ⟨S4x256x256, .bf16⟩
  | .hbm, ⟨44, _⟩ => ⟨S1024x1024, .f32⟩
  | .hbm, ⟨45, _⟩ => ⟨S1024x1024, .bf16⟩
  | .hbm, ⟨46, _⟩ => ⟨S1024x1024, .f32⟩
  | .hbm, ⟨47, _⟩ => ⟨S1024x1024, .bf16⟩
  | .hbm, ⟨48, _⟩ => ⟨S1024x1024, .f32⟩
  | .hbm, ⟨49, _⟩ => ⟨S1024x1024, .bf16⟩
  | .hbm, ⟨50, _⟩ => ⟨S256x1024, .f32⟩
  | .hbm, ⟨51, _⟩ => ⟨S256x1024, .bf16⟩
  | .hbm, ⟨52, _⟩ => ⟨S1024x1024, .f32⟩
  | .hbm, ⟨53, _⟩ => ⟨S1024x1024, .bf16⟩
  | .hbm, ⟨54, _⟩ => ⟨S8x2048x256, .f32⟩
  | .hbm, ⟨55, _⟩ => ⟨S8x2048x1024, .f32⟩
  | .hbm, ⟨56, _⟩ => ⟨S8x128x1024, .f32⟩
  | .hbm, ⟨57, _⟩ => ⟨S8x15x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1024x7168, .bf16⟩
  | .local _ .vmem, ⟨5, _⟩ => ⟨S8x128x128, .f32⟩
  | .local _ .vmem, ⟨6, _⟩ => ⟨S128x8, .f32⟩
  | .local _ .vmem, ⟨7, _⟩ => ⟨S4x256x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .bf16⟩
  | .local _ .vmem, ⟨12, _⟩ => ⟨S1024x1024, .bf16⟩
  | .local _ .vmem, ⟨13, _⟩ => ⟨S8x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x15x1024, .f32⟩
  | .local _ .vmem, ⟨19, _⟩ => ⟨S1x15x1024, .f32⟩
  | .local _ .vmem, ⟨20, _⟩ => ⟨S272x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x1024 : Shape := ⟨3, ![8, 2048, 1024]⟩
abbrev S1x8x2048x256 : Shape := ⟨4, ![1, 8, 2048, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S_ : Shape := ⟨0, ![]⟩
abbrev S8x15x1024 : Shape := ⟨3, ![8, 15, 1024]⟩
abbrev S1024 : Shape := ⟨1, ![1024]⟩
abbrev S1024x7168 : Shape := ⟨2, ![1024, 7168]⟩
abbrev S8x128x128 : Shape := ⟨3, ![8, 128, 128]⟩
abbrev S8x128 : Shape := ⟨2, ![8, 128]⟩
abbrev S4x256x256 : Shape := ⟨3, ![4, 256, 256]⟩
abbrev S1024x1024 : Shape := ⟨2, ![1024, 1024]⟩
abbrev S256x1024 : Shape := ⟨2, ![256, 1024]⟩
abbrev S8x2048x256 : Shape := ⟨3, ![8, 2048, 256]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7168 : Shape := ⟨3, ![8, 2048, 7168]⟩
abbrev S8x16x128x8x128 : Shape := ⟨5, ![8, 16, 128, 8, 128]⟩
abbrev S128x128 : Shape := ⟨2, ![128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩
abbrev S8x2063x1024 : Shape := ⟨3, ![8, 2063, 1024]⟩
abbrev S8x1x1024 : Shape := ⟨3, ![8, 1, 1024]⟩
abbrev S8x2064x1024 : Shape := ⟨3, ![8, 2064, 1024]⟩
abbrev S2048 : Shape := ⟨1, ![2048]⟩
abbrev S1x2048x1 : Shape := ⟨3, ![1, 2048, 1]⟩
abbrev S8x2048x1x256 : Shape := ⟨4, ![8, 2048, 1, 256]⟩
abbrev S8x2048x4x256 : Shape := ⟨4, ![8, 2048, 4, 256]⟩
abbrev S4x256x8x2048 : Shape := ⟨4, ![4, 256, 8, 2048]⟩
abbrev S8x128x1024 : Shape := ⟨3, ![8, 128, 1024]⟩

abbrev nBuf : Space → Nat
  | .hbm => 332
  | .vmem => 0
  | .smem => 0
  | _ => 0

abbrev hbmTy0_0 (i : Nat) : BufTy := match i % 128 with
  | 0 => ⟨S8x2048x1024, .f32⟩
  | 1 => ⟨S1x8x2048x256, .f32⟩
  | 2 => ⟨S1x1024, .f32⟩
  | 3 => ⟨S1x1024x7168, .f32⟩
  | 4 => ⟨S1x1024, .f32⟩
  | 5 => ⟨S1x1024, .f32⟩
  | 6 => ⟨S1x8x128x128, .f32⟩
  | 7 => ⟨S1x8x128, .f32⟩
  | 8 => ⟨S1x4x256x256, .f32⟩
  | 9 => ⟨S1x1024, .f32⟩
  | 10 => ⟨S1x1024x1024, .f32⟩
  | 11 => ⟨S1x1024x1024, .f32⟩
  | 12 => ⟨S1x1024x1024, .f32⟩
  | 13 => ⟨S1x1024, .f32⟩
  | 14 => ⟨S1x256x1024, .f32⟩
  | 15 => ⟨S1x1024x1024, .f32⟩
  | 16 => ⟨S1x1024, .f32⟩
  | 17 => ⟨S1x1024, .f32⟩
  | 18 => ⟨S_, .f32⟩
  | 19 => ⟨S8x15x1024, .f32⟩
  | 20 => ⟨S1024, .f32⟩
  | 21 => ⟨S1024x7168, .f32⟩
  | 22 => ⟨S1024, .f32⟩
  | 23 => ⟨S1024, .f32⟩
  | 24 => ⟨S8x128x128, .f32⟩
  | 25 => ⟨S8x128, .f32⟩
  | 26 => ⟨S4x256x256, .f32⟩
  | 27 => ⟨S1024, .f32⟩
  | 28 => ⟨S1024x1024, .f32⟩
  | 29 => ⟨S1024x1024, .f32⟩
  | 30 => ⟨S1024x1024, .f32⟩
  | 31 => ⟨S1024, .f32⟩
  | 32 => ⟨S256x1024, .f32⟩
  | 33 => ⟨S1024x1024, .f32⟩
  | 34 => ⟨S1024, .f32⟩
  | 35 => ⟨S1024, .f32⟩
  | 36 => ⟨S8x2048x256, .f32⟩
  | 37 => ⟨S8x2048x1024, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S_, .f32⟩
  | 45 => ⟨S8x2048x1, .f32⟩
  | 46 => ⟨S8x2048x1, .f32⟩
  | 47 => ⟨S8x2048x1, .f32⟩
  | 48 => ⟨S8x2048x1024, .f32⟩
  | 49 => ⟨S8x2048x1024, .f32⟩
  | 50 => ⟨S1x1x1024, .f32⟩
  | 51 => ⟨S8x2048x1024, .f32⟩
  | 52 => ⟨S8x2048x1024, .f32⟩
  | 53 => ⟨S8x2048x7168, .f32⟩
  | 54 => ⟨S8x2048x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S_, .f32⟩
  | 64 => ⟨S8x2048x1024, .f32⟩
  | 65 => ⟨S8x2048x1024, .f32⟩
  | 66 => ⟨S8x2048x1024, .f32⟩
  | 67 => ⟨S_, .f32⟩
  | 68 => ⟨S8x2048x1024, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S_, .f32⟩
  | 75 => ⟨S8x2048x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S_, .f32⟩
  | 81 => ⟨S8x2048x1024, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S8x2048x1024, .f32⟩
  | 95 => ⟨S_, .f32⟩
  | 96 => ⟨S8x2048, .f32⟩
  | 97 => ⟨S8x2048x1, .f32⟩
  | 98 => ⟨S_, .f32⟩
  | 99 => ⟨S8x2048x1, .f32⟩
  | 100 => ⟨S8x2048x1, .f32⟩
  | 101 => ⟨S8x2048x1024, .f32⟩
  | 102 => ⟨S8x2048x1024, .f32⟩
  | 103 => ⟨S8x2048x1024, .f32⟩
  | 104 => ⟨S_, .f32⟩
  | 105 => ⟨S8x2048, .f32⟩
  | 106 => ⟨S8x2048x1, .f32⟩
  | 107 => ⟨S_, .f32⟩
  | 108 => ⟨S8x2048x1, .f32⟩
  | 109 => ⟨S8x2048x1, .f32⟩
  | 110 => ⟨S_, .f32⟩
  | 111 => ⟨S8x2048x1, .f32⟩
  | 112 => ⟨S8x2048x1, .f32⟩
  | 113 => ⟨S8x2048x1, .f32⟩
  | 114 => ⟨S8x2048x1024, .f32⟩
  | 115 => ⟨S8x2048x1024, .f32⟩
  | 116 => ⟨S1x1x1024, .f32⟩
  | 117 => ⟨S8x2048x1024, .f32⟩
  | 118 => ⟨S8x2048x1024, .f32⟩
  | 119 => ⟨S1x1x1024, .f32⟩
  | 120 => ⟨S8x2048x1024, .f32⟩
  | 121 => ⟨S8x2048x1024, .f32⟩
  | 122 => ⟨S_, .i32⟩
  | 123 => ⟨S_, .f32⟩
  | 124 => ⟨S8x2048x1024, .f32⟩
  | 125 => ⟨S8x16x128x8x128, .f32⟩
  | 126 => ⟨S128x128, .i32⟩
  | 127 => ⟨S_, .i32⟩
  | _ => ⟨S8x2048x1024, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i1⟩
  | 4 => ⟨S8x128x128, .i1⟩
  | 5 => ⟨S_, .f32⟩
  | 6 => ⟨S8x128x128, .f32⟩
  | 7 => ⟨S8x128x128, .f32⟩
  | 8 => ⟨S8x8x16x128x128, .f32⟩
  | 9 => ⟨S8x16x128x8x128, .f32⟩
  | 10 => ⟨S128x8, .f32⟩
  | 11 => ⟨S1x1x128x8x1, .f32⟩
  | 12 => ⟨S8x16x128x8x128, .f32⟩
  | 13 => ⟨S8x16x128x8x128, .f32⟩
  | 14 => ⟨S8x2048x1024, .f32⟩
  | 15 => ⟨S8x2048x1024, .f32⟩
  | 16 => ⟨S8x2048x1024, .f32⟩
  | 17 => ⟨S8x2048x1024, .f32⟩
  | 18 => ⟨S_, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S8x2048x1024, .f32⟩
  | 25 => ⟨S8x2048x1024, .f32⟩
  | 26 => ⟨S8x2063x1024, .f32⟩
  | 27 => ⟨S8x1x1024, .f32⟩
  | 28 => ⟨S_, .f32⟩
  | 29 => ⟨S8x1x1024, .f32⟩
  | 30 => ⟨S_, .f32⟩
  | 31 => ⟨S_, .f32⟩
  | 32 => ⟨S8x2063x1024, .f32⟩
  | 33 => ⟨S8x2064x1024, .f32⟩
  | 34 => ⟨S2048, .i32⟩
  | 35 => ⟨S_, .i32⟩
  | 36 => ⟨S2048, .i32⟩
  | 37 => ⟨S2048, .i32⟩
  | 38 => ⟨S8x2048x256, .f32⟩
  | 39 => ⟨S8x2048x256, .f32⟩
  | 40 => ⟨S8x2048x256, .f32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048, .f32⟩
  | 48 => ⟨S1x2048x1, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .f32⟩
  | 54 => ⟨S8x2048x256, .f32⟩
  | 55 => ⟨S8x2048x256, .f32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .f32⟩
  | 63 => ⟨S1x2048x1, .f32⟩
  | 64 => ⟨S8x2048x256, .f32⟩
  | 65 => ⟨S8x2048x256, .f32⟩
  | 66 => ⟨S8x2048x256, .f32⟩
  | 67 => ⟨S8x2048x256, .f32⟩
  | 68 => ⟨S8x2048x256, .f32⟩
  | 69 => ⟨S8x2048x256, .f32⟩
  | 70 => ⟨S8x2048x256, .f32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S1x2048x1, .f32⟩
  | 79 => ⟨S8x2048x256, .f32⟩
  | 80 => ⟨S8x2048x256, .f32⟩
  | 81 => ⟨S8x2048x256, .f32⟩
  | 82 => ⟨S8x2048x256, .f32⟩
  | 83 => ⟨S8x2048x256, .f32⟩
  | 84 => ⟨S8x2048x256, .f32⟩
  | 85 => ⟨S8x2048x256, .f32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S2048, .f32⟩
  | 93 => ⟨S1x2048x1, .f32⟩
  | 94 => ⟨S8x2048x256, .f32⟩
  | 95 => ⟨S8x2048x256, .f32⟩
  | 96 => ⟨S8x2048x256, .f32⟩
  | 97 => ⟨S8x2048x256, .f32⟩
  | 98 => ⟨S8x2048x1x256, .f32⟩
  | 99 => ⟨S8x2048x1x256, .f32⟩
  | 100 => ⟨S8x2048x1x256, .f32⟩
  | 101 => ⟨S8x2048x1x256, .f32⟩
  | 102 => ⟨S8x2048x4x256, .f32⟩
  | 103 => ⟨S4x256x8x2048, .f32⟩
  | 104 => ⟨S8x2048x4x256, .f32⟩
  | 105 => ⟨S8x2048x1024, .f32⟩
  | 106 => ⟨S1x1x1024, .f32⟩
  | 107 => ⟨S8x2048x1024, .f32⟩
  | 108 => ⟨S8x2048x1024, .f32⟩
  | 109 => ⟨S8x15x1024, .f32⟩
  | 110 => ⟨S8x2048x1024, .f32⟩
  | 111 => ⟨S8x2048x1024, .f32⟩
  | 112 => ⟨S_, .f32⟩
  | 113 => ⟨S8x2048x1024, .f32⟩
  | 114 => ⟨S8x2048x1024, .f32⟩
  | 115 => ⟨S_, .f32⟩
  | 116 => ⟨S8x2048x1024, .f32⟩
  | 117 => ⟨S8x2048x1024, .f32⟩
  | 118 => ⟨S8x2048x1024, .f32⟩
  | 119 => ⟨S8x2048x1024, .f32⟩
  | 120 => ⟨S8x2048x1024, .f32⟩
  | 121 => ⟨S8x2048x1024, .f32⟩
  | 122 => ⟨S_, .f32⟩
  | 123 => ⟨S8x2048x1024, .f32⟩
  | 124 => ⟨S8x2048x1024, .f32⟩
  | 125 => ⟨S_, .f32⟩
  | 126 => ⟨S8x2048x1024, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048x1024, .f32⟩
  | 6 => ⟨S8x2048x1024, .f32⟩
  | 7 => ⟨S_, .f32⟩
  | 8 => ⟨S8x2048x1024, .f32⟩
  | 9 => ⟨S8x2048x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S_, .f32⟩
  | 40 => ⟨S8x2048x1, .f32⟩
  | 41 => ⟨S8x2048x1, .f32⟩
  | 42 => ⟨S8x2048x1, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S8x2048x1024, .f32⟩
  | 58 => ⟨S8x2048x1024, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S8x2048x1024, .f32⟩
  | 75 => ⟨S8x128x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c : Ref sig .tc := ⟨.hbm, 122, rfl⟩
abbrev main_call0_v0 : Ref sig .tc := ⟨.hbm, 123, rfl⟩
abbrev main_v87 : Ref sig .tc := ⟨.hbm, 124, rfl⟩
abbrev main_v88 : Ref sig .tc := ⟨.hbm, 125, rfl⟩
abbrev main_call1_v0 : Ref sig .tc := ⟨.hbm, 126, rfl⟩
abbrev main_call1_c : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_cst : Ref sig .tc := ⟨.hbm, 133, rfl⟩
abbrev main_call1_v6 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_16 : Ref sig .tc := ⟨.hbm, 156, rfl⟩
abbrev main_v102 : Ref sig .tc := ⟨.hbm, 157, rfl⟩
abbrev main_call3_call0_cst : Ref sig .tc := ⟨.hbm, 158, rfl⟩
abbrev main_call3_call0_v0 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_17 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_c_18 : Ref sig .tc := ⟨.hbm, 169, rfl⟩
abbrev main_v111 : Ref sig .tc := ⟨.hbm, 170, rfl⟩
abbrev main_v112 : Ref sig .tc := ⟨.hbm, 171, rfl⟩
abbrev main_c_19 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_20 : Ref sig .tc := ⟨.hbm, 184, rfl⟩
abbrev main_v124 : Ref sig .tc := ⟨.hbm, 185, rfl⟩
abbrev main_v125 : Ref sig .tc := ⟨.hbm, 186, rfl⟩
abbrev main_c_21 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_22 : Ref sig .tc := ⟨.hbm, 199, rfl⟩
abbrev main_v137 : Ref sig .tc := ⟨.hbm, 200, rfl⟩
abbrev main_v138 : Ref sig .tc := ⟨.hbm, 201, rfl⟩
abbrev main_c_23 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_c_24 : Ref sig .tc := ⟨.hbm, 214, rfl⟩
abbrev main_v150 : Ref sig .tc := ⟨.hbm, 215, rfl⟩
abbrev main_v151 : Ref sig .tc := ⟨.hbm, 216, rfl⟩
abbrev main_c_25 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_call4_v0 : Ref sig .tc := ⟨.hbm, 238, rfl⟩
abbrev main_call4_v1 : Ref sig .tc := ⟨.hbm, 239, rfl⟩
abbrev main_call4_cst : Ref sig .tc := ⟨.hbm, 240, rfl⟩
abbrev main_call4_v2 : Ref sig .tc := ⟨.hbm, 241, rfl⟩
abbrev main_call4_v3 : Ref sig .tc := ⟨.hbm, 242, rfl⟩
abbrev main_call4_cst_0 : Ref sig .tc := ⟨.hbm, 243, rfl⟩
abbrev main_call4_v4 : Ref sig .tc := ⟨.hbm, 244, rfl⟩
abbrev main_call4_v5 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_26 : Ref sig .tc := ⟨.hbm, 250, rfl⟩
abbrev main_v176 : Ref sig .tc := ⟨.hbm, 251, rfl⟩
abbrev main_v177 : Ref sig .tc := ⟨.hbm, 252, rfl⟩
abbrev main_cst_27 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_cst_28 : Ref sig .tc := ⟨.hbm, 260, rfl⟩
abbrev main_v184 : Ref sig .tc := ⟨.hbm, 261, rfl⟩
abbrev main_v185 : Ref sig .tc := ⟨.hbm, 262, rfl⟩
abbrev main_cst_29 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_cst_30 : Ref sig .tc := ⟨.hbm, 271, rfl⟩
abbrev main_v193 : Ref sig .tc := ⟨.hbm, 272, rfl⟩
abbrev main_v194 : Ref sig .tc := ⟨.hbm, 273, rfl⟩
abbrev main_cst_31 : Ref sig .tc := ⟨.hbm, 274, rfl⟩
abbrev main_v195 : Ref sig .tc := ⟨.hbm, 275, rfl⟩
abbrev main_v196 : Ref sig .tc := ⟨.hbm, 276, rfl⟩
abbrev main_cst_32 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_33 : Ref sig .tc := ⟨.hbm, 289, rfl⟩
abbrev main_v208 : Ref sig .tc := ⟨.hbm, 290, rfl⟩
abbrev main_v209 : Ref sig .tc := ⟨.hbm, 291, rfl⟩
abbrev main_cst_34 : Ref sig .tc := ⟨.hbm, 292, rfl⟩
abbrev main_v210 : Ref sig .tc := ⟨.hbm, 293, rfl⟩
abbrev main_v211 : Ref sig .tc := ⟨.hbm, 294, rfl⟩
abbrev main_cst_35 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_cst_36 : Ref sig .tc := ⟨.hbm, 307, rfl⟩
abbrev main_v223 : Ref sig .tc := ⟨.hbm, 308, rfl⟩
abbrev main_v224 : Ref sig .tc := ⟨.hbm, 309, rfl⟩
abbrev main_cst_37 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_cst_38 : Ref sig .tc := ⟨.hbm, 315, rfl⟩
abbrev main_v229 : Ref sig .tc := ⟨.hbm, 316, rfl⟩
abbrev main_v230 : Ref sig .tc := ⟨.hbm, 317, rfl⟩
abbrev main_cst_39 : Ref sig .tc := ⟨.hbm, 318, rfl⟩
abbrev main_v231 : Ref sig .tc := ⟨.hbm, 319, rfl⟩
abbrev main_v232 : Ref sig .tc := ⟨.hbm, 320, rfl⟩
abbrev main_cst_40 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩

abbrev nD : Nat := 1
abbrev τ : Topo := Topo.v7x

variable {F : FTy → Type} [FloatOps F]
-- ==== Sample.lean ====
abbrev S128x1x1024 : Shape := ⟨3, ![128, 1, 1024]⟩
abbrev S1x128x15x1024 : Shape := ⟨4, ![1, 128, 15, 1024]⟩
abbrev S1x128x1x256 : Shape := ⟨4, ![1, 128, 1, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S8x1024 : Shape := ⟨2, ![8, 1024]⟩
abbrev S1024x7168 : Shape := ⟨2, ![1024, 7168]⟩
abbrev S8x128x128 : Shape := ⟨3, ![8, 128, 128]⟩
abbrev S8x128 : Shape := ⟨2, ![8, 128]⟩
abbrev S128x8 : Shape := ⟨2, ![128, 8]⟩
abbrev S4x256x256 : Shape := ⟨3, ![4, 256, 256]⟩
abbrev S1024x1024 : Shape := ⟨2, ![1024, 1024]⟩
abbrev S256x1024 : Shape := ⟨2, ![256, 1024]⟩
abbrev S128x1024 : Shape := ⟨2, ![128, 1024]⟩
abbrev S128x1x256 : Shape := ⟨3, ![128, 1, 256]⟩
abbrev S128x256 : Shape := ⟨2, ![128, 256]⟩
abbrev S128x15x1024 : Shape := ⟨3, ![128, 15, 1024]⟩
abbrev S128x15360 : Shape := ⟨2, ![128, 15360]⟩
abbrev S128 : Shape := ⟨1, ![128]⟩
abbrev S128x1 : Shape := ⟨2, ![128, 1]⟩
abbrev S1x1x1 : Shape := ⟨3, ![1, 1, 1]⟩
abbrev S1x1 : Shape := ⟨2, ![1, 1]⟩
abbrev S128x128 : Shape := ⟨2, ![128, 128]⟩
abbrev S128x14336 : Shape := ⟨2, ![128, 14336]⟩
abbrev S1x256x256 : Shape := ⟨3, ![1, 256, 256]⟩
abbrev S256x256 : Shape := ⟨2, ![256, 256]⟩

abbrev nBuf : Space → Nat
  | .hbm => 63
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S1x128x15x1024, .f32⟩
  | .hbm, ⟨2, _⟩ => ⟨S1x128x1x256, .f32⟩
  | .hbm, ⟨3, _⟩ => ⟨S1x1024, .f32⟩
  | .hbm, ⟨4, _⟩ => ⟨S1x1024x7168, .f32⟩
  | .hbm, ⟨5, _⟩ => ⟨S1x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S1x4x256x256, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024, .f32⟩
  | .hbm, ⟨15, _⟩ => ⟨S1x256x1024, .f32⟩
  | .hbm, ⟨16, _⟩ => ⟨S1x1024x1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S8x1024, .f32⟩
  | .hbm, ⟨38, _⟩ => ⟨S1024x7168, .f32⟩
  | .hbm, ⟨39, _⟩ => ⟨S1024x7168, .bf16⟩
  | .hbm, ⟨40, _⟩ => ⟨S8x128x128, .f32⟩
  | .hbm, ⟨41, _⟩ => ⟨S8x128, .f32⟩
  | .hbm, ⟨42, _⟩ => ⟨S128x8, .f32⟩
  | .hbm, ⟨43, _⟩ => ⟨S4x256x256, .f32⟩
  | .hbm, ⟨44, _⟩ => ⟨S4x256x256, .bf16⟩
  | .hbm, ⟨45, _⟩ => ⟨S1024x1024, .f32⟩
  | .hbm, ⟨46, _⟩ => ⟨S1024x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S256x1024, .f32⟩
  | .hbm, ⟨52, _⟩ => ⟨S256x1024, .bf16⟩
  | .hbm, ⟨53, _⟩ => ⟨S1024x1024, .f32⟩
  | .hbm, ⟨54, _⟩ => ⟨S1024x1024, .bf16⟩
  | .hbm, ⟨55, _⟩ => ⟨S128x1024, .f32⟩
  | .hbm, ⟨56, _⟩ => ⟨S128x1x256, .f32⟩
  | .hbm, ⟨57, _⟩ => ⟨S128x256, .f32⟩
  | .hbm, ⟨58, _⟩ => ⟨S128x15x1024, .f32⟩
  | .hbm, ⟨59, _⟩ => ⟨S128x15360, .f32⟩
  | .hbm, ⟨60, _⟩ => ⟨S128x1024, .f32⟩
  | .hbm, ⟨61, _⟩ => ⟨S128x1024, .f32⟩
  | .hbm, ⟨62, _⟩ => ⟨S128x15360, .f32⟩
  | .local _ .vmem, ⟨0, _⟩ => ⟨S128x1024, .f32⟩
  | .local _ .vmem, ⟨1, _⟩ => ⟨S128x256, .f32⟩
  | .local _ .vmem, ⟨2, _⟩ => ⟨S128x15360, .f32⟩
  | .local _ .vmem, ⟨3, _⟩ => ⟨S1024x7168, .bf16⟩
  | .local _ .vmem, ⟨4, _⟩ => ⟨S8x128x128, .f32⟩
  | .local _ .vmem, ⟨5, _⟩ => ⟨S128x8, .f32⟩
  | .local _ .vmem, ⟨6, _⟩ => ⟨S4x256x256, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S1024x1024, .bf16⟩
  | .local _ .vmem, ⟨12, _⟩ => ⟨S8x1024, .f32⟩
  | .local _ .vmem, ⟨13, _⟩ => ⟨S128x1024, .f32⟩
  | .local _ .vmem, ⟨14, _⟩ => ⟨S128x1024, .f32⟩
  | .local _ .vmem, ⟨15, _⟩ => ⟨S128x15360, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x15360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x15360 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== SampleReferenceIdeal.lean ====
abbrev S128x1x1024 : Shape := ⟨3, ![128, 1, 1024]⟩
abbrev S1x128x15x1024 : Shape := ⟨4, ![1, 128, 15, 1024]⟩
abbrev S1x128x1x256 : Shape := ⟨4, ![1, 128, 1, 256]⟩
abbrev S1x1024 : Shape := ⟨2, ![1, 1024]⟩
abbrev S1x1024x7168 : Shape := ⟨3, ![1, 1024, 7168]⟩
abbrev S1x8x128x128 : Shape := ⟨4, ![1, 8, 128, 128]⟩
abbrev S1x8x128 : Shape := ⟨3, ![1, 8, 128]⟩
abbrev S1x4x256x256 : Shape := ⟨4, ![1, 4, 256, 256]⟩
abbrev S1x1024x1024 : Shape := ⟨3, ![1, 1024, 1024]⟩
abbrev S1x256x1024 : Shape := ⟨3, ![1, 256, 1024]⟩
abbrev S1024 : Shape := ⟨1, ![1024]⟩
abbrev S1024x7168 : Shape := ⟨2, ![1024, 7168]⟩
abbrev S8x128x128 : Shape := ⟨3, ![8, 128, 128]⟩
abbrev S8x128 : Shape := ⟨2, ![8, 128]⟩
abbrev S4x256x256 : Shape := ⟨3, ![4, 256, 256]⟩
abbrev S1024x1024 : Shape := ⟨2, ![1024, 1024]⟩
abbrev S256x1024 : Shape := ⟨2, ![256, 1024]⟩
abbrev S128x1x256 : Shape := ⟨3, ![128, 1, 256]⟩
abbrev S128x15x1024 : Shape := ⟨3, ![128, 15, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x7168 : Shape := ⟨3, ![128, 1, 7168]⟩
abbrev S128x128x1024 : Shape := ⟨3, ![128, 128, 1024]⟩
abbrev S128x1x128x8x128 : Shape := ⟨5, ![128, 1, 128, 8, 128]⟩
abbrev S128x128 : Shape := ⟨2, ![128, 128]⟩
abbrev S8x128x1x128x128 : Shape := ⟨5, ![8, 128, 1, 128, 128]⟩
abbrev S128x8 : Shape := ⟨2, ![128, 8]⟩
abbrev S1x1x128x8x1 : Shape := ⟨5, ![1, 1, 128, 8, 1]⟩
abbrev S128x16x1024 : Shape := ⟨3, ![128, 16, 1024]⟩
abbrev S128x17x1024 : Shape := ⟨3, ![128, 17, 1024]⟩
abbrev S1 : Shape := ⟨1, ![1]⟩
abbrev S1x1x1 : Shape := ⟨3, ![1, 1, 1]⟩
abbrev S128x1x1x256 : Shape := ⟨4, ![128, 1, 1, 256]⟩
abbrev S128x1x4x256 : Shape := ⟨4, ![128, 1, 4, 256]⟩
abbrev S4x256x128x1 : Shape := ⟨4, ![4, 256, 128, 1]⟩
abbrev S128x1024 : Shape := ⟨2, ![128, 1024]⟩
abbrev S128x15360 : Shape := ⟨2, ![128, 15360]⟩

abbrev nBuf : Space → Nat
  | .hbm => 335
  | .vmem => 0
  | .smem => 0
  | _ => 0

abbrev hbmTy0_0 (i : Nat) : BufTy := match i % 128 with
  | 0 => ⟨S128x1x1024, .f32⟩
  | 1 => ⟨S1x128x15x1024, .f32⟩
  | 2 => ⟨S1x128x1x256, .f32⟩
  | 3 => ⟨S1x1024, .f32⟩
  | 4 => ⟨S1x1024x7168, .f32⟩
  | 5 => ⟨S1x1024, .f32⟩
  | 6 => ⟨S1x1024, .f32⟩
  | 7 => ⟨S1x8x128x128, .f32⟩
  | 8 => ⟨S1x8x128, .f32⟩
  | 9 => ⟨S1x4x256x256, .f32⟩
  | 10 => ⟨S1x1024, .f32⟩
  | 11 => ⟨S1x1024x1024, .f32⟩
  | 12 => ⟨S1x1024x1024, .f32⟩
  | 13 => ⟨S1x1024x1024, .f32⟩
  | 14 => ⟨S1x1024, .f32⟩
  | 15 => ⟨S1x256x1024, .f32⟩
  | 16 => ⟨S1x1024x1024, .f32⟩
  | 17 => ⟨S1x1024, .f32⟩
  | 18 => ⟨S1x1024, .f32⟩
  | 19 => ⟨S1024, .f32⟩
  | 20 => ⟨S1024x7168, .f32⟩
  | 21 => ⟨S1024, .f32⟩
  | 22 => ⟨S1024, .f32⟩
  | 23 => ⟨S8x128x128, .f32⟩
  | 24 => ⟨S8x128, .f32⟩
  | 25 => ⟨S4x256x256, .f32⟩
  | 26 => ⟨S1024, .f32⟩
  | 27 => ⟨S1024x1024, .f32⟩
  | 28 => ⟨S1024x1024, .f32⟩
  | 29 => ⟨S1024x1024, .f32⟩
  | 30 => ⟨S1024, .f32⟩
  | 31 => ⟨S256x1024, .f32⟩
  | 32 => ⟨S1024x1024, .f32⟩
  | 33 => ⟨S1024, .f32⟩
  | 34 => ⟨S1024, .f32⟩
  | 35 => ⟨S128x1x256, .f32⟩
  | 36 => ⟨S128x15x1024, .f32⟩
  | 37 => ⟨S128x1x1024, .f32⟩
  | 38 => ⟨S_, .f32⟩
  | 39 => ⟨S128x1, .f32⟩
  | 40 => ⟨S128x1x1, .f32⟩
  | 41 => ⟨S_, .f32⟩
  | 42 => ⟨S128x1x1, .f32⟩
  | 43 => ⟨S128x1x1, .f32⟩
  | 44 => ⟨S_, .f32⟩
  | 45 => ⟨S128x1x1, .f32⟩
  | 46 => ⟨S128x1x1, .f32⟩
  | 47 => ⟨S128x1x1, .f32⟩
  | 48 => ⟨S128x1x1024, .f32⟩
  | 49 => ⟨S128x1x1024, .f32⟩
  | 50 => ⟨S1x1x1024, .f32⟩
  | 51 => ⟨S128x1x1024, .f32⟩
  | 52 => ⟨S128x1x1024, .f32⟩
  | 53 => ⟨S128x1x7168, .f32⟩
  | 54 => ⟨S128x1x1024, .f32⟩
  | 55 => ⟨S128x1x1024, .f32⟩
  | 56 => ⟨S128x1x1024, .f32⟩
  | 57 => ⟨S128x1x1024, .f32⟩
  | 58 => ⟨S128x1x1024, .f32⟩
  | 59 => ⟨S128x1x1024, .f32⟩
  | 60 => ⟨S128x1x1024, .f32⟩
  | 61 => ⟨S128x1x1024, .f32⟩
  | 62 => ⟨S128x1x1024, .f32⟩
  | 63 => ⟨S_, .f32⟩
  | 64 => ⟨S128x1x1024, .f32⟩
  | 65 => ⟨S128x1x1024, .f32⟩
  | 66 => ⟨S128x1x1024, .f32⟩
  | 67 => ⟨S_, .f32⟩
  | 68 => ⟨S128x1x1024, .f32⟩
  | 69 => ⟨S128x1x1024, .f32⟩
  | 70 => ⟨S128x1x1024, .f32⟩
  | 71 => ⟨S_, .f32⟩
  | 72 => ⟨S128x1x1024, .f32⟩
  | 73 => ⟨S128x1x1024, .f32⟩
  | 74 => ⟨S_, .f32⟩
  | 75 => ⟨S128x1x1024, .f32⟩
  | 76 => ⟨S128x1x1024, .f32⟩
  | 77 => ⟨S128x1x1024, .f32⟩
  | 78 => ⟨S128x1x1024, .f32⟩
  | 79 => ⟨S128x1x1024, .f32⟩
  | 80 => ⟨S_, .f32⟩
  | 81 => ⟨S128x1x1024, .f32⟩
  | 82 => ⟨S128x1x1024, .f32⟩
  | 83 => ⟨S128x1x1024, .f32⟩
  | 84 => ⟨S_, .f32⟩
  | 85 => ⟨S128x1x1024, .f32⟩
  | 86 => ⟨S128x1x1024, .f32⟩
  | 87 => ⟨S128x1x1024, .f32⟩
  | 88 => ⟨S_, .f32⟩
  | 89 => ⟨S128x1x1024, .f32⟩
  | 90 => ⟨S128x1x1024, .f32⟩
  | 91 => ⟨S_, .f32⟩
  | 92 => ⟨S128x1x1024, .f32⟩
  | 93 => ⟨S128x1x1024, .f32⟩
  | 94 => ⟨S128x1x1024, .f32⟩
  | 95 => ⟨S_, .f32⟩
  | 96 => ⟨S128x1, .f32⟩
  | 97 => ⟨S128x1x1, .f32⟩
  | 98 => ⟨S_, .f32⟩
  | 99 => ⟨S128x1x1, .f32⟩
  | 100 => ⟨S128x1x1, .f32⟩
  | 101 => ⟨S128x1x1024, .f32⟩
  | 102 => ⟨S128x1x1024, .f32⟩
  | 103 => ⟨S128x1x1024, .f32⟩
  | 104 => ⟨S_, .f32⟩
  | 105 => ⟨S128x1, .f32⟩
  | 106 => ⟨S128x1x1, .f32⟩
  | 107 => ⟨S_, .f32⟩
  | 108 => ⟨S128x1x1, .f32⟩
  | 109 => ⟨S128x1x1, .f32⟩
  | 110 => ⟨S_, .f32⟩
  | 111 => ⟨S128x1x1, .f32⟩
  | 112 => ⟨S128x1x1, .f32⟩
  | 113 => ⟨S128x1x1, .f32⟩
  | 114 => ⟨S128x1x1024, .f32⟩
  | 115 => ⟨S128x1x1024, .f32⟩
  | 116 => ⟨S1x1x1024, .f32⟩
  | 117 => ⟨S128x1x1024, .f32⟩
  | 118 => ⟨S128x1x1024, .f32⟩
  | 119 => ⟨S1x1x1024, .f32⟩
  | 120 => ⟨S128x1x1024, .f32⟩
  | 121 => ⟨S128x1x1024, .f32⟩
  | 122 => ⟨S_, .i32⟩
  | 123 => ⟨S_, .f32⟩
  | 124 => ⟨S128x128x1024, .f32⟩
  | 125 => ⟨S128x1x128x8x128, .f32⟩
  | 126 => ⟨S128x128, .i32⟩
  | 127 => ⟨S_, .i32⟩
  | _ => ⟨S128x1x1024, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i1⟩
  | 4 => ⟨S8x128x128, .i1⟩
  | 5 => ⟨S_, .f32⟩
  | 6 => ⟨S8x128x128, .f32⟩
  | 7 => ⟨S8x128x128, .f32⟩
  | 8 => ⟨S8x128x1x128x128, .f32⟩
  | 9 => ⟨S128x1x128x8x128, .f32⟩
  | 10 => ⟨S128x8, .f32⟩
  | 11 => ⟨S1x1x128x8x1, .f32⟩
  | 12 => ⟨S128x1x128x8x128, .f32⟩
  | 13 => ⟨S128x1x128x8x128, .f32⟩
  | 14 => ⟨S128x128x1024, .f32⟩
  | 15 => ⟨S128x1x1024, .f32⟩
  | 16 => ⟨S128x1x1024, .f32⟩
  | 17 => ⟨S128x1x1024, .f32⟩
  | 18 => ⟨S128x1x1024, .f32⟩
  | 19 => ⟨S_, .f32⟩
  | 20 => ⟨S128x1x1024, .f32⟩
  | 21 => ⟨S128x1x1024, .f32⟩
  | 22 => ⟨S_, .f32⟩
  | 23 => ⟨S128x1x1024, .f32⟩
  | 24 => ⟨S128x1x1024, .f32⟩
  | 25 => ⟨S128x1x1024, .f32⟩
  | 26 => ⟨S128x1x1024, .f32⟩
  | 27 => ⟨S128x16x1024, .f32⟩
  | 28 => ⟨S128x1x1024, .f32⟩
  | 29 => ⟨S_, .f32⟩
  | 30 => ⟨S128x1x1024, .f32⟩
  | 31 => ⟨S_, .f32⟩
  | 32 => ⟨S_, .f32⟩
  | 33 => ⟨S128x16x1024, .f32⟩
  | 34 => ⟨S128x17x1024, .f32⟩
  | 35 => ⟨S1, .i32⟩
  | 36 => ⟨S_, .i32⟩
  | 37 => ⟨S1, .i32⟩
  | 38 => ⟨S1, .i32⟩
  | 39 => ⟨S128x1x256, .f32⟩
  | 40 => ⟨S128x1x256, .f32⟩
  | 41 => ⟨S128x1x256, .f32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .f32⟩
  | 49 => ⟨S1x1x1, .f32⟩
  | 50 => ⟨S128x1x256, .f32⟩
  | 51 => ⟨S128x1x256, .f32⟩
  | 52 => ⟨S128x1x256, .f32⟩
  | 53 => ⟨S128x1x256, .f32⟩
  | 54 => ⟨S128x1x256, .f32⟩
  | 55 => ⟨S128x1x256, .f32⟩
  | 56 => ⟨S128x1x256, .f32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .f32⟩
  | 64 => ⟨S1x1x1, .f32⟩
  | 65 => ⟨S128x1x256, .f32⟩
  | 66 => ⟨S128x1x256, .f32⟩
  | 67 => ⟨S128x1x256, .f32⟩
  | 68 => ⟨S128x1x256, .f32⟩
  | 69 => ⟨S128x1x256, .f32⟩
  | 70 => ⟨S128x1x256, .f32⟩
  | 71 => ⟨S128x1x256, .f32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .f32⟩
  | 79 => ⟨S1x1x1, .f32⟩
  | 80 => ⟨S128x1x256, .f32⟩
  | 81 => ⟨S128x1x256, .f32⟩
  | 82 => ⟨S128x1x256, .f32⟩
  | 83 => ⟨S128x1x256, .f32⟩
  | 84 => ⟨S128x1x256, .f32⟩
  | 85 => ⟨S128x1x256, .f32⟩
  | 86 => ⟨S128x1x256, .f32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .f32⟩
  | 94 => ⟨S1x1x1, .f32⟩
  | 95 => ⟨S128x1x256, .f32⟩
  | 96 => ⟨S128x1x256, .f32⟩
  | 97 => ⟨S128x1x256, .f32⟩
  | 98 => ⟨S128x1x256, .f32⟩
  | 99 => ⟨S128x1x1x256, .f32⟩
  | 100 => ⟨S128x1x1x256, .f32⟩
  | 101 => ⟨S128x1x1x256, .f32⟩
  | 102 => ⟨S128x1x1x256, .f32⟩
  | 103 => ⟨S128x1x4x256, .f32⟩
  | 104 => ⟨S4x256x128x1, .f32⟩
  | 105 => ⟨S128x1x4x256, .f32⟩
  | 106 => ⟨S128x1x1024, .f32⟩
  | 107 => ⟨S1x1x1024, .f32⟩
  | 108 => ⟨S128x1x1024, .f32⟩
  | 109 => ⟨S128x1x1024, .f32⟩
  | 110 => ⟨S128x15x1024, .f32⟩
  | 111 => ⟨S128x1x1024, .f32⟩
  | 112 => ⟨S128x1x1024, .f32⟩
  | 113 => ⟨S_, .f32⟩
  | 114 => ⟨S128x1x1024, .f32⟩
  | 115 => ⟨S128x1x1024, .f32⟩
  | 116 => ⟨S_, .f32⟩
  | 117 => ⟨S128x1x1024, .f32⟩
  | 118 => ⟨S128x1x1024, .f32⟩
  | 119 => ⟨S128x1x1024, .f32⟩
  | 120 => ⟨S128x1x1024, .f32⟩
  | 121 => ⟨S128x1x1024, .f32⟩
  | 122 => ⟨S128x1x1024, .f32⟩
  | 123 => ⟨S_, .f32⟩
  | 124 => ⟨S128x1x1024, .f32⟩
  | 125 => ⟨S128x1x1024, .f32⟩
  | 126 => ⟨S_, .f32⟩
  | 127 => ⟨S128x1x1024, .f32⟩
  | _ => ⟨S128x1x1024, .f32⟩

abbrev hbmTy0_2 (i : Nat) : BufTy := match i % 128 with
  | 0 => ⟨S128x1x1024, .f32⟩
  | 1 => ⟨S128x1x1024, .f32⟩
  | 2 => ⟨S128x1x1024, .f32⟩
  | 3 => ⟨S128x1x1024, .f32⟩
  | 4 => ⟨S128x1x1024, .f32⟩
  | 5 => ⟨S_, .f32⟩
  | 6 => ⟨S128x1x1024, .f32⟩
  | 7 => ⟨S128x1x1024, .f32⟩
  | 8 => ⟨S_, .f32⟩
  | 9 => ⟨S128x1x1024, .f32⟩
  | 10 => ⟨S128x1x1024, .f32⟩
  | 11 => ⟨S128x1x1024, .f32⟩
  | 12 => ⟨S128x1x1024, .f32⟩
  | 13 => ⟨S128x1x1024, .f32⟩
  | 14 => ⟨S128x1x1024, .f32⟩
  | 15 => ⟨S128x1x1024, .f32⟩
  | 16 => ⟨S_, .f32⟩
  | 17 => ⟨S128x1, .f32⟩
  | 18 => ⟨S128x1x1, .f32⟩
  | 19 => ⟨S_, .f32⟩
  | 20 => ⟨S128x1x1, .f32⟩
  | 21 => ⟨S128x1x1, .f32⟩
  | 22 => ⟨S_, .f32⟩
  | 23 => ⟨S128x1x1, .f32⟩
  | 24 => ⟨S128x1x1, .f32⟩
  | 25 => ⟨S128x1x1, .f32⟩
  | 26 => ⟨S128x1x1024, .f32⟩
  | 27 => ⟨S128x1x1024, .f32⟩
  | 28 => ⟨S1x1x1024, .f32⟩
  | 29 => ⟨S128x1x1024, .f32⟩
  | 30 => ⟨S128x1x1024, .f32⟩
  | 31 => ⟨S128x1x1024, .f32⟩
  | 32 => ⟨S128x1x1024, .f32⟩
  | 33 => ⟨S128x1x1024, .f32⟩
  | 34 => ⟨S_, .f32⟩
  | 35 => ⟨S128x1, .f32⟩
  | 36 => ⟨S128x1x1, .f32⟩
  | 37 => ⟨S_, .f32⟩
  | 38 => ⟨S128x1x1, .f32⟩
  | 39 => ⟨S128x1x1, .f32⟩
  | 40 => ⟨S_, .f32⟩
  | 41 => ⟨S128x1x1, .f32⟩
  | 42 => ⟨S128x1x1, .f32⟩
  | 43 => ⟨S128x1x1, .f32⟩
  | 44 => ⟨S128x1x1024, .f32⟩
  | 45 => ⟨S128x1x1024, .f32⟩
  | 46 => ⟨S1x1x1024, .f32⟩
  | 47 => ⟨S128x1x1024, .f32⟩
  | 48 => ⟨S128x1x1024, .f32⟩
  | 49 => ⟨S128x1x1024, .f32⟩
  | 50 => ⟨S128x1x1024, .f32⟩
  | 51 => ⟨S128x1x1024, .f32⟩
  | 52 => ⟨S_, .f32⟩
  | 53 => ⟨S128x1x1024, .f32⟩
  | 54 => ⟨S128x1x1024, .f32⟩
  | 55 => ⟨S_, .f32⟩
  | 56 => ⟨S128x1x1024, .f32⟩
  | 57 => ⟨S128x1x1024, .f32⟩
  | 58 => ⟨S128x1x1024, .f32⟩
  | 59 => ⟨S128x1x1024, .f32⟩
  | 60 => ⟨S_, .f32⟩
  | 61 => ⟨S128x1, .f32⟩
  | 62 => ⟨S128x1x1, .f32⟩
  | 63 => ⟨S_, .f32⟩
  | 64 => ⟨S128x1x1, .f32⟩
  | 65 => ⟨S128x1x1, .f32⟩
  | 66 => ⟨S_, .f32⟩
  | 67 => ⟨S128x1x1, .f32⟩
  | 68 => ⟨S128x1x1, .f32⟩
  | 69 => ⟨S128x1x1, .f32⟩
  | 70 => ⟨S128x1x1024, .f32⟩
  | 71 => ⟨S128x1x1024, .f32⟩
  | 72 => ⟨S1x1x1024, .f32⟩
  | 73 => ⟨S128x1x1024, .f32⟩
  | 74 => ⟨S128x1x1024, .f32⟩
  | 75 => ⟨S128x1x1024, .f32⟩
  | 76 => ⟨S128x1024, .f32⟩
  | 77 => ⟨S128x1024, .f32⟩
  | 78 => ⟨S128x15360, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c : Ref sig .tc := ⟨.hbm, 122, rfl⟩
abbrev main_call0_v0 : Ref sig .tc := ⟨.hbm, 123, rfl⟩
abbrev main_v87 : Ref sig .tc := ⟨.hbm, 124, rfl⟩
abbrev main_v88 : Ref sig .tc := ⟨.hbm, 125, rfl⟩
abbrev main_call1_v0 : Ref sig .tc := ⟨.hbm, 126, rfl⟩
abbrev main_call1_c : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_cst : Ref sig .tc := ⟨.hbm, 133, rfl⟩
abbrev main_call1_v6 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call2_v0 : Ref sig .tc := ⟨.hbm, 145, rfl⟩
abbrev main_call2_v1 : Ref sig .tc := ⟨.hbm, 146, rfl⟩
abbrev main_call2_cst : Ref sig .tc := ⟨.hbm, 147, rfl⟩
abbrev main_call2_v2 : Ref sig .tc := ⟨.hbm, 148, rfl⟩
abbrev main_call2_v3 : Ref sig .tc := ⟨.hbm, 149, rfl⟩
abbrev main_call2_cst_0 : Ref sig .tc := ⟨.hbm, 150, rfl⟩
abbrev main_call2_v4 : Ref sig .tc := ⟨.hbm, 151, rfl⟩
abbrev main_call2_v5 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_15 : Ref sig .tc := ⟨.hbm, 157, rfl⟩
abbrev main_v103 : Ref sig .tc := ⟨.hbm, 158, rfl⟩
abbrev main_call3_call0_cst : Ref sig .tc := ⟨.hbm, 159, rfl⟩
abbrev main_call3_call0_v0 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_16 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_c_17 : Ref sig .tc := ⟨.hbm, 170, rfl⟩
abbrev main_v112 : Ref sig .tc := ⟨.hbm, 171, rfl⟩
abbrev main_v113 : Ref sig .tc := ⟨.hbm, 172, rfl⟩
abbrev main_c_18 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_c_19 : Ref sig .tc := ⟨.hbm, 185, rfl⟩
abbrev main_v125 : Ref sig .tc := ⟨.hbm, 186, rfl⟩
abbrev main_v126 : Ref sig .tc := ⟨.hbm, 187, rfl⟩
abbrev main_c_20 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_c_21 : Ref sig .tc := ⟨.hbm, 200, rfl⟩
abbrev main_v138 : Ref sig .tc := ⟨.hbm, 201, rfl⟩
abbrev main_v139 : Ref sig .tc := ⟨.hbm, 202, rfl⟩
abbrev main_c_22 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_c_23 : Ref sig .tc := ⟨.hbm, 215, rfl⟩
abbrev main_v151 : Ref sig .tc := ⟨.hbm, 216, rfl⟩
abbrev main_v152 : Ref sig .tc := ⟨.hbm, 217, rfl⟩
abbrev main_c_24 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_call4_v0 : Ref sig .tc := ⟨.hbm, 239, rfl⟩
abbrev main_call4_v1 : Ref sig .tc := ⟨.hbm, 240, rfl⟩
abbrev main_call4_cst : Ref sig .tc := ⟨.hbm, 241, rfl⟩
abbrev main_call4_v2 : Ref sig .tc := ⟨.hbm, 242, rfl⟩
abbrev main_call4_v3 : Ref sig .tc := ⟨.hbm, 243, rfl⟩
abbrev main_call4_cst_0 : Ref sig .tc := ⟨.hbm, 244, rfl⟩
abbrev main_call4_v4 : Ref sig .tc := ⟨.hbm, 245, rfl⟩
abbrev main_call4_v5 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_cst_25 : Ref sig .tc := ⟨.hbm, 251, rfl⟩
abbrev main_v177 : Ref sig .tc := ⟨.hbm, 252, rfl⟩
abbrev main_v178 : Ref sig .tc := ⟨.hbm, 253, rfl⟩
abbrev main_cst_26 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_cst_27 : Ref sig .tc := ⟨.hbm, 261, rfl⟩
abbrev main_v185 : Ref sig .tc := ⟨.hbm, 262, rfl⟩
abbrev main_v186 : Ref sig .tc := ⟨.hbm, 263, rfl⟩
abbrev main_cst_28 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_cst_29 : Ref sig .tc := ⟨.hbm, 272, rfl⟩
abbrev main_v194 : Ref sig .tc := ⟨.hbm, 273, rfl⟩
abbrev main_v195 : Ref sig .tc := ⟨.hbm, 274, rfl⟩
abbrev main_cst_30 : Ref sig .tc := ⟨.hbm, 275, rfl⟩
abbrev main_v196 : Ref sig .tc := ⟨.hbm, 276, rfl⟩
abbrev main_v197 : Ref sig .tc := ⟨.hbm, 277, rfl⟩
abbrev main_cst_31 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_cst_32 : Ref sig .tc := ⟨.hbm, 290, rfl⟩
abbrev main_v209 : Ref sig .tc := ⟨.hbm, 291, rfl⟩
abbrev main_v210 : Ref sig .tc := ⟨.hbm, 292, rfl⟩
abbrev main_cst_33 : Ref sig .tc := ⟨.hbm, 293, rfl⟩
abbrev main_v211 : Ref sig .tc := ⟨.hbm, 294, rfl⟩
abbrev main_v212 : Ref sig .tc := ⟨.hbm, 295, rfl⟩
abbrev main_cst_34 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_cst_35 : Ref sig .tc := ⟨.hbm, 308, rfl⟩
abbrev main_v224 : Ref sig .tc := ⟨.hbm, 309, rfl⟩
abbrev main_v225 : Ref sig .tc := ⟨.hbm, 310, rfl⟩
abbrev main_cst_36 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_37 : Ref sig .tc := ⟨.hbm, 316, rfl⟩
abbrev main_v230 : Ref sig .tc := ⟨.hbm, 317, rfl⟩
abbrev main_v231 : Ref sig .tc := ⟨.hbm, 318, rfl⟩
abbrev main_cst_38 : Ref sig .tc := ⟨.hbm, 319, rfl⟩
abbrev main_v232 : Ref sig .tc := ⟨.hbm, 320, rfl⟩
abbrev main_v233 : Ref sig .tc := ⟨.hbm, 321, rfl⟩
abbrev main_cst_39 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩

abbrev nD : Nat := 1
abbrev τ : Topo := Topo.v7x

variable {F : FTy → Type} [FloatOps F]
-- ==== Proof.Rows.lean ====
/-
  The layer of one row, over the extended reals: the functions that both programs' results are read as.
  A row of `n` numbers is a function on `Fin n`. The constants are the printed words, left unread but for
  one and zero, which are written as numbers.
-/
module

public import Idealize.ShloMosaic.Lib.Pointwise

@[expose] public section

noncomputable section

namespace Cert.Layer

open Idealize.ShloMosaic
open scoped BigOperators

/-- A row of `n` numbers. -/
local notation "Row" n => Fin n → EReal

/-- The number 1024 as the programs print it. -/
def kN : EReal := Ideal.ofBits .f32 0x44800000#32
/-- The number added under the root. -/
def kEps : EReal := Ideal.ofBits .f32 0x358637BD#32
/-- The cubic coefficient of the activation. -/
def kCube : EReal := Ideal.ofBits .f32 0x3D372713#32
/-- The scale inside the activation's hyperbolic tangent. -/
def kRoot : EReal := Ideal.ofBits .f32 0x3F4C422A#32
/-- One half. -/
def kHalf : EReal := Ideal.ofBits .f32 0x3F000000#32

/-- The root-mean-square norm of a row, scaled. -/
def rms (x g : Row 1024) : Row 1024 := fun j =>
  x j * Ideal.rsqrt (Ideal.div (∑ k : Fin 1024, x k * x k) kN + kEps) * g j

/-- A row times a matrix. -/
def lin {n m : ℕ} (x : Row n) (w : Fin n → Fin m → EReal) : Row m := fun j => ∑ k : Fin n, x k * w k j

/-- The smooth activation, in the reference's order of products. -/
def gelu (x : EReal) : EReal := x * (kHalf * (1 + Ideal.tanh (kRoot * (x + kCube * (x * x * x)))))

/-- The logistic function, as a quotient. -/
def sig (x : EReal) : EReal := Ideal.div 1 (1 + Ideal.exp (-x))

/-- A number times its logistic. -/
def silu (x : EReal) : EReal := x * sig x

/-- A row less its mean. -/
def cent (x : Row 1024) : Row 1024 := fun j => x j - Ideal.div (∑ k : Fin 1024, x k) kN

/-- The mean-and-variance norm of a row, scaled and shifted. -/
def lnorm (x g b : Row 1024) : Row 1024 := fun j =>
  cent x j * Ideal.rsqrt (Ideal.div (∑ k : Fin 1024, cent x k * cent x k) kN + kEps) * g j + b j

/-- The layer's weights, by coordinates. -/
structure Par where
  /-- scale of the first norm -/
  preG : Row 1024
  /-- the input projection, all its columns -/
  wIn : Fin 1024 → Fin 7168 → EReal
  /-- scale of the gate's norm -/
  lnG : Row 1024
  /-- shift of the gate's norm -/
  lnB : Row 1024
  /-- the spatial mix of each head -/
  wS : Fin 8 → Fin 128 → Fin 128 → EReal
  /-- the spatial shift of each head -/
  bS : Fin 8 → Fin 128 → EReal
  /-- the mix of each pooled group -/
  wPool : Fin 4 → Fin 256 → Fin 256 → EReal
  /-- scale of the pooled mix -/
  poolScale : Row 1024
  /-- merge of the first branch -/
  wPa : Fin 1024 → Fin 1024 → EReal
  /-- merge of the second branch -/
  wPb : Fin 1024 → Fin 1024 → EReal
  /-- the output projection -/
  wOut : Fin 1024 → Fin 1024 → EReal
  /-- scale of the norm after it -/
  postG : Row 1024
  /-- the embedding's projection -/
  wPle : Fin 256 → Fin 1024 → EReal
  /-- the embedding's gate -/
  wPg : Fin 1024 → Fin 1024 → EReal
  /-- scale of the gate's input norm -/
  pleInG : Row 1024
  /-- scale of the embedding's norm -/
  pleOutG : Row 1024

namespace Par
variable (P : Par)

/-- The 1024 columns of the input projection from column `o` on. -/
def cols (o : ℕ) (ho : o + 1024 ≤ 7168) : Fin 1024 → Fin 1024 → EReal := fun k j => P.wIn k ⟨o + j.val, by omega⟩

/-- One part of the projection of a row's norm. -/
def part (o : ℕ) (ho : o + 1024 ≤ 7168) (x : Row 1024) : Row 1024 := lin (rms x P.preG) (P.cols o ho)

/-- The value row: the gate's norm of the activated second part. -/
def vn (x : Row 1024) : Row 1024 := lnorm (fun d => gelu (P.part 1024 (by norm_num) x d)) P.lnG P.lnB

/-- The pooling input. -/
def xb (x : Row 1024) : Row 1024 := P.part 3072 (by norm_num) x

/-- The spatial mix at row `r` of a chunk whose value rows are `v`. -/
def mix (v : Fin 128 → Row 1024) (r : Fin 128) : Row 1024 := fun d =>
  (∑ t : Fin 128, (if t.val ≤ r.val then P.wS ⟨d.val / 128, by omega⟩ r t else 0) * v t d) + P.bS ⟨d.val / 128, by omega⟩ r

/-- The first branch. -/
def ya (x s : Row 1024) : Row 1024 := fun d =>
  gelu (P.part 0 (by norm_num) x d) * s d * silu (P.part 2048 (by norm_num) x d)

/-- The mix of the four pooled groups. -/
def pmix (q : Row 1024) : Row 1024 := fun d =>
  ∑ k : Fin 256, q ⟨256 * (d.val / 256) + k.val, by omega⟩ * P.wPool ⟨d.val / 256, by omega⟩ k ⟨d.val % 256, by omega⟩

/-- The second branch. -/
def yb (x q : Row 1024) : Row 1024 := fun d =>
  P.pmix q d * P.poolScale d * silu (P.part 4096 (by norm_num) x d)

/-- The two branches merged. -/
def merged (x s q : Row 1024) : Row 1024 := fun d =>
  sig (P.part 5120 (by norm_num) x d) * lin (P.ya x s) P.wPa d
    + sig (P.part 6144 (by norm_num) x d) * lin (P.yb x q) P.wPb d

/-- The row after the output projection, its norm and the residual sum. -/
def hid (x s q : Row 1024) : Row 1024 := fun d => x d + rms (lin (P.merged x s q) P.wOut) P.postG d

/-- The gated embedding of a row. -/
def emb (h : Row 1024) (p : Row 256) : Row 1024 := fun d =>
  sig (lin (rms h P.pleInG) P.wPg d) * lin p P.wPle d

/-- The layer's output row. -/
def out (x s q : Row 1024) (p : Row 256) : Row 1024 := fun d =>
  P.hid x s q d + rms (P.emb (P.hid x s q) p) P.pleOutG d

end Par

/-- How many rows a window of `w` holds at row `l`, as the programs count it. -/
def cnt (l : BitVec 32) (w : BitVec 32) : EReal := ((((IntOp.minsi (l + 1#32) w).toInt : ℤ) : ℝ) : EReal)

/-- The window of width `w` that ends at row `n` of a sequence of rows, summed. -/
def win (E : ℕ → Row 1024) (n w : ℕ) (d : Fin 1024) : EReal := ∑ j ∈ Finset.range w, E (n - j) d

/-- The window width of the group of column `d`. -/
def wid (d : Fin 1024) : ℕ := 2 ^ (d.val / 256 + 1)

/-- The pooled row: the mean of the trailing window less the row itself. -/
def pooled (E : ℕ → Row 1024) (n : ℕ) (l : BitVec 32) : Row 1024 := fun d =>
  Ideal.div (win E n (wid d) d) (cnt l (BitVec.ofNat 32 (wid d))) - E n d

end Cert.Layer

end
-- ==== Proof.Seq.lean ====
/-
  The layer over a sequence: what each row of the three results is, by the layer's row functions.
-/
module

public import proofs.«01_k».proof.Proof.Rows

@[expose] public section

noncomputable section

namespace Cert.Layer

open Idealize.ShloMosaic
open scoped BigOperators

variable (P : Par) (x : Fin 2048 → Fin 1024 → EReal)

/-- The pooling inputs of a sequence under sixteen rows of zeros. -/
def seqE (n : ℕ) : Fin 1024 → EReal := fun d =>
  if n < 16 then 0 else if h : n - 16 < 2048 then P.xb (x ⟨n - 16, h⟩) d else 0

theorem seqE_low {n : ℕ} (h : n < 16) (d : Fin 1024) : seqE P x n d = 0 := if_pos h

theorem seqE_row {n : ℕ} (l : Fin 2048) (h : n = l.val + 16) (d : Fin 1024) : seqE P x n d = P.xb (x l) d := by
  subst h
  have hl := l.isLt
  unfold seqE
  rw [if_neg (by omega), dif_pos (by omega)]
  congr 3

/-- The spatial mix at row `l` of a sequence, over the value rows of its chunk of 128. -/
def seqMix (l : Fin 2048) : Fin 1024 → EReal :=
  P.mix (fun t => P.vn (x ⟨128 * (l.val / 128) + t.val, by omega⟩)) ⟨l.val % 128, by omega⟩

/-- The pooled row `l` of a sequence. -/
def seqPooled (l : Fin 2048) : Fin 1024 → EReal := pooled (seqE P x) (l.val + 16) (BitVec.ofNat 32 l.val)

/-- Row `l` of the layer's output. -/
def seqOut (p : Fin 2048 → Fin 256 → EReal) (l : Fin 2048) : Fin 1024 → EReal :=
  P.out (x l) (seqMix P x l) (seqPooled P x l) (p l)

end Cert.Layer

end
-- ==== Proof.Congr.lean ====
/-
  The row functions of equal rows are equal.
-/
module

public import proofs.«01_k».proof.Proof.Rows

@[expose] public section

namespace Cert.Layer

/-- The norm of equal rows. -/
theorem rms_congr {x y g h : Fin 1024 → EReal} (e : ∀ k, x k = y k) (f : ∀ k, g k = h k) (d : Fin 1024) : rms x g d = rms y h d := by
  rw [funext e, funext f]

/-- Products with equal matrices. -/
theorem lin_congr {n m : ℕ} {x y : Fin n → EReal} {w v : Fin n → Fin m → EReal} (e : ∀ k, x k = y k) (f : ∀ k d, w k d = v k d) (d : Fin m) :
    lin x w d = lin y v d := by
  rw [funext e, funext fun k => funext (f k)]

/-- The norm of equal rows, with its mean. -/
theorem lnorm_congr {x y g h b c : Fin 1024 → EReal} (e : ∀ k, x k = y k) (f : ∀ k, g k = h k) (f' : ∀ k, b k = c k) (d : Fin 1024) :
    lnorm x g b d = lnorm y h c d := by
  rw [funext e, funext f, funext f']

end Cert.Layer
-- ==== Proof.Scalars.lean ====
/-
  The two spellings of the activation and of the logistic function agree at every extended real.
-/
module

public import proofs.«01_k».proof.Proof.Rows

@[expose] public section

noncomputable section

namespace Cert.Layer

open Idealize.ShloMosaic

/-- The printed word of one half is one half. -/
theorem kHalf_eq : kHalf = ((1 / 2 : ℝ) : EReal) := by
  unfold kHalf; simp [Ideal.ofBits, Ideal.ieee, -EReal.coe_mul]; norm_num

/-- The activation with the half multiplied in first. -/
theorem gelu_half_first (x : EReal) :
    kHalf * x * (1 + Ideal.tanh (kRoot * (x + kCube * (x * x * x)))) = gelu x := by
  unfold gelu; rw [mul_comm kHalf x, mul_assoc]

/-- The logistic function by the hyperbolic tangent of the half. -/
theorem sig_tanh (x : EReal) : kHalf * Ideal.tanh (kHalf * x) + kHalf = sig x := by
  unfold sig
  rw [kHalf_eq]
  induction x with
  | bot =>
    rw [EReal.coe_mul_bot_of_pos (by norm_num : (0 : ℝ) < 1 / 2)]
    show ((1 / 2 : ℝ) : EReal) * (-1) + ((1 / 2 : ℝ) : EReal) = Ideal.div 1 (1 + ⊤)
    have h : (1 : EReal) + ⊤ = ⊤ := EReal.coe_add_top 1
    rw [h]
    have e : ((1 / 2 : ℝ) : EReal) * (-1) + ((1 / 2 : ℝ) : EReal) = ((1 / 2 * (-1) + 1 / 2 : ℝ) : EReal) := by
      push_cast; rfl
    rw [e]
    simp [Ideal.div]
  | top =>
    rw [EReal.coe_mul_top_of_pos (by norm_num : (0 : ℝ) < 1 / 2)]
    show ((1 / 2 : ℝ) : EReal) * 1 + ((1 / 2 : ℝ) : EReal) = Ideal.div 1 (1 + Ideal.exp ⊥)
    have e : ((1 / 2 : ℝ) : EReal) * 1 + ((1 / 2 : ℝ) : EReal) = ((1 / 2 * 1 + 1 / 2 : ℝ) : EReal) := by
      push_cast; rfl
    rw [e]
    show _ = Ideal.div 1 (1 + 0)
    norm_num [Ideal.div]
  | coe r =>
    have e1 : ((1 / 2 : ℝ) : EReal) * (r : EReal) = ((1 / 2 * r : ℝ) : EReal) := (EReal.coe_mul _ _).symm
    rw [e1]
    show ((1 / 2 : ℝ) : EReal) * ((Real.tanh (1 / 2 * r) : ℝ) : EReal) + ((1 / 2 : ℝ) : EReal)
      = Ideal.div 1 (1 + ((Real.exp (-r) : ℝ) : EReal))
    have e2 : (1 : EReal) + ((Real.exp (-r) : ℝ) : EReal) = ((1 + Real.exp (-r) : ℝ) : EReal) := by push_cast; rfl
    have hp : (1 + Real.exp (-r) : ℝ) ≠ 0 := by positivity
    rw [e2, show (1 : EReal) = ((1 : ℝ) : EReal) from rfl, Ideal.div_coe hp]
    rw [← EReal.coe_mul, ← EReal.coe_add, ← EReal.coe_mul, EReal.coe_eq_coe_iff]
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [h1]
    have ha := Real.exp_pos (1 / 2 * r)
    have hb := Real.exp_pos (-(1 / 2 * r))
    generalize Real.exp (1 / 2 * r) = a at *
    generalize Real.exp (-(1 / 2 * r)) = b at *
    have hab : a + b ≠ 0 := by positivity
    have hbb : 1 + b * b ≠ 0 := by positivity
    field_simp
    nlinarith [h2]

end Cert.Layer

end
-- ==== Proof.KernelPays.lean ====
/-
  What each stored or passed value of the prompt kernel's tile is, row by row: the values that the tile computes,
  read at a row and a column, are the row functions of the layer.
-/
module

public import proofs.«01_k».proof.Proof.Scalars
public import proofs.«01_k».proof.Proof.Gen.KernelIdeal.Skeleton
public import Idealize.ShloMosaic.Lib.WordCmp

@[expose] public section

set_option maxRecDepth 16384

noncomputable section

namespace Cert.KernelIdeal.Gen

open Idealize.ShloMosaic Idealize.ShloMosaic.WordCmp Cert.Layer
open scoped BigOperators

/-- Choosing by the comparison of two small numbers is choosing by their order. -/
theorem select_sge {a b : ℕ} (ha : a < 128) (hb : b < 128) (x y : EReal) :
    Scalar.select (IntOp.cmpi .sge (BitVec.ofNat 32 a) (BitVec.ofNat 32 b)) x y = if b ≤ a then x else y := by
  rw [cmpi_sge_ofNat (by norm_num; omega) (by norm_num; omega)]
  by_cases h : b ≤ a <;> simp [h, Scalar.select]

/-- The first norm's row. -/
theorem pay4_apply (v3 : Vec Ideal S1x256x1024 .f32) (v5 : Vec Ideal S1x1024 .f32) (i : Fin 256) (j : Fin 1024) :
    k0_pay4 (F := Ideal) v3 v5 (ix2 i j) = rms (fun k => v3 (ix3 0 i k)) (fun k => v5 (ix2 0 k)) j := by
  pointwise [k0_pay4, k0_pay3]
  rfl

/-- The activated first part. -/
theorem pay5_apply (v3 : Vec Ideal S1x256x1024 .f32) (v5 : Vec Ideal S1x1024 .f32) (v20 : Vec Ideal S1024x1024 .bf16)
    (i : Fin 256) (j : Fin 1024) :
    k0_pay5 (F := Ideal) v3 v5 v20 (ix2 i j)
      = gelu (lin (fun k => k0_pay4 (F := Ideal) v3 v5 (ix2 i k)) (fun k d => v20 (ix2 k d)) j) := by
  rw [← gelu_half_first]
  pointwise [k0_pay5]
  rfl

/-- The value row. -/
theorem pay7_apply (v19 : FVec Ideal S256x1024 .bf16) (v37 : FVec Ideal S1024x1024 .bf16) (v52 : Vec Ideal S1x1024 .f32)
    (v54 : Vec Ideal S1x1024 .f32) (i : Fin 256) (j : Fin 1024) :
    k0_pay7 (F := Ideal) v19 v37 v52 v54 (ix2 i j)
      = lnorm (fun d => gelu (lin (fun k => v19 (ix2 i k)) (fun k d => v37 (ix2 k d)) d))
          (fun k => v52 (ix2 0 k)) (fun k => v54 (ix2 0 k)) j := by
  simp only [← gelu_half_first]
  pointwise [k0_pay7]
  rfl

/-- The value block passed on is the value block. -/
theorem pay9_apply (v : FVec Ideal S256x1024 .f32) (i : Fin 256) (j : Fin 1024) :
    k0_pay9 (F := Ideal) v (ix2 i j) = v (ix2 i j) := by
  pointwise [k0_pay9]

/-- The second projection's matrix is passed on as it is. -/
theorem pay6_apply (v : Vec Ideal S1024x1024 .bf16) (i j : Fin 1024) : k0_pay6 (F := Ideal) v (ix2 i j) = v (ix2 i j) := by
  pointwise [k0_pay6]

/-- The value rows written out are the tile's last half. -/
theorem pay8_apply (v19 : FVec Ideal S256x1024 .bf16) (v37 : FVec Ideal S1024x1024 .bf16) (v52 : Vec Ideal S1x1024 .f32)
    (v54 : Vec Ideal S1x1024 .f32) (r : Fin 128) (j : Fin 1024) :
    k0_pay8 (F := Ideal) v19 v37 v52 v54 (ix3 0 r j) = k0_pay7 (F := Ideal) v19 v37 v52 v54 (ix2 ⟨128 + r.val, by omega⟩ j) := by
  pointwise [k0_pay8]

/-- The masked spatial matrix of head 0. -/
theorem pay11_apply (v : Vec Ideal S1x128x128 .f32) (i t : Fin 128) :
    k0_pay11 (F := Ideal) v (ix2 i t) = if t.val ≤ i.val then v (ix3 0 i t) else 0 := by
  pointwise [k0_pay11, k0_pay10]
  exact select_sge i.isLt t.isLt _ _

/-- The masked spatial matrix of head 1. -/
theorem pay12_apply (v : Vec Ideal S1x128x128 .f32) (i t : Fin 128) :
    k0_pay12 (F := Ideal) v (ix2 i t) = if t.val ≤ i.val then v (ix3 0 i t) else 0 := by
  pointwise [k0_pay12, k0_pay10]
  exact select_sge i.isLt t.isLt _ _

/-- The masked spatial matrix of head 2. -/
theorem pay13_apply (v : Vec Ideal S1x128x128 .f32) (i t : Fin 128) :
    k0_pay13 (F := Ideal) v (ix2 i t) = if t.val ≤ i.val then v (ix3 0 i t) else 0 := by
  pointwise [k0_pay13, k0_pay10]
  exact select_sge i.isLt t.isLt _ _

/-- The masked spatial matrix of head 3. -/
theorem pay14_apply (v : Vec Ideal S1x128x128 .f32) (i t : Fin 128) :
    k0_pay14 (F := Ideal) v (ix2 i t) = if t.val ≤ i.val then v (ix3 0 i t) else 0 := by
  pointwise [k0_pay14, k0_pay10]
  exact select_sge i.isLt t.isLt _ _

/-- The masked spatial matrix of head 4. -/
theorem pay15_apply (v : Vec Ideal S1x128x128 .f32) (i t : Fin 128) :
    k0_pay15 (F := Ideal) v (ix2 i t) = if t.val ≤ i.val then v (ix3 0 i t) else 0 := by
  pointwise [k0_pay15, k0_pay10]
  exact select_sge i.isLt t.isLt _ _

/-- The masked spatial matrix of head 5. -/
theorem pay16_apply (v : Vec Ideal S1x128x128 .f32) (i t : Fin 128) :
    k0_pay16 (F := Ideal) v (ix2 i t) = if t.val ≤ i.val then v (ix3 0 i t) else 0 := by
  pointwise [k0_pay16, k0_pay10]
  exact select_sge i.isLt t.isLt _ _

/-- The masked spatial matrix of head 6. -/
theorem pay17_apply (v : Vec Ideal S1x128x128 .f32) (i t : Fin 128) :
    k0_pay17 (F := Ideal) k0_pay10 v (ix2 i t) = if t.val ≤ i.val then v (ix3 0 i t) else 0 := by
  pointwise [k0_pay17, k0_pay10]
  exact select_sge i.isLt t.isLt _ _

/-- The masked spatial matrix of head 7. -/
theorem pay18_apply (v : Vec Ideal S1x128x128 .f32) (i t : Fin 128) :
    k0_pay18 (F := Ideal) k0_pay10 v (ix2 i t) = if t.val ≤ i.val then v (ix3 0 i t) else 0 := by
  pointwise [k0_pay18, k0_pay10]
  exact select_sge i.isLt t.isLt _ _

/-- The spatial shift of head 0 is passed on as it is. -/
theorem pay19_apply (v : Vec Ideal S128x1 .f32) (r : Fin 128) : k0_pay19 (F := Ideal) v (ix2 r 0) = v (ix2 r 0) := by
  pointwise [k0_pay19]

/-- The spatial shift of head 1 is passed on as it is. -/
theorem pay20_apply (v : Vec Ideal S128x1 .f32) (r : Fin 128) : k0_pay20 (F := Ideal) v (ix2 r 0) = v (ix2 r 0) := by
  pointwise [k0_pay20]

/-- The spatial shift of head 2 is passed on as it is. -/
theorem pay21_apply (v : Vec Ideal S128x1 .f32) (r : Fin 128) : k0_pay21 (F := Ideal) v (ix2 r 0) = v (ix2 r 0) := by
  pointwise [k0_pay21]

/-- The spatial shift of head 3 is passed on as it is. -/
theorem pay22_apply (v : Vec Ideal S128x1 .f32) (r : Fin 128) : k0_pay22 (F := Ideal) v (ix2 r 0) = v (ix2 r 0) := by
  pointwise [k0_pay22]

/-- The spatial shift of head 4 is passed on as it is. -/
theorem pay23_apply (v : Vec Ideal S128x1 .f32) (r : Fin 128) : k0_pay23 (F := Ideal) v (ix2 r 0) = v (ix2 r 0) := by
  pointwise [k0_pay23]

/-- The spatial shift of head 5 is passed on as it is. -/
theorem pay24_apply (v : Vec Ideal S128x1 .f32) (r : Fin 128) : k0_pay24 (F := Ideal) v (ix2 r 0) = v (ix2 r 0) := by
  pointwise [k0_pay24]

/-- The spatial shift of head 6 is passed on as it is. -/
theorem pay25_apply (v : Vec Ideal S128x1 .f32) (r : Fin 128) : k0_pay25 (F := Ideal) v (ix2 r 0) = v (ix2 r 0) := by
  pointwise [k0_pay25]

/-- The spatial shift of head 7 is passed on as it is. -/
theorem pay26_apply (v : Vec Ideal S128x1 .f32) (r : Fin 128) : k0_pay26 (F := Ideal) v (ix2 r 0) = v (ix2 r 0) := by
  pointwise [k0_pay26]

/-- The spatial mix at a column of a known head. -/
theorem mix_head (P : Par) (v : Fin 128 → Fin 1024 → EReal) (r : Fin 128) (d : Fin 1024) (h : Fin 8) (hd : d.val / 128 = h.val) :
    P.mix v r d = (∑ t : Fin 128, (if t.val ≤ r.val then P.wS h r t else 0) * v t d) + P.bS h r := by
  have e : (⟨d.val / 128, by omega⟩ : Fin 8) = h := Fin.ext hd
  unfold Par.mix
  rw [e]

section
variable (P : Par) (V : Fin 256 → Fin 1024 → EReal)

/-- The first chunk's mix of head 0. -/
theorem pay27_apply (v80 : FVec Ideal S256x1024 .bf16) (m : FVec Ideal S128x128 .bf16) (b : Vec Ideal S128x1 .f32) (r e : Fin 128) :
    k0_pay27 (F := Ideal) v80 m b (ix2 r e)
      = (∑ t : Fin 128, m (ix2 r t) * v80 (ix2 ⟨t.val, by omega⟩ ⟨e.val, by omega⟩)) + b (ix2 r 0) := by
  pointwise [k0_pay27, k0_pay19]

/-- The first chunk's mix of head 1. -/
theorem pay28_apply (v80 : FVec Ideal S256x1024 .bf16) (m : FVec Ideal S128x128 .bf16) (b : Vec Ideal S128x1 .f32) (r e : Fin 128) :
    k0_pay28 (F := Ideal) v80 m b (ix2 r e)
      = (∑ t : Fin 128, m (ix2 r t) * v80 (ix2 ⟨t.val, by omega⟩ ⟨128 + e.val, by omega⟩)) + b (ix2 r 0) := by
  pointwise [k0_pay28, k0_pay20]

/-- The second chunk's mix of head 0. -/
theorem pay31_apply (v80 : FVec Ideal S256x1024 .bf16) (m : FVec Ideal S128x128 .bf16) (b : FVec Ideal S128x1 .f32) (r e : Fin 128) :
    k0_pay31 (F := Ideal) v80 m b (ix2 r e)
      = (∑ t : Fin 128, m (ix2 r t) * v80 (ix2 ⟨128 + t.val, by omega⟩ ⟨0 + e.val, by omega⟩)) + b (ix2 r 0) := by
  pointwise [k0_pay31]

/-- The second chunk's mix of head 1. -/
theorem pay32_apply (v80 : FVec Ideal S256x1024 .bf16) (m : FVec Ideal S128x128 .bf16) (b : FVec Ideal S128x1 .f32) (r e : Fin 128) :
    k0_pay32 (F := Ideal) v80 m b (ix2 r e)
      = (∑ t : Fin 128, m (ix2 r t) * v80 (ix2 ⟨128 + t.val, by omega⟩ ⟨128 + e.val, by omega⟩)) + b (ix2 r 0) := by
  pointwise [k0_pay32]

/-- The second chunk's mix of head 2. -/
theorem pay33_apply (v80 : FVec Ideal S256x1024 .bf16) (m : FVec Ideal S128x128 .bf16) (b : FVec Ideal S128x1 .f32) (r e : Fin 128) :
    k0_pay33 (F := Ideal) v80 m b (ix2 r e)
      = (∑ t : Fin 128, m (ix2 r t) * v80 (ix2 ⟨128 + t.val, by omega⟩ ⟨256 + e.val, by omega⟩)) + b (ix2 r 0) := by
  pointwise [k0_pay33]

/-- The second chunk's mix of head 3. -/
theorem pay34_apply (v80 : FVec Ideal S256x1024 .bf16) (m : FVec Ideal S128x128 .bf16) (b : FVec Ideal S128x1 .f32) (r e : Fin 128) :
    k0_pay34 (F := Ideal) v80 m b (ix2 r e)
      = (∑ t : Fin 128, m (ix2 r t) * v80 (ix2 ⟨128 + t.val, by omega⟩ ⟨384 + e.val, by omega⟩)) + b (ix2 r 0) := by
  pointwise [k0_pay34]

/-- The second chunk's mix of head 4. -/
theorem pay35_apply (v80 : FVec Ideal S256x1024 .bf16) (m : FVec Ideal S128x128 .bf16) (b : FVec Ideal S128x1 .f32) (r e : Fin 128) :
    k0_pay35 (F := Ideal) v80 m b (ix2 r e)
      = (∑ t : Fin 128, m (ix2 r t) * v80 (ix2 ⟨128 + t.val, by omega⟩ ⟨512 + e.val, by omega⟩)) + b (ix2 r 0) := by
  pointwise [k0_pay35]

/-- The second chunk's mix of head 5. -/
theorem pay36_apply (v80 : FVec Ideal S256x1024 .bf16) (m : FVec Ideal S128x128 .bf16) (b : FVec Ideal S128x1 .f32) (r e : Fin 128) :
    k0_pay36 (F := Ideal) v80 m b (ix2 r e)
      = (∑ t : Fin 128, m (ix2 r t) * v80 (ix2 ⟨128 + t.val, by omega⟩ ⟨640 + e.val, by omega⟩)) + b (ix2 r 0) := by
  pointwise [k0_pay36]

/-- The first chunk's mix, all heads. -/
theorem pay30_apply (v80 : FVec Ideal S256x1024 .bf16) (m0 m1 m2 m3 m4 m5 m6 m7 : FVec Ideal S128x128 .bf16)
    (b0 b1 : Vec Ideal S128x1 .f32) (b2 b3 b4 b5 b6 b7 : FVec Ideal S128x1 .f32)
    (hV : ∀ i d, v80 (ix2 i d) = V i d)
    (hm0 : ∀ r t : Fin 128, m0 (ix2 r t) = if t.val ≤ r.val then P.wS 0 r t else 0)
    (hm1 : ∀ r t : Fin 128, m1 (ix2 r t) = if t.val ≤ r.val then P.wS 1 r t else 0)
    (hm2 : ∀ r t : Fin 128, m2 (ix2 r t) = if t.val ≤ r.val then P.wS 2 r t else 0)
    (hm3 : ∀ r t : Fin 128, m3 (ix2 r t) = if t.val ≤ r.val then P.wS 3 r t else 0)
    (hm4 : ∀ r t : Fin 128, m4 (ix2 r t) = if t.val ≤ r.val then P.wS 4 r t else 0)
    (hm5 : ∀ r t : Fin 128, m5 (ix2 r t) = if t.val ≤ r.val then P.wS 5 r t else 0)
    (hm6 : ∀ r t : Fin 128, m6 (ix2 r t) = if t.val ≤ r.val then P.wS 6 r t else 0)
    (hm7 : ∀ r t : Fin 128, m7 (ix2 r t) = if t.val ≤ r.val then P.wS 7 r t else 0)
    (hb0 : ∀ r : Fin 128, b0 (ix2 r 0) = P.bS 0 r)
    (hb1 : ∀ r : Fin 128, b1 (ix2 r 0) = P.bS 1 r)
    (hb2 : ∀ r : Fin 128, b2 (ix2 r 0) = P.bS 2 r)
    (hb3 : ∀ r : Fin 128, b3 (ix2 r 0) = P.bS 3 r)
    (hb4 : ∀ r : Fin 128, b4 (ix2 r 0) = P.bS 4 r)
    (hb5 : ∀ r : Fin 128, b5 (ix2 r 0) = P.bS 5 r)
    (hb6 : ∀ r : Fin 128, b6 (ix2 r 0) = P.bS 6 r)
    (hb7 : ∀ r : Fin 128, b7 (ix2 r 0) = P.bS 7 r)
    (r : Fin 128) (d : Fin 1024) :
    k0_pay30 (F := Ideal) v80 m2 m3 m4 m5 m6 m7 b2 b3 b4 b5 b6 b7 (k0_pay27 v80 m0 b0) (k0_pay28 v80 m1 b1) (k0_pay29 v80)
        (constant S128x128 .f32 0#32) (ix2 r d) = P.mix (fun t => V ⟨t.val, by omega⟩) r d := by
  pointwise [k0_pay30, k0_pay29]
  have hd : d.val / 128 = 0 ∨ d.val / 128 = 1 ∨ d.val / 128 = 2 ∨ d.val / 128 = 3 ∨ d.val / 128 = 4 ∨ d.val / 128 = 5
      ∨ d.val / 128 = 6 ∨ d.val / 128 = 7 := by omega
  rcases hd with hd | hd | hd | hd | hd | hd | hd | hd
  · rw [dif_pos (by omega), mix_head P _ _ d 0 hd]
    simp only [pay27_apply, hm0, hb0, hV]
    first
      | done
      | exact congrArg₂ (· + ·) (Finset.sum_congr rfl fun t _ => congrArg₂ (· * ·) rfl
          (congrArg (V _) (Fin.ext (by show _ = d.val; simp only []; omega)))) rfl
  · rw [dif_neg (by omega), dif_pos (by omega), mix_head P _ _ d 1 hd]
    simp only [pay28_apply, hm1, hb1, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_pos (by omega), mix_head P _ _ d 2 hd]
    simp only [hm2, hb2, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_pos (by omega), mix_head P _ _ d 3 hd]
    simp only [hm3, hb3, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_pos (by omega), mix_head P _ _ d 4 hd]
    simp only [hm4, hb4, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_pos (by omega), mix_head P _ _ d 5 hd]
    simp only [hm5, hb5, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_neg (by omega), dif_pos (by omega), mix_head P _ _ d 6 hd]
    simp only [hm6, hb6, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_neg (by omega), dif_neg (by omega), mix_head P _ _ d 7 hd]
    simp only [hm7, hb7, hV]
    first
      | done
      | exact congrArg₂ (· + ·) (Finset.sum_congr rfl fun t _ => congrArg₂ (· * ·) rfl
          (congrArg (V _) (Fin.ext (by show _ = d.val; simp only []; omega)))) rfl

set_option maxHeartbeats 1000000 in
/-- The first branch, from the activated first part and both chunks' mixes. -/
theorem pay38_apply (v19 : FVec Ideal S256x1024 .bf16) (v35 : FVec Ideal S256x1024 .f32) (v80 : FVec Ideal S256x1024 .bf16)
    (m0 m1 m2 m3 m4 m5 m6 m7 : FVec Ideal S128x128 .bf16) (b0 b1 b2 b3 b4 b5 b6 b7 : FVec Ideal S128x1 .f32)
    (v172 : FVec Ideal S128x1024 .f32) (w : Vec Ideal S1024x1024 .bf16)
    (hV : ∀ i d, v80 (ix2 i d) = V i d)
    (hm0 : ∀ r t : Fin 128, m0 (ix2 r t) = if t.val ≤ r.val then P.wS 0 r t else 0)
    (hm1 : ∀ r t : Fin 128, m1 (ix2 r t) = if t.val ≤ r.val then P.wS 1 r t else 0)
    (hm2 : ∀ r t : Fin 128, m2 (ix2 r t) = if t.val ≤ r.val then P.wS 2 r t else 0)
    (hm3 : ∀ r t : Fin 128, m3 (ix2 r t) = if t.val ≤ r.val then P.wS 3 r t else 0)
    (hm4 : ∀ r t : Fin 128, m4 (ix2 r t) = if t.val ≤ r.val then P.wS 4 r t else 0)
    (hm5 : ∀ r t : Fin 128, m5 (ix2 r t) = if t.val ≤ r.val then P.wS 5 r t else 0)
    (hm6 : ∀ r t : Fin 128, m6 (ix2 r t) = if t.val ≤ r.val then P.wS 6 r t else 0)
    (hm7 : ∀ r t : Fin 128, m7 (ix2 r t) = if t.val ≤ r.val then P.wS 7 r t else 0)
    (hb0 : ∀ r : Fin 128, b0 (ix2 r 0) = P.bS 0 r)
    (hb1 : ∀ r : Fin 128, b1 (ix2 r 0) = P.bS 1 r)
    (hb2 : ∀ r : Fin 128, b2 (ix2 r 0) = P.bS 2 r)
    (hb3 : ∀ r : Fin 128, b3 (ix2 r 0) = P.bS 3 r)
    (hb4 : ∀ r : Fin 128, b4 (ix2 r 0) = P.bS 4 r)
    (hb5 : ∀ r : Fin 128, b5 (ix2 r 0) = P.bS 5 r)
    (hb6 : ∀ r : Fin 128, b6 (ix2 r 0) = P.bS 6 r)
    (hb7 : ∀ r : Fin 128, b7 (ix2 r 0) = P.bS 7 r)
    (h0 : ∀ (r : Fin 128) d, v172 (ix2 r d) = P.mix (fun t => V ⟨t.val, by omega⟩) r d)
    (i : Fin 256) (d : Fin 1024) :
    k0_pay38 (F := Ideal) v19 v35 v80 m6 m7 b6 b7 v172 (k0_pay31 v80 m0 b0) (k0_pay32 v80 m1 b1) (k0_pay33 v80 m2 b2)
        (k0_pay34 v80 m3 b3) (k0_pay35 v80 m4 b4) (k0_pay36 v80 m5 b5) (k0_pay37 v80) w (ix2 i d)
      = v35 (ix2 i d) * P.mix (fun t => V ⟨128 * (i.val / 128) + t.val, by omega⟩) ⟨i.val % 128, by omega⟩ d
          * silu (lin (fun k => v19 (ix2 i k)) (fun k d => w (ix2 k d)) d) := by
  unfold silu
  rw [← sig_tanh]
  pointwise [k0_pay38, k0_pay37]
  refine congrArg₂ (· * ·) (congrArg₂ (· * ·) rfl ?_) rfl
  by_cases hi : i.val < 128
  · rw [dif_pos hi, h0]
    have e1 : (⟨i.val, hi⟩ : Fin 128) = ⟨i.val % 128, by omega⟩ := Fin.ext (by show i.val = i.val % 128; omega)
    have e2 : (fun t : Fin 128 => V ⟨t.val, by omega⟩) = fun t : Fin 128 => V ⟨128 * (i.val / 128) + t.val, by omega⟩ :=
      funext fun t => congrArg V (Fin.ext (by show t.val = 128 * (i.val / 128) + t.val; omega))
    rw [e1, e2]
  rw [dif_neg hi]
  have e1 : (⟨i.val % 128, by omega⟩ : Fin 128) = ⟨i.val - 128, by omega⟩ :=
    Fin.ext (by show i.val % 128 = i.val - 128; omega)
  have e2 : (fun t : Fin 128 => V ⟨128 * (i.val / 128) + t.val, by omega⟩) = fun t : Fin 128 => V ⟨128 + t.val, by omega⟩ :=
    funext fun t => congrArg V (Fin.ext (by show 128 * (i.val / 128) + t.val = 128 + t.val; omega))
  rw [e1, e2]
  have hd : d.val / 128 = 0 ∨ d.val / 128 = 1 ∨ d.val / 128 = 2 ∨ d.val / 128 = 3 ∨ d.val / 128 = 4 ∨ d.val / 128 = 5
      ∨ d.val / 128 = 6 ∨ d.val / 128 = 7 := by omega
  rcases hd with hd | hd | hd | hd | hd | hd | hd | hd
  · rw [dif_pos (by omega), mix_head P _ _ d 0 hd]
    simp only [pay31_apply, hm0, hb0, hV]
    first
      | done
      | exact congrArg₂ (· + ·) (Finset.sum_congr rfl fun t _ => congrArg₂ (· * ·) rfl
          (congrArg (V _) (Fin.ext (by show _ = d.val; simp only []; omega)))) rfl
  · rw [dif_neg (by omega), dif_pos (by omega), mix_head P _ _ d 1 hd]
    simp only [pay32_apply, hm1, hb1, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_pos (by omega), mix_head P _ _ d 2 hd]
    simp only [pay33_apply, hm2, hb2, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_pos (by omega), mix_head P _ _ d 3 hd]
    simp only [pay34_apply, hm3, hb3, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_pos (by omega), mix_head P _ _ d 4 hd]
    simp only [pay35_apply, hm4, hb4, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_pos (by omega), mix_head P _ _ d 5 hd]
    simp only [pay36_apply, hm5, hb5, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_neg (by omega), dif_pos (by omega), mix_head P _ _ d 6 hd]
    simp only [hm6, hb6, hV]
    first
      | done
      | exact congrArg₂ (· + ·) (Finset.sum_congr rfl fun t _ => congrArg₂ (· * ·) rfl
          (congrArg (V _) (Fin.ext (by show _ = d.val; simp only []; omega)))) rfl
  · rw [dif_neg (by omega), dif_neg (by omega), dif_neg (by omega), dif_neg (by omega), dif_neg (by omega), dif_neg (by omega), dif_neg (by omega), mix_head P _ _ d 7 hd]
    simp only [hm7, hb7, hV]
    first
      | done
      | exact congrArg₂ (· + ·) (Finset.sum_congr rfl fun t _ => congrArg₂ (· * ·) rfl
          (congrArg (V _) (Fin.ext (by show _ = d.val; simp only []; omega)))) rfl

end

end Cert.KernelIdeal.Gen

end
-- ==== Proof.KernelPool.lean ====
/-
  What each value of the prompt kernel's tile is, row by row, from the pooling input on: the pooled row, the second
  branch, the merge and the embedding are the row functions of the layer.
-/
module

public import proofs.«01_k».proof.Proof.Scalars
public import proofs.«01_k».proof.Proof.Gen.KernelIdeal.Skeleton

@[expose] public section

set_option maxRecDepth 16384

noncomputable section

namespace Cert.KernelIdeal.Gen

open Idealize.ShloMosaic Cert.Layer
open scoped BigOperators

/-- The pooled row at a column whose window is known. -/
theorem pooled_of (E : ℕ → Fin 1024 → EReal) (n : ℕ) (l : BitVec 32) (d : Fin 1024) (w : ℕ) (h : wid d = w) :
    pooled E n l d = Ideal.div (∑ j ∈ Finset.range w, E (n - j) d) (cnt l (BitVec.ofNat 32 w)) - E n d := by
  subst h; rfl

/-- The pooling input's row. -/
theorem pay39_apply (v19 : FVec Ideal S256x1024 .bf16) (w : Vec Ideal S1024x1024 .bf16) (i : Fin 256) (j : Fin 1024) :
    k0_pay39 (F := Ideal) v19 w (ix2 i j) = lin (fun k => v19 (ix2 i k)) (fun k d => w (ix2 k d)) j := by
  pointwise [k0_pay39]
  rfl

/-- The pooling input's row as it is stored. -/
theorem pay40_apply (v19 : FVec Ideal S256x1024 .bf16) (w : Vec Ideal S1024x1024 .bf16) (i : Fin 256) (j : Fin 1024) :
    k0_pay40 (F := Ideal) v19 w (ix2 i j) = k0_pay39 (F := Ideal) v19 w (ix2 i j) := by
  pointwise [k0_pay40]

/-- The rows cleared at a sequence's start. -/
theorem pay2_apply (i : Fin 16) (j : Fin 1024) : k0_pay2 (F := Ideal) (ix2 i j) = 0 := by
  pointwise [k0_pay2]

/-- The rows kept for the pool are passed on as they are. -/
theorem pay54_apply (v : Vec Ideal S15x1024 .f32) (i : Fin 15) (j : Fin 1024) : k0_pay54 (F := Ideal) v (ix3 0 i j) = v (ix2 i j) := by
  pointwise [k0_pay54]

/-- The rows carried to the next tile are passed on as they are. -/
theorem pay55_apply (v : Vec Ideal S16x1024 .f32) (i : Fin 16) (j : Fin 1024) : k0_pay55 (F := Ideal) v (ix2 i j) = v (ix2 i j) := by
  pointwise [k0_pay55]

/-- The position word of a tile's row. -/
theorem pay41_apply (a : BitVec 32) (i : Fin 256) :
    k0_pay41 a (ix2 i 0) = a * 256#32 + BitVec.ofNat 32 i.val := by
  pointwise [k0_pay41]
  rfl

section
variable (a : BitVec 32) (v222 : FVec Ideal S256x1024 .f32) (E : ℕ → Fin 1024 → EReal) (n : ℕ) (i : Fin 256)

/-- The windows of two. -/
theorem pay45_apply (v19 : FVec Ideal S256x1024 .bf16) (w : Vec Ideal S1024x1024 .bf16) (l1 : Vec Ideal S256x256 .f32) (e : Fin 256)
    (h0 : ∀ j, k0_pay39 (F := Ideal) v19 w (ix2 i j) = E n j)
    (h1 : l1 (ix2 i e) = E (n - 1) ⟨e.val, by omega⟩) :
    k0_pay45 (F := Ideal) (k0_pay42 v19 w) (k0_pay43 v19 w l1) (k0_pay44 (F := Ideal) a) (ix2 i e)
      = pooled E n (a * 256#32 + BitVec.ofNat 32 i.val) ⟨e.val, by omega⟩ := by
  pointwise [k0_pay45, k0_pay43, k0_pay42, k0_pay44, k0_pay41]
  rw [pooled_of E n _ _ 2 (by show 2 ^ (e.val / 256 + 1) = 2; rw [show e.val / 256 = 0 by omega]; norm_num), h0, h1]
  simp only [Finset.sum_range_succ, Finset.sum_range_zero, zero_add, Nat.sub_zero]
  rfl

/-- The windows of four. -/
theorem pay46_apply (l1 l2 l3 : Vec Ideal S256x256 .f32) (e : Fin 256)
    (h0 : ∀ j, v222 (ix2 i j) = E n j)
    (h1 : l1 (ix2 i e) = E (n - 1) ⟨256 + e.val, by omega⟩)
    (h2 : l2 (ix2 i e) = E (n - 2) ⟨256 + e.val, by omega⟩)
    (h3 : l3 (ix2 i e) = E (n - 3) ⟨256 + e.val, by omega⟩) :
    k0_pay46 (F := Ideal) v222 (k0_pay41 a) l1 l2 l3 (ix2 i e)
      = pooled E n (a * 256#32 + BitVec.ofNat 32 i.val) ⟨256 + e.val, by omega⟩ := by
  pointwise [k0_pay46, k0_pay41]
  rw [pooled_of E n _ _ 4 (by show 2 ^ ((256 + e.val) / 256 + 1) = 4; rw [show (256 + e.val) / 256 = 1 by omega]; norm_num), h0, h1, h2, h3]
  simp only [Finset.sum_range_succ, Finset.sum_range_zero, zero_add, Nat.sub_zero]
  rfl

/-- The windows of eight. -/
theorem pay50_apply (l1 l2 l3 l4 l5 l6 l7 : Vec Ideal S256x256 .f32) (e : Fin 256)
    (h0 : ∀ j, v222 (ix2 i j) = E n j)
    (h1 : l1 (ix2 i e) = E (n - 1) ⟨512 + e.val, by omega⟩)
    (h2 : l2 (ix2 i e) = E (n - 2) ⟨512 + e.val, by omega⟩)
    (h3 : l3 (ix2 i e) = E (n - 3) ⟨512 + e.val, by omega⟩)
    (h4 : l4 (ix2 i e) = E (n - 4) ⟨512 + e.val, by omega⟩)
    (h5 : l5 (ix2 i e) = E (n - 5) ⟨512 + e.val, by omega⟩)
    (h6 : l6 (ix2 i e) = E (n - 6) ⟨512 + e.val, by omega⟩)
    (h7 : l7 (ix2 i e) = E (n - 7) ⟨512 + e.val, by omega⟩) :
    k0_pay50 (F := Ideal) (k0_pay47 v222) (k0_pay48 v222 l1 l2 l3 l4 l5 l6 l7) (k0_pay49 (k0_pay41 a)) (ix2 i e)
      = pooled E n (a * 256#32 + BitVec.ofNat 32 i.val) ⟨512 + e.val, by omega⟩ := by
  pointwise [k0_pay50, k0_pay47, k0_pay48, k0_pay49, k0_pay41]
  rw [pooled_of E n _ _ 8 (by show 2 ^ ((512 + e.val) / 256 + 1) = 8; rw [show (512 + e.val) / 256 = 2 by omega]; norm_num), h0, h1, h2, h3, h4, h5, h6, h7]
  simp only [Finset.sum_range_succ, Finset.sum_range_zero, zero_add, Nat.sub_zero]
  rfl

/-- The pooled row: four groups side by side, the last of windows of sixteen. -/
theorem pay53_apply (q0 q1 q2 : FVec Ideal S256x256 .f32) (l1 l2 l3 l4 l5 l6 l7 l8 l9 l10 l11 l12 l13 l14 l15 : Vec Ideal S256x256 .f32)
    (h0 : ∀ j, v222 (ix2 i j) = E n j)
    (hq0 : ∀ e : Fin 256, q0 (ix2 i e) = pooled E n (a * 256#32 + BitVec.ofNat 32 i.val) ⟨e.val, by omega⟩)
    (hq1 : ∀ e : Fin 256, q1 (ix2 i e) = pooled E n (a * 256#32 + BitVec.ofNat 32 i.val) ⟨256 + e.val, by omega⟩)
    (hq2 : ∀ e : Fin 256, q2 (ix2 i e) = pooled E n (a * 256#32 + BitVec.ofNat 32 i.val) ⟨512 + e.val, by omega⟩)
    (h1 : ∀ e : Fin 256, l1 (ix2 i e) = E (n - 1) ⟨768 + e.val, by omega⟩)
    (h2 : ∀ e : Fin 256, l2 (ix2 i e) = E (n - 2) ⟨768 + e.val, by omega⟩)
    (h3 : ∀ e : Fin 256, l3 (ix2 i e) = E (n - 3) ⟨768 + e.val, by omega⟩)
    (h4 : ∀ e : Fin 256, l4 (ix2 i e) = E (n - 4) ⟨768 + e.val, by omega⟩)
    (h5 : ∀ e : Fin 256, l5 (ix2 i e) = E (n - 5) ⟨768 + e.val, by omega⟩)
    (h6 : ∀ e : Fin 256, l6 (ix2 i e) = E (n - 6) ⟨768 + e.val, by omega⟩)
    (h7 : ∀ e : Fin 256, l7 (ix2 i e) = E (n - 7) ⟨768 + e.val, by omega⟩)
    (h8 : ∀ e : Fin 256, l8 (ix2 i e) = E (n - 8) ⟨768 + e.val, by omega⟩)
    (h9 : ∀ e : Fin 256, l9 (ix2 i e) = E (n - 9) ⟨768 + e.val, by omega⟩)
    (h10 : ∀ e : Fin 256, l10 (ix2 i e) = E (n - 10) ⟨768 + e.val, by omega⟩)
    (h11 : ∀ e : Fin 256, l11 (ix2 i e) = E (n - 11) ⟨768 + e.val, by omega⟩)
    (h12 : ∀ e : Fin 256, l12 (ix2 i e) = E (n - 12) ⟨768 + e.val, by omega⟩)
    (h13 : ∀ e : Fin 256, l13 (ix2 i e) = E (n - 13) ⟨768 + e.val, by omega⟩)
    (h14 : ∀ e : Fin 256, l14 (ix2 i e) = E (n - 14) ⟨768 + e.val, by omega⟩)
    (h15 : ∀ e : Fin 256, l15 (ix2 i e) = E (n - 15) ⟨768 + e.val, by omega⟩)
    (j : Fin 1024) :
    k0_pay53 (F := Ideal) (k0_pay41 a) q0 q1 q2 (k0_pay51 v222) (k0_pay52 v222 l1 l2 l3 l4 l5 l6 l7 l8 l9 l10 l11 l12 l13) l14 l15 (ix2 i j)
      = pooled E n (a * 256#32 + BitVec.ofNat 32 i.val) j := by
  pointwise [k0_pay53, k0_pay51, k0_pay52, k0_pay41]
  have hj : j.val < 256 ∨ (256 ≤ j.val ∧ j.val < 512) ∨ (512 ≤ j.val ∧ j.val < 768) ∨ 768 ≤ j.val := by omega
  rcases hj with hj | hj | hj | hj
  · rw [dif_pos (by omega), hq0]
  · rw [dif_neg (by omega), dif_pos (by omega), hq1]
    exact congrArg _ (Fin.ext (by show 256 + (j.val - 256) = j.val; omega))
  · rw [dif_neg (by omega), dif_neg (by omega), dif_pos (by omega), hq2]
    exact congrArg _ (Fin.ext (by show 512 + (j.val - 256 - 256) = j.val; omega))
  · rw [dif_neg (by omega), dif_neg (by omega), dif_neg (by omega)]
    have hd : ∀ h, (⟨768 + (j.val - 256 - 256 - 256), h⟩ : Fin 1024) = j := fun h =>
      Fin.ext (by show 768 + (j.val - 256 - 256 - 256) = j.val; omega)
    have hw : wid j = 16 := by unfold wid; rw [show j.val / 256 = 3 by omega]; norm_num
    rw [pooled_of E n _ j 16 hw]
    simp only [h0, h1, h2, h3, h4, h5, h6, h7, h8, h9, h10, h11, h12, h13, h14, h15]
    simp only [hd, Finset.sum_range_succ, Finset.sum_range_zero, zero_add, Nat.sub_zero]
    rfl
end

/-- The mix of the first pooled group. -/
theorem pay56_apply (v229 : IVec S256x1 32) (q0 q1 q2 v279 v305 : FVec Ideal S256x256 .f32) (v306 v308 : Vec Ideal S256x256 .f32)
    (w : Vec Ideal S1x256x256 .bf16) (i e : Fin 256) :
    k0_pay56 (F := Ideal) v229 q0 q1 q2 v279 v305 v306 v308 w (ix2 i e)
      = ∑ k : Fin 256, k0_pay53 (F := Ideal) v229 q0 q1 q2 v279 v305 v306 v308 (ix2 i ⟨k.val, by omega⟩) * w (ix3 0 k e) := by
  pointwise [k0_pay56]

/-- The mix of the second pooled group. -/
theorem pay57_apply (v229 : IVec S256x1 32) (q0 q1 q2 v279 v305 : FVec Ideal S256x256 .f32) (v306 v308 : Vec Ideal S256x256 .f32)
    (w : Vec Ideal S1x256x256 .bf16) (i e : Fin 256) :
    k0_pay57 (F := Ideal) v229 q0 q1 q2 v279 v305 v306 v308 w (ix2 i e)
      = ∑ k : Fin 256, k0_pay53 (F := Ideal) v229 q0 q1 q2 v279 v305 v306 v308 (ix2 i ⟨256 + k.val, by omega⟩) * w (ix3 0 k e) := by
  pointwise [k0_pay57]

/-- The third pooled group, passed on to its mix. -/
theorem pay58_apply (v229 : IVec S256x1 32) (q0 q1 q2 v279 v305 : FVec Ideal S256x256 .f32) (v306 v308 : Vec Ideal S256x256 .f32)
    (i k : Fin 256) :
    k0_pay58 (F := Ideal) v229 q0 q1 q2 v279 v305 v306 v308 (ix2 i k)
      = k0_pay53 (F := Ideal) v229 q0 q1 q2 v279 v305 v306 v308 (ix2 i ⟨512 + k.val, by omega⟩) := by
  pointwise [k0_pay58]

/-- The third group's matrix is passed on as it is. -/
theorem pay59_apply (w : Vec Ideal S1x256x256 .bf16) (k e : Fin 256) : k0_pay59 (F := Ideal) w (ix2 k e) = w (ix3 0 k e) := by
  pointwise [k0_pay59]

/-- The mix of the pooled groups at a column of a known group. -/
theorem pmix_group (P : Par) (q : Fin 1024 → EReal) (d : Fin 1024) (g : Fin 4) (e : Fin 256) (o : ℕ) (ho : o = 256 * g.val)
    (hd : d.val = o + e.val) :
    P.pmix q d = ∑ k : Fin 256, q ⟨o + k.val, by omega⟩ * P.wPool g k e := by
  unfold Par.pmix
  have h1 : (⟨d.val / 256, by omega⟩ : Fin 4) = g := Fin.ext (by show d.val / 256 = g.val; omega)
  have h2 : (⟨d.val % 256, by omega⟩ : Fin 256) = e := Fin.ext (by show d.val % 256 = e.val; omega)
  rw [h1, h2]
  refine Finset.sum_congr rfl fun k _ => congrArg₂ (· * ·) (congrArg q (Fin.ext ?_)) rfl
  show 256 * (d.val / 256) + k.val = o + k.val
  omega

/-- The second branch, from the pooled row and the groups' matrices. -/
theorem pay60_apply (P : Par) (v229 : IVec S256x1 32) (q0 q1 q2 v279 v305 : FVec Ideal S256x256 .f32) (v306 v308 : Vec Ideal S256x256 .f32)
    (w0 w1 w2 w3 : Vec Ideal S1x256x256 .bf16) (sc : Vec Ideal S1x1024 .f32) (wz : Vec Ideal S1024x1024 .bf16)
    (v19 : FVec Ideal S256x1024 .bf16) (i : Fin 256) (q : Fin 1024 → EReal)
    (hq : ∀ j, k0_pay53 (F := Ideal) v229 q0 q1 q2 v279 v305 v306 v308 (ix2 i j) = q j)
    (hw0 : ∀ k e, w0 (ix3 0 k e) = P.wPool 0 k e) (hw1 : ∀ k e, w1 (ix3 0 k e) = P.wPool 1 k e)
    (hw2 : ∀ k e, w2 (ix3 0 k e) = P.wPool 2 k e) (hw3 : ∀ k e, w3 (ix3 0 k e) = P.wPool 3 k e)
    (hsc : ∀ j, sc (ix2 0 j) = P.poolScale j) (j : Fin 1024) :
    k0_pay60 (F := Ideal) v19 (k0_pay53 v229 q0 q1 q2 v279 v305 v306 v308) (k0_pay56 v229 q0 q1 q2 v279 v305 v306 v308 w0)
        (k0_pay57 v229 q0 q1 q2 v279 v305 v306 v308 w1) (k0_pay58 v229 q0 q1 q2 v279 v305 v306 v308) (k0_pay59 w2) w3 sc wz (ix2 i j)
      = P.pmix q j * P.poolScale j * silu (lin (fun k => v19 (ix2 i k)) (fun k d => wz (ix2 k d)) j) := by
  unfold silu
  rw [← sig_tanh]
  pointwise [k0_pay60]
  refine congrArg₂ (· * ·) (congrArg₂ (· * ·) ?_ (hsc j)) rfl
  have hj : j.val < 256 ∨ (256 ≤ j.val ∧ j.val < 512) ∨ (512 ≤ j.val ∧ j.val < 768) ∨ 768 ≤ j.val := by omega
  rcases hj with hj | hj | hj | hj
  · rw [dif_pos (by omega), pmix_group P q j 0 ⟨j.val, by omega⟩ 0 rfl (by simp)]
    simp only [pay56_apply, hq, hw0, zero_add]
  · rw [dif_neg (by omega), dif_pos (by omega), pmix_group P q j 1 ⟨j.val - 256, by omega⟩ 256 rfl (by simp; omega)]
    simp only [pay57_apply, hq, hw1]
  · rw [dif_neg (by omega), dif_neg (by omega), dif_pos (by omega), pmix_group P q j 2 ⟨j.val - 256 - 256, by omega⟩ 512 rfl (by simp; omega)]
    simp only [pay58_apply, pay59_apply, hq, hw2]
  · rw [dif_neg (by omega), dif_neg (by omega), dif_neg (by omega), pmix_group P q j 3 ⟨j.val - 256 - 256 - 256, by omega⟩ 768 rfl (by simp; omega)]
    simp only [hq, hw3]

/-- The second gate before its sigmoid. -/
theorem pay62_apply (v19 : FVec Ideal S256x1024 .bf16) (w : Vec Ideal S1024x1024 .bf16) (i : Fin 256) (j : Fin 1024) :
    k0_pay62 (F := Ideal) v19 w (ix2 i j) = lin (fun k => v19 (ix2 i k)) (fun k d => w (ix2 k d)) j := by
  pointwise [k0_pay62]
  rfl

/-- The row before the embedding: the merged branches projected, normed and added to the input. -/
theorem pay64_apply (v4 v219 v363 : FVec Ideal S256x1024 .f32) (v19 : FVec Ideal S256x1024 .bf16) (wa wb wpa wpb wo : Vec Ideal S1024x1024 .bf16)
    (g : Vec Ideal S1x1024 .f32) (i : Fin 256) (j : Fin 1024) :
    k0_pay64 (F := Ideal) v4 v219 v363 (k0_pay62 v19 wb) (k0_pay63 v19 wa) wpa wpb wo g (ix2 i j)
      = v4 (ix2 i j) + rms (lin (fun d => Layer.sig (lin (fun k => v19 (ix2 i k)) (fun k d => wa (ix2 k d)) d)
            * lin (fun k => v219 (ix2 i k)) (fun k d => wpa (ix2 k d)) d
          + Layer.sig (lin (fun k => v19 (ix2 i k)) (fun k d => wb (ix2 k d)) d)
            * lin (fun k => v363 (ix2 i k)) (fun k d => wpb (ix2 k d)) d) (fun k d => wo (ix2 k d))) (fun k => g (ix2 0 k)) j := by
  simp only [← sig_tanh]
  pointwise [k0_pay64, k0_pay62, k0_pay63]
  rfl

/-- The embedding's norm, from the row and its embedding. -/
theorem pay66_apply (v415 : FVec Ideal S256x1024 .f32) (p : Vec Ideal S1x256x256 .f32) (wp : Vec Ideal S256x1024 .bf16) (gi : Vec Ideal S1x1024 .f32)
    (wg : Vec Ideal S1024x1024 .bf16) (go : Vec Ideal S1x1024 .f32) (i : Fin 256) (j : Fin 1024) :
    k0_pay66 (F := Ideal) v415 (k0_pay65 (k0_pay61 p)) wp gi wg go (ix2 i j)
      = rms (fun d => Layer.sig (lin (rms (fun k => v415 (ix2 i k)) (fun k => gi (ix2 0 k))) (fun k d => wg (ix2 k d)) d)
          * lin (fun k => p (ix3 0 i k)) (fun k d => wp (ix2 k d)) d) (fun k => go (ix2 0 k)) j := by
  simp only [← sig_tanh]
  pointwise [k0_pay66, k0_pay65, k0_pay61]
  rfl

/-- The input's tile is passed on as it is. -/
theorem pay3_apply (v : Vec Ideal S1x256x1024 .f32) (i : Fin 256) (j : Fin 1024) : k0_pay3 (F := Ideal) v (ix2 i j) = v (ix3 0 i j) := by
  pointwise [k0_pay3]

/-- The output row is the sum. -/
theorem pay1_apply (a b : FVec Ideal S256x1024 .f32) (i : Fin 256) (j : Fin 1024) :
    k0_pay1 (F := Ideal) a b (ix3 0 i j) = a (ix2 i j) + b (ix2 i j) := by
  pointwise [k0_pay1]

end Cert.KernelIdeal.Gen

end
-- ==== Proof.Tile.lean ====
/-
  One tile of the prompt kernel: what the tile stores, as a function of the blocks it loads and of the pooling rows it
  keeps, and that each of its rows is the layer's row function.
-/
module

public import proofs.«01_k».proof.Proof.KernelPays
public import proofs.«01_k».proof.Proof.KernelPool
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

/-- The tile's normed rows. -/
def tXn (x0 : Vec Ideal S1x256x1024 .f32) (x11 : Vec Ideal S8x1024 .f32) : FVec Ideal S256x1024 .bf16 :=
  k0_pay4 (View.ld x0 (Rect.unit (s := S1x256x1024) ![0, 0, 0] ![1, 256, 1024] inb_S1x256x1024_S1x256x1024_0_0_0)) (View.ld x11 (Rect.unit (s := S8x1024) ![0, 0] ![1, 1024] inb_S8x1024_S1x1024_0_0))

/-- The tile's value rows. -/
def tV (x0 : Vec Ideal S1x256x1024 .f32) (x2 : Vec Ideal S1024x7168 .bf16) (x11 : Vec Ideal S8x1024 .f32) : FVec Ideal S256x1024 .f32 :=
  k0_pay7 (tXn x0 x11) (k0_pay6 (View.ld x2 (Rect.unit (s := S1024x7168) ![0, 1024] ![1024, 1024] inb_S1024x7168_S1024x1024_0_1024))) (View.ld x11 (Rect.unit (s := S8x1024) ![1, 0] ![1, 1024] inb_S8x1024_S1x1024_1_0)) (View.ld x11 (Rect.unit (s := S8x1024) ![2, 0] ![1, 1024] inb_S8x1024_S1x1024_2_0))

/-- The tile's pooling input. -/
def tXb (x0 : Vec Ideal S1x256x1024 .f32) (x2 : Vec Ideal S1024x7168 .bf16) (x11 : Vec Ideal S8x1024 .f32) : FVec Ideal S256x1024 .f32 :=
  k0_pay39 (tXn x0 x11) (View.ld x2 (Rect.unit (s := S1024x7168) ![0, 3072] ![1024, 1024] inb_S1024x7168_S1024x1024_0_3072))

/-- The tile's first branch. -/
def tYa (x0 : Vec Ideal S1x256x1024 .f32) (x2 : Vec Ideal S1024x7168 .bf16) (x3 : Vec Ideal S8x128x128 .f32)
    (x4 : Vec Ideal S128x8 .f32) (x11 : Vec Ideal S8x1024 .f32) : FVec Ideal S256x1024 .f32 :=
  k0_pay38 (tXn x0 x11) (k0_pay5 (View.ld x0 (Rect.unit (s := S1x256x1024) ![0, 0, 0] ![1, 256, 1024] inb_S1x256x1024_S1x256x1024_0_0_0)) (View.ld x11 (Rect.unit (s := S8x1024) ![0, 0] ![1, 1024] inb_S8x1024_S1x1024_0_0)) (View.ld x2 (Rect.unit (s := S1024x7168) ![0, 0] ![1024, 1024] inb_S1024x7168_S1024x1024_0_0)))
    (k0_pay9 (tV x0 x2 x11)) (k0_pay17 k0_pay10 (View.ld x3 (Rect.unit (s := S8x128x128) ![6, 0, 0] ![1, 128, 128] inb_S8x128x128_S1x128x128_6_0_0))) (k0_pay18 k0_pay10 (View.ld x3 (Rect.unit (s := S8x128x128) ![7, 0, 0] ![1, 128, 128] inb_S8x128x128_S1x128x128_7_0_0)))
    (k0_pay25 (View.ld x4 (Rect.unit (s := S128x8) ![0, 6] ![128, 1] inb_S128x8_S128x1_0_6))) (k0_pay26 (View.ld x4 (Rect.unit (s := S128x8) ![0, 7] ![128, 1] inb_S128x8_S128x1_0_7)))
    (k0_pay30 (k0_pay9 (tV x0 x2 x11)) (k0_pay13 (View.ld x3 (Rect.unit (s := S8x128x128) ![2, 0, 0] ![1, 128, 128] inb_S8x128x128_S1x128x128_2_0_0))) (k0_pay14 (View.ld x3 (Rect.unit (s := S8x128x128) ![3, 0, 0] ![1, 128, 128] inb_S8x128x128_S1x128x128_3_0_0))) (k0_pay15 (View.ld x3 (Rect.unit (s := S8x128x128) ![4, 0, 0] ![1, 128, 128] inb_S8x128x128_S1x128x128_4_0_0))) (k0_pay16 (View.ld x3 (Rect.unit (s := S8x128x128) ![5, 0, 0] ![1, 128, 128] inb_S8x128x128_S1x128x128_5_0_0)))
      (k0_pay17 k0_pay10 (View.ld x3 (Rect.unit (s := S8x128x128) ![6, 0, 0] ![1, 128, 128] inb_S8x128x128_S1x128x128_6_0_0))) (k0_pay18 k0_pay10 (View.ld x3 (Rect.unit (s := S8x128x128) ![7, 0, 0] ![1, 128, 128] inb_S8x128x128_S1x128x128_7_0_0)))
      (k0_pay21 (View.ld x4 (Rect.unit (s := S128x8) ![0, 2] ![128, 1] inb_S128x8_S128x1_0_2))) (k0_pay22 (View.ld x4 (Rect.unit (s := S128x8) ![0, 3] ![128, 1] inb_S128x8_S128x1_0_3))) (k0_pay23 (View.ld x4 (Rect.unit (s := S128x8) ![0, 4] ![128, 1] inb_S128x8_S128x1_0_4))) (k0_pay24 (View.ld x4 (Rect.unit (s := S128x8) ![0, 5] ![128, 1] inb_S128x8_S128x1_0_5))) (k0_pay25 (View.ld x4 (Rect.unit (s := S128x8) ![0, 6] ![128, 1] inb_S128x8_S128x1_0_6))) (k0_pay26 (View.ld x4 (Rect.unit (s := S128x8) ![0, 7] ![128, 1] inb_S128x8_S128x1_0_7)))
      (k0_pay27 (k0_pay9 (tV x0 x2 x11)) (k0_pay11 (View.ld x3 (Rect.unit (s := S8x128x128) ![0, 0, 0] ![1, 128, 128] inb_S8x128x128_S1x128x128_0_0_0))) (View.ld x4 (Rect.unit (s := S128x8) ![0, 0] ![128, 1] inb_S128x8_S128x1_0_0)))
      (k0_pay28 (k0_pay9 (tV x0 x2 x11)) (k0_pay12 (View.ld x3 (Rect.unit (s := S8x128x128) ![1, 0, 0] ![1, 128, 128] inb_S8x128x128_S1x128x128_1_0_0))) (View.ld x4 (Rect.unit (s := S128x8) ![0, 1] ![128, 1] inb_S128x8_S128x1_0_1)))
      (k0_pay29 (k0_pay9 (tV x0 x2 x11))) (constant S128x128 .f32 0#32))
    (k0_pay31 (k0_pay9 (tV x0 x2 x11)) (k0_pay11 (View.ld x3 (Rect.unit (s := S8x128x128) ![0, 0, 0] ![1, 128, 128] inb_S8x128x128_S1x128x128_0_0_0))) (k0_pay19 (View.ld x4 (Rect.unit (s := S128x8) ![0, 0] ![128, 1] inb_S128x8_S128x1_0_0))))
    (k0_pay32 (k0_pay9 (tV x0 x2 x11)) (k0_pay12 (View.ld x3 (Rect.unit (s := S8x128x128) ![1, 0, 0] ![1, 128, 128] inb_S8x128x128_S1x128x128_1_0_0))) (k0_pay20 (View.ld x4 (Rect.unit (s := S128x8) ![0, 1] ![128, 1] inb_S128x8_S128x1_0_1))))
    (k0_pay33 (k0_pay9 (tV x0 x2 x11)) (k0_pay13 (View.ld x3 (Rect.unit (s := S8x128x128) ![2, 0, 0] ![1, 128, 128] inb_S8x128x128_S1x128x128_2_0_0))) (k0_pay21 (View.ld x4 (Rect.unit (s := S128x8) ![0, 2] ![128, 1] inb_S128x8_S128x1_0_2))))
    (k0_pay34 (k0_pay9 (tV x0 x2 x11)) (k0_pay14 (View.ld x3 (Rect.unit (s := S8x128x128) ![3, 0, 0] ![1, 128, 128] inb_S8x128x128_S1x128x128_3_0_0))) (k0_pay22 (View.ld x4 (Rect.unit (s := S128x8) ![0, 3] ![128, 1] inb_S128x8_S128x1_0_3))))
    (k0_pay35 (k0_pay9 (tV x0 x2 x11)) (k0_pay15 (View.ld x3 (Rect.unit (s := S8x128x128) ![4, 0, 0] ![1, 128, 128] inb_S8x128x128_S1x128x128_4_0_0))) (k0_pay23 (View.ld x4 (Rect.unit (s := S128x8) ![0, 4] ![128, 1] inb_S128x8_S128x1_0_4))))
    (k0_pay36 (k0_pay9 (tV x0 x2 x11)) (k0_pay16 (View.ld x3 (Rect.unit (s := S8x128x128) ![5, 0, 0] ![1, 128, 128] inb_S8x128x128_S1x128x128_5_0_0))) (k0_pay24 (View.ld x4 (Rect.unit (s := S128x8) ![0, 5] ![128, 1] inb_S128x8_S128x1_0_5))))
    (k0_pay37 (k0_pay9 (tV x0 x2 x11))) (View.ld x2 (Rect.unit (s := S1024x7168) ![0, 2048] ![1024, 1024] inb_S1024x7168_S1024x1024_0_2048))

/-- The tile's groups of the pooled row that a window of two, four and eight makes. -/
def tQ0 (x0 : Vec Ideal S1x256x1024 .f32) (x2 : Vec Ideal S1024x7168 .bf16) (x11 : Vec Ideal S8x1024 .f32) (ext : Vec Ideal S272x1024 .f32)
    (a : BitVec 32) : FVec Ideal S256x256 .f32 :=
  k0_pay45 (k0_pay42 (tXn x0 x11) (View.ld x2 (Rect.unit (s := S1024x7168) ![0, 3072] ![1024, 1024] inb_S1024x7168_S1024x1024_0_3072))) (k0_pay43 (tXn x0 x11) (View.ld x2 (Rect.unit (s := S1024x7168) ![0, 3072] ![1024, 1024] inb_S1024x7168_S1024x1024_0_3072)) (View.ld ext (Rect.unit (s := S272x1024) ![15, 0] ![256, 256] inb_S272x1024_S256x256_15_0))) (k0_pay44 a)
@[inherit_doc tQ0]
def tQ1 (x0 : Vec Ideal S1x256x1024 .f32) (x2 : Vec Ideal S1024x7168 .bf16) (x11 : Vec Ideal S8x1024 .f32) (ext : Vec Ideal S272x1024 .f32)
    (a : BitVec 32) : FVec Ideal S256x256 .f32 :=
  k0_pay46 (tXb x0 x2 x11) (k0_pay41 a) (View.ld ext (Rect.unit (s := S272x1024) ![15, 256] ![256, 256] inb_S272x1024_S256x256_15_256)) (View.ld ext (Rect.unit (s := S272x1024) ![14, 256] ![256, 256] inb_S272x1024_S256x256_14_256)) (View.ld ext (Rect.unit (s := S272x1024) ![13, 256] ![256, 256] inb_S272x1024_S256x256_13_256))
@[inherit_doc tQ0]
def tQ2 (x0 : Vec Ideal S1x256x1024 .f32) (x2 : Vec Ideal S1024x7168 .bf16) (x11 : Vec Ideal S8x1024 .f32) (ext : Vec Ideal S272x1024 .f32)
    (a : BitVec 32) : FVec Ideal S256x256 .f32 :=
  k0_pay50 (k0_pay47 (tXb x0 x2 x11)) (k0_pay48 (tXb x0 x2 x11) (View.ld ext (Rect.unit (s := S272x1024) ![15, 512] ![256, 256] inb_S272x1024_S256x256_15_512)) (View.ld ext (Rect.unit (s := S272x1024) ![14, 512] ![256, 256] inb_S272x1024_S256x256_14_512)) (View.ld ext (Rect.unit (s := S272x1024) ![13, 512] ![256, 256] inb_S272x1024_S256x256_13_512)) (View.ld ext (Rect.unit (s := S272x1024) ![12, 512] ![256, 256] inb_S272x1024_S256x256_12_512)) (View.ld ext (Rect.unit (s := S272x1024) ![11, 512] ![256, 256] inb_S272x1024_S256x256_11_512)) (View.ld ext (Rect.unit (s := S272x1024) ![10, 512] ![256, 256] inb_S272x1024_S256x256_10_512)) (View.ld ext (Rect.unit (s := S272x1024) ![9, 512] ![256, 256] inb_S272x1024_S256x256_9_512))) (k0_pay49 (k0_pay41 a))

/-- The first thirteen terms of the windows of sixteen. -/
def tS (x0 : Vec Ideal S1x256x1024 .f32) (x2 : Vec Ideal S1024x7168 .bf16) (x11 : Vec Ideal S8x1024 .f32) (ext : Vec Ideal S272x1024 .f32) :
    FVec Ideal S256x256 .f32 :=
  k0_pay52 (tXb x0 x2 x11) (View.ld ext (Rect.unit (s := S272x1024) ![15, 768] ![256, 256] inb_S272x1024_S256x256_15_768)) (View.ld ext (Rect.unit (s := S272x1024) ![14, 768] ![256, 256] inb_S272x1024_S256x256_14_768)) (View.ld ext (Rect.unit (s := S272x1024) ![13, 768] ![256, 256] inb_S272x1024_S256x256_13_768)) (View.ld ext (Rect.unit (s := S272x1024) ![12, 768] ![256, 256] inb_S272x1024_S256x256_12_768)) (View.ld ext (Rect.unit (s := S272x1024) ![11, 768] ![256, 256] inb_S272x1024_S256x256_11_768)) (View.ld ext (Rect.unit (s := S272x1024) ![10, 768] ![256, 256] inb_S272x1024_S256x256_10_768)) (View.ld ext (Rect.unit (s := S272x1024) ![9, 768] ![256, 256] inb_S272x1024_S256x256_9_768)) (View.ld ext (Rect.unit (s := S272x1024) ![8, 768] ![256, 256] inb_S272x1024_S256x256_8_768)) (View.ld ext (Rect.unit (s := S272x1024) ![7, 768] ![256, 256] inb_S272x1024_S256x256_7_768)) (View.ld ext (Rect.unit (s := S272x1024) ![6, 768] ![256, 256] inb_S272x1024_S256x256_6_768)) (View.ld ext (Rect.unit (s := S272x1024) ![5, 768] ![256, 256] inb_S272x1024_S256x256_5_768)) (View.ld ext (Rect.unit (s := S272x1024) ![4, 768] ![256, 256] inb_S272x1024_S256x256_4_768)) (View.ld ext (Rect.unit (s := S272x1024) ![3, 768] ![256, 256] inb_S272x1024_S256x256_3_768))

/-- The tile's second branch. -/
def tYb (x0 : Vec Ideal S1x256x1024 .f32) (x2 : Vec Ideal S1024x7168 .bf16) (x5 : Vec Ideal S4x256x256 .bf16) (x11 : Vec Ideal S8x1024 .f32)
    (ext : Vec Ideal S272x1024 .f32) (a : BitVec 32) : FVec Ideal S256x1024 .f32 :=
  k0_pay60 (tXn x0 x11)
    (k0_pay53 (k0_pay41 a) (tQ0 x0 x2 x11 ext a) (tQ1 x0 x2 x11 ext a) (tQ2 x0 x2 x11 ext a) (k0_pay51 (tXb x0 x2 x11)) (tS x0 x2 x11 ext) (View.ld ext (Rect.unit (s := S272x1024) ![2, 768] ![256, 256] inb_S272x1024_S256x256_2_768)) (View.ld ext (Rect.unit (s := S272x1024) ![1, 768] ![256, 256] inb_S272x1024_S256x256_1_768)))
    (k0_pay56 (k0_pay41 a) (tQ0 x0 x2 x11 ext a) (tQ1 x0 x2 x11 ext a) (tQ2 x0 x2 x11 ext a) (k0_pay51 (tXb x0 x2 x11)) (tS x0 x2 x11 ext) (View.ld ext (Rect.unit (s := S272x1024) ![2, 768] ![256, 256] inb_S272x1024_S256x256_2_768)) (View.ld ext (Rect.unit (s := S272x1024) ![1, 768] ![256, 256] inb_S272x1024_S256x256_1_768)) (View.ld x5 (Rect.unit (s := S4x256x256) ![0, 0, 0] ![1, 256, 256] inb_S4x256x256_S1x256x256_0_0_0)))
    (k0_pay57 (k0_pay41 a) (tQ0 x0 x2 x11 ext a) (tQ1 x0 x2 x11 ext a) (tQ2 x0 x2 x11 ext a) (k0_pay51 (tXb x0 x2 x11)) (tS x0 x2 x11 ext) (View.ld ext (Rect.unit (s := S272x1024) ![2, 768] ![256, 256] inb_S272x1024_S256x256_2_768)) (View.ld ext (Rect.unit (s := S272x1024) ![1, 768] ![256, 256] inb_S272x1024_S256x256_1_768)) (View.ld x5 (Rect.unit (s := S4x256x256) ![1, 0, 0] ![1, 256, 256] inb_S4x256x256_S1x256x256_1_0_0)))
    (k0_pay58 (k0_pay41 a) (tQ0 x0 x2 x11 ext a) (tQ1 x0 x2 x11 ext a) (tQ2 x0 x2 x11 ext a) (k0_pay51 (tXb x0 x2 x11)) (tS x0 x2 x11 ext) (View.ld ext (Rect.unit (s := S272x1024) ![2, 768] ![256, 256] inb_S272x1024_S256x256_2_768)) (View.ld ext (Rect.unit (s := S272x1024) ![1, 768] ![256, 256] inb_S272x1024_S256x256_1_768)))
    (k0_pay59 (View.ld x5 (Rect.unit (s := S4x256x256) ![2, 0, 0] ![1, 256, 256] inb_S4x256x256_S1x256x256_2_0_0))) (View.ld x5 (Rect.unit (s := S4x256x256) ![3, 0, 0] ![1, 256, 256] inb_S4x256x256_S1x256x256_3_0_0)) (View.ld x11 (Rect.unit (s := S8x1024) ![3, 0] ![1, 1024] inb_S8x1024_S1x1024_3_0)) (View.ld x2 (Rect.unit (s := S1024x7168) ![0, 4096] ![1024, 1024] inb_S1024x7168_S1024x1024_0_4096))

/-- The tile's rows before the embedding. -/
def tHid (x0 : Vec Ideal S1x256x1024 .f32) (x2 : Vec Ideal S1024x7168 .bf16) (x3 : Vec Ideal S8x128x128 .f32)
    (x4 : Vec Ideal S128x8 .f32) (x5 : Vec Ideal S4x256x256 .bf16) (x6 x7 x8 : Vec Ideal S1024x1024 .bf16) (x11 : Vec Ideal S8x1024 .f32)
    (ext : Vec Ideal S272x1024 .f32) (a : BitVec 32) : FVec Ideal S256x1024 .f32 :=
  k0_pay64 (k0_pay3 (View.ld x0 (Rect.unit (s := S1x256x1024) ![0, 0, 0] ![1, 256, 1024] inb_S1x256x1024_S1x256x1024_0_0_0))) (tYa x0 x2 x3 x4 x11) (tYb x0 x2 x5 x11 ext a) (k0_pay62 (tXn x0 x11) (View.ld x2 (Rect.unit (s := S1024x7168) ![0, 6144] ![1024, 1024] inb_S1024x7168_S1024x1024_0_6144)))
    (k0_pay63 (tXn x0 x11) (View.ld x2 (Rect.unit (s := S1024x7168) ![0, 5120] ![1024, 1024] inb_S1024x7168_S1024x1024_0_5120))) (View.ld x6 (Rect.unit (s := S1024x1024) ![0, 0] ![1024, 1024] inb_S1024x1024_S1024x1024_0_0)) (View.ld x7 (Rect.unit (s := S1024x1024) ![0, 0] ![1024, 1024] inb_S1024x1024_S1024x1024_0_0)) (View.ld x8 (Rect.unit (s := S1024x1024) ![0, 0] ![1024, 1024] inb_S1024x1024_S1024x1024_0_0)) (View.ld x11 (Rect.unit (s := S8x1024) ![4, 0] ![1, 1024] inb_S8x1024_S1x1024_4_0))

/-- The tile's output rows. -/
def tY (x0 : Vec Ideal S1x256x1024 .f32) (x1 : Vec Ideal S1x256x256 .f32) (x2 : Vec Ideal S1024x7168 .bf16) (x3 : Vec Ideal S8x128x128 .f32)
    (x4 : Vec Ideal S128x8 .f32) (x5 : Vec Ideal S4x256x256 .bf16) (x6 x7 x8 : Vec Ideal S1024x1024 .bf16) (x9 : Vec Ideal S256x1024 .bf16)
    (x10 : Vec Ideal S1024x1024 .bf16) (x11 : Vec Ideal S8x1024 .f32)
    (ext : Vec Ideal S272x1024 .f32) (a : BitVec 32) : Vec Ideal S1x256x1024 .f32 :=
  k0_pay1 (tHid x0 x2 x3 x4 x5 x6 x7 x8 x11 ext a)
    (k0_pay66 (tHid x0 x2 x3 x4 x5 x6 x7 x8 x11 ext a) (k0_pay65 (k0_pay61 (View.ld x1 (Rect.unit (s := S1x256x256) ![0, 0, 0] ![1, 256, 256] inb_S1x256x256_S1x256x256_0_0_0))))
      (View.ld x9 (Rect.unit (s := S256x1024) ![0, 0] ![256, 1024] inb_S256x1024_S256x1024_0_0)) (View.ld x11 (Rect.unit (s := S8x1024) ![5, 0] ![1, 1024] inb_S8x1024_S1x1024_5_0)) (View.ld x10 (Rect.unit (s := S1024x1024) ![0, 0] ![1024, 1024] inb_S1024x1024_S1024x1024_0_0)) (View.ld x11 (Rect.unit (s := S8x1024) ![6, 0] ![1, 1024] inb_S8x1024_S1x1024_6_0)))

/-- The value rows the tile writes out. -/
def tVn (x0 : Vec Ideal S1x256x1024 .f32) (x2 : Vec Ideal S1024x7168 .bf16) (x11 : Vec Ideal S8x1024 .f32) : Vec Ideal S1x128x1024 .f32 :=
  k0_pay8 (tXn x0 x11) (k0_pay6 (View.ld x2 (Rect.unit (s := S1024x7168) ![0, 1024] ![1024, 1024] inb_S1024x7168_S1024x1024_0_1024))) (View.ld x11 (Rect.unit (s := S8x1024) ![1, 0] ![1, 1024] inb_S8x1024_S1x1024_1_0)) (View.ld x11 (Rect.unit (s := S8x1024) ![2, 0] ![1, 1024] inb_S8x1024_S1x1024_2_0))

/-- The tile's piece of the kept pooling rows. -/
def tPiece (x0 : Vec Ideal S1x256x1024 .f32) (x2 : Vec Ideal S1024x7168 .bf16) (x11 : Vec Ideal S8x1024 .f32) : View.Piece (Elt Ideal) S272x1024 .f32 :=
  ⟨(Rect.unit (s := S272x1024) ![16, 0] ![256, 1024] inb_S272x1024_S256x1024_16_0), k0_pay40 (tXn x0 x11) (View.ld x2 (Rect.unit (s := S1024x7168) ![0, 3072] ![1024, 1024] inb_S1024x7168_S1024x1024_0_3072))⟩

/-- The kept pooling rows of a sequence's first tile: the tile's own under sixteen rows of zeros. -/
def extA (x0 : Vec Ideal S1x256x1024 .f32) (x2 : Vec Ideal S1024x7168 .bf16) (x11 : Vec Ideal S8x1024 .f32) : Vec Ideal S272x1024 .f32 :=
  View.canon [tPiece x0 x2 x11, ⟨(Rect.unit (s := S272x1024) ![0, 0] ![16, 1024] inb_S272x1024_S16x1024_0_0), k0_pay2 (F := Ideal)⟩]

/-- The rows of the pool's result, out of the kept rows. -/
def tPool (ext : Vec Ideal S272x1024 .f32) : Vec Ideal S1x15x1024 .f32 :=
  k0_pay54 (View.ld ext (Rect.unit (s := S272x1024) ![257, 0] ![15, 1024] inb_S272x1024_S15x1024_257_0))

/-- The kept rows as the tile leaves them: its last sixteen moved to the top. -/
def tKeep (x0 : Vec Ideal S1x256x1024 .f32) (x2 : Vec Ideal S1024x7168 .bf16) (x11 : Vec Ideal S8x1024 .f32) (ext : Vec Ideal S272x1024 .f32)
    (L : List (View.Piece (Elt Ideal) S272x1024 .f32)) : Vec Ideal S272x1024 .f32 :=
  View.canon (⟨(Rect.unit (s := S272x1024) ![0, 0] ![16, 1024] inb_S272x1024_S16x1024_0_0), k0_pay55 (View.ld ext (Rect.unit (s := S272x1024) ![256, 0] ![16, 1024] inb_S272x1024_S16x1024_256_0))⟩ :: tPiece x0 x2 x11 :: L)

end Cert.KernelIdeal.Gen

end
-- ==== Proof.Loads.lean ====
/-
  Each row of what a tile stores is the layer's row function of the tile's input rows, for blocks that hold the
  layer's weights and kept rows that hold the sequence's pooling inputs.
-/
module

public import proofs.«01_k».proof.Proof.Tile

@[expose] public section

set_option maxRecDepth 16384

noncomputable section

namespace Cert.KernelIdeal.Gen

open Idealize.ShloMosaic Cert.Layer
open scoped BigOperators

/-- The blocks of the weights hold the layer's weights. -/
structure Holds (P : Par) (x2 : Vec Ideal S1024x7168 .bf16) (x3 : Vec Ideal S8x128x128 .f32)
    (x4 : Vec Ideal S128x8 .f32) (x5 : Vec Ideal S4x256x256 .bf16) (x6 x7 x8 : Vec Ideal S1024x1024 .bf16) (x9 : Vec Ideal S256x1024 .bf16)
    (x10 : Vec Ideal S1024x1024 .bf16) (x11 : Vec Ideal S8x1024 .f32) : Prop where
  w : ∀ k d, x2 (ix2 k d) = P.wIn k d
  s : ∀ h r t, x3 (ix3 h r t) = P.wS h r t
  b : ∀ r h, x4 (ix2 r h) = P.bS h r
  p : ∀ g k e, x5 (ix3 g k e) = P.wPool g k e
  pa : ∀ k d, x6 (ix2 k d) = P.wPa k d
  pb : ∀ k d, x7 (ix2 k d) = P.wPb k d
  o : ∀ k d, x8 (ix2 k d) = P.wOut k d
  ple : ∀ k d, x9 (ix2 k d) = P.wPle k d
  pg : ∀ k d, x10 (ix2 k d) = P.wPg k d
  g0 : ∀ d, x11 (ix2 0 d) = P.preG d
  g1 : ∀ d, x11 (ix2 1 d) = P.lnG d
  g2 : ∀ d, x11 (ix2 2 d) = P.lnB d
  g3 : ∀ d, x11 (ix2 3 d) = P.poolScale d
  g4 : ∀ d, x11 (ix2 4 d) = P.postG d
  g5 : ∀ d, x11 (ix2 5 d) = P.pleInG d
  g6 : ∀ d, x11 (ix2 6 d) = P.pleOutG d

/-- The loaded columns 0 of the projection. -/
theorem ldW0 (x2 : Vec Ideal S1024x7168 .bf16) (k d : Fin 1024) : (View.ld x2 (Rect.unit (s := S1024x7168) ![0, 0] ![1024, 1024] inb_S1024x7168_S1024x1024_0_0)) (ix2 k d) = x2 (ix2 k ⟨0 + d.val, by omega⟩) := by
  rw [View.ld_unit]
  pointwise []

/-- The loaded columns 1 of the projection. -/
theorem ldW1 (x2 : Vec Ideal S1024x7168 .bf16) (k d : Fin 1024) : (View.ld x2 (Rect.unit (s := S1024x7168) ![0, 1024] ![1024, 1024] inb_S1024x7168_S1024x1024_0_1024)) (ix2 k d) = x2 (ix2 k ⟨1024 + d.val, by omega⟩) := by
  rw [View.ld_unit]
  pointwise []

/-- The loaded columns 2 of the projection. -/
theorem ldW2 (x2 : Vec Ideal S1024x7168 .bf16) (k d : Fin 1024) : (View.ld x2 (Rect.unit (s := S1024x7168) ![0, 2048] ![1024, 1024] inb_S1024x7168_S1024x1024_0_2048)) (ix2 k d) = x2 (ix2 k ⟨2048 + d.val, by omega⟩) := by
  rw [View.ld_unit]
  pointwise []

/-- The loaded columns 3 of the projection. -/
theorem ldW3 (x2 : Vec Ideal S1024x7168 .bf16) (k d : Fin 1024) : (View.ld x2 (Rect.unit (s := S1024x7168) ![0, 3072] ![1024, 1024] inb_S1024x7168_S1024x1024_0_3072)) (ix2 k d) = x2 (ix2 k ⟨3072 + d.val, by omega⟩) := by
  rw [View.ld_unit]
  pointwise []

/-- The loaded columns 4 of the projection. -/
theorem ldW4 (x2 : Vec Ideal S1024x7168 .bf16) (k d : Fin 1024) : (View.ld x2 (Rect.unit (s := S1024x7168) ![0, 4096] ![1024, 1024] inb_S1024x7168_S1024x1024_0_4096)) (ix2 k d) = x2 (ix2 k ⟨4096 + d.val, by omega⟩) := by
  rw [View.ld_unit]
  pointwise []

/-- The loaded columns 5 of the projection. -/
theorem ldW5 (x2 : Vec Ideal S1024x7168 .bf16) (k d : Fin 1024) : (View.ld x2 (Rect.unit (s := S1024x7168) ![0, 5120] ![1024, 1024] inb_S1024x7168_S1024x1024_0_5120)) (ix2 k d) = x2 (ix2 k ⟨5120 + d.val, by omega⟩) := by
  rw [View.ld_unit]
  pointwise []

/-- The loaded columns 6 of the projection. -/
theorem ldW6 (x2 : Vec Ideal S1024x7168 .bf16) (k d : Fin 1024) : (View.ld x2 (Rect.unit (s := S1024x7168) ![0, 6144] ![1024, 1024] inb_S1024x7168_S1024x1024_0_6144)) (ix2 k d) = x2 (ix2 k ⟨6144 + d.val, by omega⟩) := by
  rw [View.ld_unit]
  pointwise []

/-- The loaded scale row 0. -/
theorem ldG0 (x11 : Vec Ideal S8x1024 .f32) (d : Fin 1024) : (View.ld x11 (Rect.unit (s := S8x1024) ![0, 0] ![1, 1024] inb_S8x1024_S1x1024_0_0)) (ix2 0 d) = x11 (ix2 0 d) := by
  rw [View.ld_unit]
  pointwise []

/-- The loaded scale row 1. -/
theorem ldG1 (x11 : Vec Ideal S8x1024 .f32) (d : Fin 1024) : (View.ld x11 (Rect.unit (s := S8x1024) ![1, 0] ![1, 1024] inb_S8x1024_S1x1024_1_0)) (ix2 0 d) = x11 (ix2 1 d) := by
  rw [View.ld_unit]
  pointwise []

/-- The loaded scale row 2. -/
theorem ldG2 (x11 : Vec Ideal S8x1024 .f32) (d : Fin 1024) : (View.ld x11 (Rect.unit (s := S8x1024) ![2, 0] ![1, 1024] inb_S8x1024_S1x1024_2_0)) (ix2 0 d) = x11 (ix2 2 d) := by
  rw [View.ld_unit]
  pointwise []

/-- The loaded scale row 3. -/
theorem ldG3 (x11 : Vec Ideal S8x1024 .f32) (d : Fin 1024) : (View.ld x11 (Rect.unit (s := S8x1024) ![3, 0] ![1, 1024] inb_S8x1024_S1x1024_3_0)) (ix2 0 d) = x11 (ix2 3 d) := by
  rw [View.ld_unit]
  pointwise []

/-- The loaded scale row 4. -/
theorem ldG4 (x11 : Vec Ideal S8x1024 .f32) (d : Fin 1024) : (View.ld x11 (Rect.unit (s := S8x1024) ![4, 0] ![1, 1024] inb_S8x1024_S1x1024_4_0)) (ix2 0 d) = x11 (ix2 4 d) := by
  rw [View.ld_unit]
  pointwise []

/-- The loaded scale row 5. -/
theorem ldG5 (x11 : Vec Ideal S8x1024 .f32) (d : Fin 1024) : (View.ld x11 (Rect.unit (s := S8x1024) ![5, 0] ![1, 1024] inb_S8x1024_S1x1024_5_0)) (ix2 0 d) = x11 (ix2 5 d) := by
  rw [View.ld_unit]
  pointwise []

/-- The loaded scale row 6. -/
theorem ldG6 (x11 : Vec Ideal S8x1024 .f32) (d : Fin 1024) : (View.ld x11 (Rect.unit (s := S8x1024) ![6, 0] ![1, 1024] inb_S8x1024_S1x1024_6_0)) (ix2 0 d) = x11 (ix2 6 d) := by
  rw [View.ld_unit]
  pointwise []

/-- The loaded spatial matrix 0. -/
theorem ldS0 (x3 : Vec Ideal S8x128x128 .f32) (r t : Fin 128) : (View.ld x3 (Rect.unit (s := S8x128x128) ![0, 0, 0] ![1, 128, 128] inb_S8x128x128_S1x128x128_0_0_0)) (ix3 0 r t) = x3 (ix3 0 r t) := by
  rw [View.ld_unit]
  pointwise []

/-- The loaded spatial shift 0. -/
theorem ldB0 (x4 : Vec Ideal S128x8 .f32) (r : Fin 128) : (View.ld x4 (Rect.unit (s := S128x8) ![0, 0] ![128, 1] inb_S128x8_S128x1_0_0)) (ix2 r 0) = x4 (ix2 r 0) := by
  rw [View.ld_unit]
  pointwise []

/-- The loaded spatial matrix 1. -/
theorem ldS1 (x3 : Vec Ideal S8x128x128 .f32) (r t : Fin 128) : (View.ld x3 (Rect.unit (s := S8x128x128) ![1, 0, 0] ![1, 128, 128] inb_S8x128x128_S1x128x128_1_0_0)) (ix3 0 r t) = x3 (ix3 1 r t) := by
  rw [View.ld_unit]
  pointwise []

/-- The loaded spatial shift 1. -/
theorem ldB1 (x4 : Vec Ideal S128x8 .f32) (r : Fin 128) : (View.ld x4 (Rect.unit (s := S128x8) ![0, 1] ![128, 1] inb_S128x8_S128x1_0_1)) (ix2 r 0) = x4 (ix2 r 1) := by
  rw [View.ld_unit]
  pointwise []

/-- The loaded spatial matrix 2. -/
theorem ldS2 (x3 : Vec Ideal S8x128x128 .f32) (r t : Fin 128) : (View.ld x3 (Rect.unit (s := S8x128x128) ![2, 0, 0] ![1, 128, 128] inb_S8x128x128_S1x128x128_2_0_0)) (ix3 0 r t) = x3 (ix3 2 r t) := by
  rw [View.ld_unit]
  pointwise []

/-- The loaded spatial shift 2. -/
theorem ldB2 (x4 : Vec Ideal S128x8 .f32) (r : Fin 128) : (View.ld x4 (Rect.unit (s := S128x8) ![0, 2] ![128, 1] inb_S128x8_S128x1_0_2)) (ix2 r 0) = x4 (ix2 r 2) := by
  rw [View.ld_unit]
  pointwise []

/-- The loaded spatial matrix 3. -/
theorem ldS3 (x3 : Vec Ideal S8x128x128 .f32) (r t : Fin 128) : (View.ld x3 (Rect.unit (s := S8x128x128) ![3, 0, 0] ![1, 128, 128] inb_S8x128x128_S1x128x128_3_0_0)) (ix3 0 r t) = x3 (ix3 3 r t) := by
  rw [View.ld_unit]
  pointwise []

/-- The loaded spatial shift 3. -/
theorem ldB3 (x4 : Vec Ideal S128x8 .f32) (r : Fin 128) : (View.ld x4 (Rect.unit (s := S128x8) ![0, 3] ![128, 1] inb_S128x8_S128x1_0_3)) (ix2 r 0) = x4 (ix2 r 3) := by
  rw [View.ld_unit]
  pointwise []

/-- The loaded spatial matrix 4. -/
theorem ldS4 (x3 : Vec Ideal S8x128x128 .f32) (r t : Fin 128) : (View.ld x3 (Rect.unit (s := S8x128x128) ![4, 0, 0] ![1, 128, 128] inb_S8x128x128_S1x128x128_4_0_0)) (ix3 0 r t) = x3 (ix3 4 r t) := by
  rw [View.ld_unit]
  pointwise []

/-- The loaded spatial shift 4. -/
theorem ldB4 (x4 : Vec Ideal S128x8 .f32) (r : Fin 128) : (View.ld x4 (Rect.unit (s := S128x8) ![0, 4] ![128, 1] inb_S128x8_S128x1_0_4)) (ix2 r 0) = x4 (ix2 r 4) := by
  rw [View.ld_unit]
  pointwise []

/-- The loaded spatial matrix 5. -/
theorem ldS5 (x3 : Vec Ideal S8x128x128 .f32) (r t : Fin 128) : (View.ld x3 (Rect.unit (s := S8x128x128) ![5, 0, 0] ![1, 128, 128] inb_S8x128x128_S1x128x128_5_0_0)) (ix3 0 r t) = x3 (ix3 5 r t) := by
  rw [View.ld_unit]
  pointwise []

/-- The loaded spatial shift 5. -/
theorem ldB5 (x4 : Vec Ideal S128x8 .f32) (r : Fin 128) : (View.ld x4 (Rect.unit (s := S128x8) ![0, 5] ![128, 1] inb_S128x8_S128x1_0_5)) (ix2 r 0) = x4 (ix2 r 5) := by
  rw [View.ld_unit]
  pointwise []

/-- The loaded spatial matrix 6. -/
theorem ldS6 (x3 : Vec Ideal S8x128x128 .f32) (r t : Fin 128) : (View.ld x3 (Rect.unit (s := S8x128x128) ![6, 0, 0] ![1, 128, 128] inb_S8x128x128_S1x128x128_6_0_0)) (ix3 0 r t) = x3 (ix3 6 r t) := by
  rw [View.ld_unit]
  pointwise []

/-- The loaded spatial shift 6. -/
theorem ldB6 (x4 : Vec Ideal S128x8 .f32) (r : Fin 128) : (View.ld x4 (Rect.unit (s := S128x8) ![0, 6] ![128, 1] inb_S128x8_S128x1_0_6)) (ix2 r 0) = x4 (ix2 r 6) := by
  rw [View.ld_unit]
  pointwise []

/-- The loaded spatial matrix 7. -/
theorem ldS7 (x3 : Vec Ideal S8x128x128 .f32) (r t : Fin 128) : (View.ld x3 (Rect.unit (s := S8x128x128) ![7, 0, 0] ![1, 128, 128] inb_S8x128x128_S1x128x128_7_0_0)) (ix3 0 r t) = x3 (ix3 7 r t) := by
  rw [View.ld_unit]
  pointwise []

/-- The loaded spatial shift 7. -/
theorem ldB7 (x4 : Vec Ideal S128x8 .f32) (r : Fin 128) : (View.ld x4 (Rect.unit (s := S128x8) ![0, 7] ![128, 1] inb_S128x8_S128x1_0_7)) (ix2 r 0) = x4 (ix2 r 7) := by
  rw [View.ld_unit]
  pointwise []

/-- The loaded pool matrix 0. -/
theorem ldP0 (x5 : Vec Ideal S4x256x256 .bf16) (k e : Fin 256) : (View.ld x5 (Rect.unit (s := S4x256x256) ![0, 0, 0] ![1, 256, 256] inb_S4x256x256_S1x256x256_0_0_0)) (ix3 0 k e) = x5 (ix3 0 k e) := by
  rw [View.ld_unit]
  pointwise []

/-- The loaded pool matrix 1. -/
theorem ldP1 (x5 : Vec Ideal S4x256x256 .bf16) (k e : Fin 256) : (View.ld x5 (Rect.unit (s := S4x256x256) ![1, 0, 0] ![1, 256, 256] inb_S4x256x256_S1x256x256_1_0_0)) (ix3 0 k e) = x5 (ix3 1 k e) := by
  rw [View.ld_unit]
  pointwise []

/-- The loaded pool matrix 2. -/
theorem ldP2 (x5 : Vec Ideal S4x256x256 .bf16) (k e : Fin 256) : (View.ld x5 (Rect.unit (s := S4x256x256) ![2, 0, 0] ![1, 256, 256] inb_S4x256x256_S1x256x256_2_0_0)) (ix3 0 k e) = x5 (ix3 2 k e) := by
  rw [View.ld_unit]
  pointwise []

/-- The loaded pool matrix 3. -/
theorem ldP3 (x5 : Vec Ideal S4x256x256 .bf16) (k e : Fin 256) : (View.ld x5 (Rect.unit (s := S4x256x256) ![3, 0, 0] ![1, 256, 256] inb_S4x256x256_S1x256x256_3_0_0)) (ix3 0 k e) = x5 (ix3 3 k e) := by
  rw [View.ld_unit]
  pointwise []

/-- The loaded input tile. -/
theorem ldX0 (x0 : Vec Ideal S1x256x1024 .f32) (i : Fin 256) (d : Fin 1024) : (View.ld x0 (Rect.unit (s := S1x256x1024) ![0, 0, 0] ![1, 256, 1024] inb_S1x256x1024_S1x256x1024_0_0_0)) (ix3 0 i d) = x0 (ix3 0 i d) := by
  rw [View.ld_unit]
  pointwise []

/-- The loaded embedding tile. -/
theorem ldX1 (x1 : Vec Ideal S1x256x256 .f32) (i k : Fin 256) : (View.ld x1 (Rect.unit (s := S1x256x256) ![0, 0, 0] ![1, 256, 256] inb_S1x256x256_S1x256x256_0_0_0)) (ix3 0 i k) = x1 (ix3 0 i k) := by
  rw [View.ld_unit]
  pointwise []

/-- A loaded square matrix. -/
theorem ldSq (x : Vec Ideal S1024x1024 .bf16) (k d : Fin 1024) : (View.ld x (Rect.unit (s := S1024x1024) ![0, 0] ![1024, 1024] inb_S1024x1024_S1024x1024_0_0)) (ix2 k d) = x (ix2 k d) := by
  rw [View.ld_unit]
  pointwise []

/-- The loaded embedding projection. -/
theorem ldPle (x9 : Vec Ideal S256x1024 .bf16) (k : Fin 256) (d : Fin 1024) : (View.ld x9 (Rect.unit (s := S256x1024) ![0, 0] ![256, 1024] inb_S256x1024_S256x1024_0_0)) (ix2 k d) = x9 (ix2 k d) := by
  rw [View.ld_unit]
  pointwise []

/-- The kept rows 1 back, group 0. -/
theorem ldE0_1 (ext : Vec Ideal S272x1024 .f32) (i e : Fin 256) : (View.ld ext (Rect.unit (s := S272x1024) ![15, 0] ![256, 256] inb_S272x1024_S256x256_15_0)) (ix2 i e) = ext (ix2 ⟨15 + i.val, by omega⟩ ⟨0 + e.val, by omega⟩) := by
  rw [View.ld_unit]
  pointwise []

/-- The kept rows 1 back, group 1. -/
theorem ldE1_1 (ext : Vec Ideal S272x1024 .f32) (i e : Fin 256) : (View.ld ext (Rect.unit (s := S272x1024) ![15, 256] ![256, 256] inb_S272x1024_S256x256_15_256)) (ix2 i e) = ext (ix2 ⟨15 + i.val, by omega⟩ ⟨256 + e.val, by omega⟩) := by
  rw [View.ld_unit]
  pointwise []

/-- The kept rows 2 back, group 1. -/
theorem ldE1_2 (ext : Vec Ideal S272x1024 .f32) (i e : Fin 256) : (View.ld ext (Rect.unit (s := S272x1024) ![14, 256] ![256, 256] inb_S272x1024_S256x256_14_256)) (ix2 i e) = ext (ix2 ⟨14 + i.val, by omega⟩ ⟨256 + e.val, by omega⟩) := by
  rw [View.ld_unit]
  pointwise []

/-- The kept rows 3 back, group 1. -/
theorem ldE1_3 (ext : Vec Ideal S272x1024 .f32) (i e : Fin 256) : (View.ld ext (Rect.unit (s := S272x1024) ![13, 256] ![256, 256] inb_S272x1024_S256x256_13_256)) (ix2 i e) = ext (ix2 ⟨13 + i.val, by omega⟩ ⟨256 + e.val, by omega⟩) := by
  rw [View.ld_unit]
  pointwise []

/-- The kept rows 1 back, group 2. -/
theorem ldE2_1 (ext : Vec Ideal S272x1024 .f32) (i e : Fin 256) : (View.ld ext (Rect.unit (s := S272x1024) ![15, 512] ![256, 256] inb_S272x1024_S256x256_15_512)) (ix2 i e) = ext (ix2 ⟨15 + i.val, by omega⟩ ⟨512 + e.val, by omega⟩) := by
  rw [View.ld_unit]
  pointwise []

/-- The kept rows 2 back, group 2. -/
theorem ldE2_2 (ext : Vec Ideal S272x1024 .f32) (i e : Fin 256) : (View.ld ext (Rect.unit (s := S272x1024) ![14, 512] ![256, 256] inb_S272x1024_S256x256_14_512)) (ix2 i e) = ext (ix2 ⟨14 + i.val, by omega⟩ ⟨512 + e.val, by omega⟩) := by
  rw [View.ld_unit]
  pointwise []

/-- The kept rows 3 back, group 2. -/
theorem ldE2_3 (ext : Vec Ideal S272x1024 .f32) (i e : Fin 256) : (View.ld ext (Rect.unit (s := S272x1024) ![13, 512] ![256, 256] inb_S272x1024_S256x256_13_512)) (ix2 i e) = ext (ix2 ⟨13 + i.val, by omega⟩ ⟨512 + e.val, by omega⟩) := by
  rw [View.ld_unit]
  pointwise []

/-- The kept rows 4 back, group 2. -/
theorem ldE2_4 (ext : Vec Ideal S272x1024 .f32) (i e : Fin 256) : (View.ld ext (Rect.unit (s := S272x1024) ![12, 512] ![256, 256] inb_S272x1024_S256x256_12_512)) (ix2 i e) = ext (ix2 ⟨12 + i.val, by omega⟩ ⟨512 + e.val, by omega⟩) := by
  rw [View.ld_unit]
  pointwise []

/-- The kept rows 5 back, group 2. -/
theorem ldE2_5 (ext : Vec Ideal S272x1024 .f32) (i e : Fin 256) : (View.ld ext (Rect.unit (s := S272x1024) ![11, 512] ![256, 256] inb_S272x1024_S256x256_11_512)) (ix2 i e) = ext (ix2 ⟨11 + i.val, by omega⟩ ⟨512 + e.val, by omega⟩) := by
  rw [View.ld_unit]
  pointwise []

/-- The kept rows 6 back, group 2. -/
theorem ldE2_6 (ext : Vec Ideal S272x1024 .f32) (i e : Fin 256) : (View.ld ext (Rect.unit (s := S272x1024) ![10, 512] ![256, 256] inb_S272x1024_S256x256_10_512)) (ix2 i e) = ext (ix2 ⟨10 + i.val, by omega⟩ ⟨512 + e.val, by omega⟩) := by
  rw [View.ld_unit]
  pointwise []

/-- The kept rows 7 back, group 2. -/
theorem ldE2_7 (ext : Vec Ideal S272x1024 .f32) (i e : Fin 256) : (View.ld ext (Rect.unit (s := S272x1024) ![9, 512] ![256, 256] inb_S272x1024_S256x256_9_512)) (ix2 i e) = ext (ix2 ⟨9 + i.val, by omega⟩ ⟨512 + e.val, by omega⟩) := by
  rw [View.ld_unit]
  pointwise []

/-- The kept rows 1 back, group 3. -/
theorem ldE3_1 (ext : Vec Ideal S272x1024 .f32) (i e : Fin 256) : (View.ld ext (Rect.unit (s := S272x1024) ![15, 768] ![256, 256] inb_S272x1024_S256x256_15_768)) (ix2 i e) = ext (ix2 ⟨15 + i.val, by omega⟩ ⟨768 + e.val, by omega⟩) := by
  rw [View.ld_unit]
  pointwise []

/-- The kept rows 2 back, group 3. -/
theorem ldE3_2 (ext : Vec Ideal S272x1024 .f32) (i e : Fin 256) : (View.ld ext (Rect.unit (s := S272x1024) ![14, 768] ![256, 256] inb_S272x1024_S256x256_14_768)) (ix2 i e) = ext (ix2 ⟨14 + i.val, by omega⟩ ⟨768 + e.val, by omega⟩) := by
  rw [View.ld_unit]
  pointwise []

/-- The kept rows 3 back, group 3. -/
theorem ldE3_3 (ext : Vec Ideal S272x1024 .f32) (i e : Fin 256) : (View.ld ext (Rect.unit (s := S272x1024) ![13, 768] ![256, 256] inb_S272x1024_S256x256_13_768)) (ix2 i e) = ext (ix2 ⟨13 + i.val, by omega⟩ ⟨768 + e.val, by omega⟩) := by
  rw [View.ld_unit]
  pointwise []

/-- The kept rows 4 back, group 3. -/
theorem ldE3_4 (ext : Vec Ideal S272x1024 .f32) (i e : Fin 256) : (View.ld ext (Rect.unit (s := S272x1024) ![12, 768] ![256, 256] inb_S272x1024_S256x256_12_768)) (ix2 i e) = ext (ix2 ⟨12 + i.val, by omega⟩ ⟨768 + e.val, by omega⟩) := by
  rw [View.ld_unit]
  pointwise []

/-- The kept rows 5 back, group 3. -/
theorem ldE3_5 (ext : Vec Ideal S272x1024 .f32) (i e : Fin 256) : (View.ld ext (Rect.unit (s := S272x1024) ![11, 768] ![256, 256] inb_S272x1024_S256x256_11_768)) (ix2 i e) = ext (ix2 ⟨11 + i.val, by omega⟩ ⟨768 + e.val, by omega⟩) := by
  rw [View.ld_unit]
  pointwise []

/-- The kept rows 6 back, group 3. -/
theorem ldE3_6 (ext : Vec Ideal S272x1024 .f32) (i e : Fin 256) : (View.ld ext (Rect.unit (s := S272x1024) ![10, 768] ![256, 256] inb_S272x1024_S256x256_10_768)) (ix2 i e) = ext (ix2 ⟨10 + i.val, by omega⟩ ⟨768 + e.val, by omega⟩) := by
  rw [View.ld_unit]
  pointwise []

/-- The kept rows 7 back, group 3. -/
theorem ldE3_7 (ext : Vec Ideal S272x1024 .f32) (i e : Fin 256) : (View.ld ext (Rect.unit (s := S272x1024) ![9, 768] ![256, 256] inb_S272x1024_S256x256_9_768)) (ix2 i e) = ext (ix2 ⟨9 + i.val, by omega⟩ ⟨768 + e.val, by omega⟩) := by
  rw [View.ld_unit]
  pointwise []

/-- The kept rows 8 back, group 3. -/
theorem ldE3_8 (ext : Vec Ideal S272x1024 .f32) (i e : Fin 256) : (View.ld ext (Rect.unit (s := S272x1024) ![8, 768] ![256, 256] inb_S272x1024_S256x256_8_768)) (ix2 i e) = ext (ix2 ⟨8 + i.val, by omega⟩ ⟨768 + e.val, by omega⟩) := by
  rw [View.ld_unit]
  pointwise []

/-- The kept rows 9 back, group 3. -/
theorem ldE3_9 (ext : Vec Ideal S272x1024 .f32) (i e : Fin 256) : (View.ld ext (Rect.unit (s := S272x1024) ![7, 768] ![256, 256] inb_S272x1024_S256x256_7_768)) (ix2 i e) = ext (ix2 ⟨7 + i.val, by omega⟩ ⟨768 + e.val, by omega⟩) := by
  rw [View.ld_unit]
  pointwise []

/-- The kept rows 10 back, group 3. -/
theorem ldE3_10 (ext : Vec Ideal S272x1024 .f32) (i e : Fin 256) : (View.ld ext (Rect.unit (s := S272x1024) ![6, 768] ![256, 256] inb_S272x1024_S256x256_6_768)) (ix2 i e) = ext (ix2 ⟨6 + i.val, by omega⟩ ⟨768 + e.val, by omega⟩) := by
  rw [View.ld_unit]
  pointwise []

/-- The kept rows 11 back, group 3. -/
theorem ldE3_11 (ext : Vec Ideal S272x1024 .f32) (i e : Fin 256) : (View.ld ext (Rect.unit (s := S272x1024) ![5, 768] ![256, 256] inb_S272x1024_S256x256_5_768)) (ix2 i e) = ext (ix2 ⟨5 + i.val, by omega⟩ ⟨768 + e.val, by omega⟩) := by
  rw [View.ld_unit]
  pointwise []

/-- The kept rows 12 back, group 3. -/
theorem ldE3_12 (ext : Vec Ideal S272x1024 .f32) (i e : Fin 256) : (View.ld ext (Rect.unit (s := S272x1024) ![4, 768] ![256, 256] inb_S272x1024_S256x256_4_768)) (ix2 i e) = ext (ix2 ⟨4 + i.val, by omega⟩ ⟨768 + e.val, by omega⟩) := by
  rw [View.ld_unit]
  pointwise []

/-- The kept rows 13 back, group 3. -/
theorem ldE3_13 (ext : Vec Ideal S272x1024 .f32) (i e : Fin 256) : (View.ld ext (Rect.unit (s := S272x1024) ![3, 768] ![256, 256] inb_S272x1024_S256x256_3_768)) (ix2 i e) = ext (ix2 ⟨3 + i.val, by omega⟩ ⟨768 + e.val, by omega⟩) := by
  rw [View.ld_unit]
  pointwise []

/-- The kept rows 14 back, group 3. -/
theorem ldE3_14 (ext : Vec Ideal S272x1024 .f32) (i e : Fin 256) : (View.ld ext (Rect.unit (s := S272x1024) ![2, 768] ![256, 256] inb_S272x1024_S256x256_2_768)) (ix2 i e) = ext (ix2 ⟨2 + i.val, by omega⟩ ⟨768 + e.val, by omega⟩) := by
  rw [View.ld_unit]
  pointwise []

/-- The kept rows 15 back, group 3. -/
theorem ldE3_15 (ext : Vec Ideal S272x1024 .f32) (i e : Fin 256) : (View.ld ext (Rect.unit (s := S272x1024) ![1, 768] ![256, 256] inb_S272x1024_S256x256_1_768)) (ix2 i e) = ext (ix2 ⟨1 + i.val, by omega⟩ ⟨768 + e.val, by omega⟩) := by
  rw [View.ld_unit]
  pointwise []

/-- The kept rows of the pool. -/
theorem ldPool (ext : Vec Ideal S272x1024 .f32) (i : Fin 15) (d : Fin 1024) : (View.ld ext (Rect.unit (s := S272x1024) ![257, 0] ![15, 1024] inb_S272x1024_S15x1024_257_0)) (ix2 i d) = ext (ix2 ⟨257 + i.val, by omega⟩ d) := by
  rw [View.ld_unit]
  pointwise []

/-- The kept rows that move to the top. -/
theorem ldKeep (ext : Vec Ideal S272x1024 .f32) (i : Fin 16) (d : Fin 1024) : (View.ld ext (Rect.unit (s := S272x1024) ![256, 0] ![16, 1024] inb_S272x1024_S16x1024_256_0)) (ix2 i d) = ext (ix2 ⟨256 + i.val, by omega⟩ d) := by
  rw [View.ld_unit]
  pointwise []

end Cert.KernelIdeal.Gen

end
-- ==== Proof.TileRows.lean ====
/-
  Each row of what a tile stores is the layer's row function of the tile's input rows.
-/
module

public import proofs.«01_k».proof.Proof.Congr
public import proofs.«01_k».proof.Proof.Loads

@[expose] public section

set_option maxRecDepth 16384

noncomputable section

namespace Cert.KernelIdeal.Gen

open Idealize.ShloMosaic Cert.Layer
open scoped BigOperators

section
variable {P : Par} {x0 : Vec Ideal S1x256x1024 .f32} {x1 : Vec Ideal S1x256x256 .f32} {x2 : Vec Ideal S1024x7168 .bf16}
  {x3 : Vec Ideal S8x128x128 .f32} {x4 : Vec Ideal S128x8 .f32} {x5 : Vec Ideal S4x256x256 .bf16} {x6 x7 x8 : Vec Ideal S1024x1024 .bf16}
  {x9 : Vec Ideal S256x1024 .bf16} {x10 : Vec Ideal S1024x1024 .bf16} {x11 : Vec Ideal S8x1024 .f32}
variable (H : Holds P x2 x3 x4 x5 x6 x7 x8 x9 x10 x11)
include H

/-- The normed row. -/
theorem tXn_apply (i : Fin 256) (d : Fin 1024) : tXn x0 x11 (ix2 i d) = rms (fun k => x0 (ix3 0 i k)) P.preG d := by
  unfold tXn
  exact (pay4_apply _ _ i d).trans (rms_congr (fun k => ldX0 x0 i k) (fun k => (ldG0 x11 k).trans (H.g0 k)) d)

/-- One part of the projection of the normed row. -/
theorem part_of (o : ℕ) (ho : o + 1024 ≤ 7168) (i : Fin 256) {w : Fin 1024 → Fin 1024 → EReal}
    (hw : ∀ k d, w k d = x2 (ix2 k ⟨o + d.val, by omega⟩)) (d : Fin 1024) :
    lin (fun k => tXn x0 x11 (ix2 i k)) w d = P.part o ho (fun k => x0 (ix3 0 i k)) d :=
  lin_congr (fun k => tXn_apply H i k) (fun k d => (hw k d).trans (H.w k _)) d

/-- The value row. -/
theorem tV_apply (i : Fin 256) (d : Fin 1024) : tV x0 x2 x11 (ix2 i d) = P.vn (fun k => x0 (ix3 0 i k)) d := by
  unfold tV
  exact (pay7_apply _ _ _ _ i d).trans (lnorm_congr
    (fun k => congrArg gelu (part_of H 1024 (by norm_num) i (fun k d => (pay6_apply _ k d).trans (ldW1 x2 k d)) k))
    (fun k => (ldG1 x11 k).trans (H.g1 k)) (fun k => (ldG2 x11 k).trans (H.g2 k)) d)

/-- The pooling input. -/
theorem tXb_apply (i : Fin 256) (d : Fin 1024) : tXb x0 x2 x11 (ix2 i d) = P.xb (fun k => x0 (ix3 0 i k)) d := by
  unfold tXb
  exact (pay39_apply _ _ i d).trans (part_of H 3072 (by norm_num) i (fun k d => ldW3 x2 k d) d)

/-- The pooling input as it is kept. -/
theorem tPiece_apply (i : Fin 256) (d : Fin 1024) : (tPiece x0 x2 x11).2 (ix2 i d) = P.xb (fun k => x0 (ix3 0 i k)) d := by
  refine (pay40_apply _ _ i d).trans ?_
  exact tXb_apply H i d

/-- The first branch's row. -/
theorem tYa_apply (i : Fin 256) (d : Fin 1024) :
    tYa x0 x2 x3 x4 x11 (ix2 i d)
      = P.ya (fun k => x0 (ix3 0 i k))
          (P.mix (fun t => P.vn (fun k => x0 (ix3 0 ⟨128 * (i.val / 128) + t.val, by omega⟩ k))) ⟨i.val % 128, by omega⟩) d := by
  unfold tYa
  rw [pay38_apply P (fun i => P.vn (fun k => x0 (ix3 0 i k)))
    (hV := fun i d => by rw [pay9_apply, tV_apply H])
    (hm0 := fun r t => by rw [pay11_apply, ldS0, H.s])
    (hm1 := fun r t => by rw [pay12_apply, ldS1, H.s])
    (hm2 := fun r t => by rw [pay13_apply, ldS2, H.s])
    (hm3 := fun r t => by rw [pay14_apply, ldS3, H.s])
    (hm4 := fun r t => by rw [pay15_apply, ldS4, H.s])
    (hm5 := fun r t => by rw [pay16_apply, ldS5, H.s])
    (hm6 := fun r t => by rw [pay17_apply, ldS6, H.s])
    (hm7 := fun r t => by rw [pay18_apply, ldS7, H.s])
    (hb0 := fun r => by rw [pay19_apply, ldB0, H.b])
    (hb1 := fun r => by rw [pay20_apply, ldB1, H.b])
    (hb2 := fun r => by rw [pay21_apply, ldB2, H.b])
    (hb3 := fun r => by rw [pay22_apply, ldB3, H.b])
    (hb4 := fun r => by rw [pay23_apply, ldB4, H.b])
    (hb5 := fun r => by rw [pay24_apply, ldB5, H.b])
    (hb6 := fun r => by rw [pay25_apply, ldB6, H.b])
    (hb7 := fun r => by rw [pay26_apply, ldB7, H.b])
    (h0 := fun r d => by
      rw [pay30_apply P (fun i => P.vn (fun k => x0 (ix3 0 i k)))
        (hV := fun i d => by rw [pay9_apply, tV_apply H])
        (hm0 := fun r t => by rw [pay11_apply, ldS0, H.s])
        (hm1 := fun r t => by rw [pay12_apply, ldS1, H.s])
        (hm2 := fun r t => by rw [pay13_apply, ldS2, H.s])
        (hm3 := fun r t => by rw [pay14_apply, ldS3, H.s])
        (hm4 := fun r t => by rw [pay15_apply, ldS4, H.s])
        (hm5 := fun r t => by rw [pay16_apply, ldS5, H.s])
        (hm6 := fun r t => by rw [pay17_apply, ldS6, H.s])
        (hm7 := fun r t => by rw [pay18_apply, ldS7, H.s])
        (hb0 := fun r => by rw [ldB0, H.b])
        (hb1 := fun r => by rw [ldB1, H.b])
        (hb2 := fun r => by rw [pay21_apply, ldB2, H.b])
        (hb3 := fun r => by rw [pay22_apply, ldB3, H.b])
        (hb4 := fun r => by rw [pay23_apply, ldB4, H.b])
        (hb5 := fun r => by rw [pay24_apply, ldB5, H.b])
        (hb6 := fun r => by rw [pay25_apply, ldB6, H.b])
        (hb7 := fun r => by rw [pay26_apply, ldB7, H.b])
      ])]
  exact congrArg₂ (· * ·) (congrArg (· * _) ((pay5_apply _ _ _ i d).trans
      (congrArg gelu (part_of H 0 (by norm_num) i (fun k d => ldW0 x2 k d) d))))
    (congrArg silu (part_of H 2048 (by norm_num) i (fun k d => ldW2 x2 k d) d))

section
variable {ext : Vec Ideal S272x1024 .f32} (a : BitVec 32) (E : ℕ → Fin 1024 → EReal) (n0 : ℕ)
  (hE : ∀ (r : Fin 272) d, ext (ix2 r d) = E (n0 + r.val) d)
  (hX : ∀ i d, P.xb (fun k => x0 (ix3 0 i k)) d = E (n0 + 16 + i.val) d)
include hE hX

/-- The group of windows of two. -/
theorem tQ0_apply (i e : Fin 256) :
    tQ0 x0 x2 x11 ext a (ix2 i e) = pooled E (n0 + 16 + i.val) (a * 256#32 + BitVec.ofNat 32 i.val) ⟨e.val, by omega⟩ :=
  pay45_apply a E (n0 + 16 + i.val) i _ _ _ e (fun j => (tXb_apply H i j).trans (hX i j))
    (by rw [ldE0_1, hE]; exact congrArg₂ E (by show n0 + (15 + i.val) = n0 + 16 + i.val - 1; omega) (Fin.ext (Nat.zero_add _)))

/-- The group of windows of four. -/
theorem tQ1_apply (i e : Fin 256) :
    tQ1 x0 x2 x11 ext a (ix2 i e) = pooled E (n0 + 16 + i.val) (a * 256#32 + BitVec.ofNat 32 i.val) ⟨256 + e.val, by omega⟩ :=
  pay46_apply a _ E (n0 + 16 + i.val) i _ _ _ e (fun j => (tXb_apply H i j).trans (hX i j))
    (by rw [ldE1_1, hE]; exact congrFun (congrArg E (by show n0 + (15 + i.val) = n0 + 16 + i.val - 1; omega)) _)
    (by rw [ldE1_2, hE]; exact congrFun (congrArg E (by show n0 + (14 + i.val) = n0 + 16 + i.val - 2; omega)) _)
    (by rw [ldE1_3, hE]; exact congrFun (congrArg E (by show n0 + (13 + i.val) = n0 + 16 + i.val - 3; omega)) _)

/-- The group of windows of eight. -/
theorem tQ2_apply (i e : Fin 256) :
    tQ2 x0 x2 x11 ext a (ix2 i e) = pooled E (n0 + 16 + i.val) (a * 256#32 + BitVec.ofNat 32 i.val) ⟨512 + e.val, by omega⟩ :=
  pay50_apply a _ E (n0 + 16 + i.val) i _ _ _ _ _ _ _ e (fun j => (tXb_apply H i j).trans (hX i j))
    (by rw [ldE2_1, hE]; exact congrFun (congrArg E (by show n0 + (15 + i.val) = n0 + 16 + i.val - 1; omega)) _)
    (by rw [ldE2_2, hE]; exact congrFun (congrArg E (by show n0 + (14 + i.val) = n0 + 16 + i.val - 2; omega)) _)
    (by rw [ldE2_3, hE]; exact congrFun (congrArg E (by show n0 + (13 + i.val) = n0 + 16 + i.val - 3; omega)) _)
    (by rw [ldE2_4, hE]; exact congrFun (congrArg E (by show n0 + (12 + i.val) = n0 + 16 + i.val - 4; omega)) _)
    (by rw [ldE2_5, hE]; exact congrFun (congrArg E (by show n0 + (11 + i.val) = n0 + 16 + i.val - 5; omega)) _)
    (by rw [ldE2_6, hE]; exact congrFun (congrArg E (by show n0 + (10 + i.val) = n0 + 16 + i.val - 6; omega)) _)
    (by rw [ldE2_7, hE]; exact congrFun (congrArg E (by show n0 + (9 + i.val) = n0 + 16 + i.val - 7; omega)) _)

/-- The second branch's row. -/
theorem tYb_apply (i : Fin 256) (d : Fin 1024) :
    tYb x0 x2 x5 x11 ext a (ix2 i d)
      = P.yb (fun k => x0 (ix3 0 i k)) (pooled E (n0 + 16 + i.val) (a * 256#32 + BitVec.ofNat 32 i.val)) d := by
  unfold tYb tS
  rw [pay60_apply P _ _ _ _ _ _ _ _ _ _ _ _ _ _ _ i (pooled E (n0 + 16 + i.val) (a * 256#32 + BitVec.ofNat 32 i.val))
    (hq := fun j => pay53_apply a _ E (n0 + 16 + i.val) i _ _ _ _ _ _ _ _ _ _ _ _ _ _ _ _ _ _ (fun j => (tXb_apply H i j).trans (hX i j))
      (tQ0_apply H a E n0 hE hX i) (tQ1_apply H a E n0 hE hX i) (tQ2_apply H a E n0 hE hX i)
      (fun e => by rw [ldE3_1, hE]; exact congrFun (congrArg E (by show n0 + (15 + i.val) = n0 + 16 + i.val - 1; omega)) _)
      (fun e => by rw [ldE3_2, hE]; exact congrFun (congrArg E (by show n0 + (14 + i.val) = n0 + 16 + i.val - 2; omega)) _)
      (fun e => by rw [ldE3_3, hE]; exact congrFun (congrArg E (by show n0 + (13 + i.val) = n0 + 16 + i.val - 3; omega)) _)
      (fun e => by rw [ldE3_4, hE]; exact congrFun (congrArg E (by show n0 + (12 + i.val) = n0 + 16 + i.val - 4; omega)) _)
      (fun e => by rw [ldE3_5, hE]; exact congrFun (congrArg E (by show n0 + (11 + i.val) = n0 + 16 + i.val - 5; omega)) _)
      (fun e => by rw [ldE3_6, hE]; exact congrFun (congrArg E (by show n0 + (10 + i.val) = n0 + 16 + i.val - 6; omega)) _)
      (fun e => by rw [ldE3_7, hE]; exact congrFun (congrArg E (by show n0 + (9 + i.val) = n0 + 16 + i.val - 7; omega)) _)
      (fun e => by rw [ldE3_8, hE]; exact congrFun (congrArg E (by show n0 + (8 + i.val) = n0 + 16 + i.val - 8; omega)) _)
      (fun e => by rw [ldE3_9, hE]; exact congrFun (congrArg E (by show n0 + (7 + i.val) = n0 + 16 + i.val - 9; omega)) _)
      (fun e => by rw [ldE3_10, hE]; exact congrFun (congrArg E (by show n0 + (6 + i.val) = n0 + 16 + i.val - 10; omega)) _)
      (fun e => by rw [ldE3_11, hE]; exact congrFun (congrArg E (by show n0 + (5 + i.val) = n0 + 16 + i.val - 11; omega)) _)
      (fun e => by rw [ldE3_12, hE]; exact congrFun (congrArg E (by show n0 + (4 + i.val) = n0 + 16 + i.val - 12; omega)) _)
      (fun e => by rw [ldE3_13, hE]; exact congrFun (congrArg E (by show n0 + (3 + i.val) = n0 + 16 + i.val - 13; omega)) _)
      (fun e => by rw [ldE3_14, hE]; exact congrFun (congrArg E (by show n0 + (2 + i.val) = n0 + 16 + i.val - 14; omega)) _)
      (fun e => by rw [ldE3_15, hE]; exact congrFun (congrArg E (by show n0 + (1 + i.val) = n0 + 16 + i.val - 15; omega)) _) j)
    (hw0 := fun k e => by rw [ldP0, H.p]) (hw1 := fun k e => by rw [ldP1, H.p]) (hw2 := fun k e => by rw [ldP2, H.p])
    (hw3 := fun k e => by rw [ldP3, H.p]) (hsc := fun j => by rw [ldG3, H.g3])]
  exact congrArg (_ * silu ·) (part_of H 4096 (by norm_num) i (fun k d => ldW4 x2 k d) d)

/-- The row before the embedding. -/
theorem tHid_apply (i : Fin 256) (d : Fin 1024) :
    tHid x0 x2 x3 x4 x5 x6 x7 x8 x11 ext a (ix2 i d)
      = P.hid (fun k => x0 (ix3 0 i k))
          (P.mix (fun t => P.vn (fun k => x0 (ix3 0 ⟨128 * (i.val / 128) + t.val, by omega⟩ k))) ⟨i.val % 128, by omega⟩)
          (pooled E (n0 + 16 + i.val) (a * 256#32 + BitVec.ofNat 32 i.val)) d := by
  unfold tHid
  exact (pay64_apply _ _ _ _ _ _ _ _ _ _ i d).trans (congrArg₂ (· + ·) ((pay3_apply _ i d).trans (ldX0 x0 i d)) (rms_congr
    (fun k => lin_congr (fun k => congrArg₂ (· + ·)
        (congrArg₂ (· * ·) (congrArg Layer.sig (part_of H 5120 (by norm_num) i (fun k d => ldW5 x2 k d) k))
          (lin_congr (fun k => tYa_apply H i k) (fun k d => (ldSq x6 k d).trans (H.pa k d)) k))
        (congrArg₂ (· * ·) (congrArg Layer.sig (part_of H 6144 (by norm_num) i (fun k d => ldW6 x2 k d) k))
          (lin_congr (fun k => tYb_apply H a E n0 hE hX i k) (fun k d => (ldSq x7 k d).trans (H.pb k d)) k)))
      (fun k d => (ldSq x8 k d).trans (H.o k d)) k)
    (fun k => (ldG4 x11 k).trans (H.g4 k)) d))

/-- The output row. -/
theorem tY_apply (i : Fin 256) (d : Fin 1024) :
    tY x0 x1 x2 x3 x4 x5 x6 x7 x8 x9 x10 x11 ext a (ix3 0 i d)
      = P.out (fun k => x0 (ix3 0 i k))
          (P.mix (fun t => P.vn (fun k => x0 (ix3 0 ⟨128 * (i.val / 128) + t.val, by omega⟩ k))) ⟨i.val % 128, by omega⟩)
          (pooled E (n0 + 16 + i.val) (a * 256#32 + BitVec.ofNat 32 i.val)) (fun k => x1 (ix3 0 i k)) d := by
  unfold tY
  exact (pay1_apply _ _ i d).trans (congrArg₂ (· + ·) (tHid_apply H a E n0 hE hX i d) ((pay66_apply _ _ _ _ _ _ i d).trans (rms_congr
    (fun k => congrArg₂ (· * ·)
      (congrArg Layer.sig (lin_congr (fun k => rms_congr (fun k => tHid_apply H a E n0 hE hX i k) (fun k => (ldG5 x11 k).trans (H.g5 k)) k)
        (fun k d => (ldSq x10 k d).trans (H.pg k d)) k))
      (lin_congr (fun k => ldX1 x1 i k) (fun k d => (ldPle x9 k d).trans (H.ple k d)) k))
    (fun k => (ldG6 x11 k).trans (H.g6 k)) d)))
end

/-- The value rows written out. -/
theorem tVn_apply (r : Fin 128) (d : Fin 1024) :
    tVn x0 x2 x11 (ix3 0 r d) = P.vn (fun k => x0 (ix3 0 ⟨128 + r.val, by omega⟩ k)) d := by
  unfold tVn
  rw [pay8_apply]
  exact tV_apply H _ d
end

/-- The pool's rows, out of the kept rows. -/
theorem tPool_apply (ext : Vec Ideal S272x1024 .f32) (i : Fin 15) (d : Fin 1024) :
    tPool ext (ix3 0 i d) = ext (ix2 ⟨257 + i.val, by omega⟩ d) := by
  unfold tPool
  rw [pay54_apply, ldPool]

end Cert.KernelIdeal.Gen

end
-- ==== Proof.Entry.lean ====
/-
  What the prompt kernel's blocks hold: the layer's weights, and at every grid point 256 rows of one sequence and of
  its embeddings.
-/
module

public import proofs.«01_k».proof.Proof.TileRows
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

variable (m : (ℓ : Loc nD τ sig) → Buf (Elt Ideal) ℓ) (c : Dev nD)

/-- The layer's weights, as the launch finds them in the arguments. -/
def kpar : Par where
  preG := fun d => m ((c : Thread nD τ).loc main_arg2) (ix2 0 d)
  wIn := fun k d => m ((c : Thread nD τ).loc main_arg3) (ix3 0 k d)
  lnG := fun d => m ((c : Thread nD τ).loc main_arg4) (ix2 0 d)
  lnB := fun d => m ((c : Thread nD τ).loc main_arg5) (ix2 0 d)
  wS := fun h r t => m ((c : Thread nD τ).loc main_arg6) (ix4 0 h r t)
  bS := fun h r => m ((c : Thread nD τ).loc main_arg7) (ix3 0 h r)
  wPool := fun g k e => m ((c : Thread nD τ).loc main_arg8) (ix4 0 g k e)
  poolScale := fun d => m ((c : Thread nD τ).loc main_arg9) (ix2 0 d)
  wPa := fun k d => m ((c : Thread nD τ).loc main_arg10) (ix3 0 k d)
  wPb := fun k d => m ((c : Thread nD τ).loc main_arg11) (ix3 0 k d)
  wOut := fun k d => m ((c : Thread nD τ).loc main_arg12) (ix3 0 k d)
  postG := fun d => m ((c : Thread nD τ).loc main_arg13) (ix2 0 d)
  wPle := fun k d => m ((c : Thread nD τ).loc main_arg14) (ix3 0 k d)
  wPg := fun k d => m ((c : Thread nD τ).loc main_arg15) (ix3 0 k d)
  pleInG := fun d => m ((c : Thread nD τ).loc main_arg16) (ix2 0 d)
  pleOutG := fun d => m ((c : Thread nD τ).loc main_arg17) (ix2 0 d)

/-- Row `l` of sequence `b` of the input. -/
def kx (b : Fin 8) (l : Fin 2048) : Fin 1024 → EReal := fun d => m ((c : Thread nD τ).loc main_arg0) (ix3 b l d)

/-- Row `l` of sequence `b` of the embeddings. -/
def kp (b : Fin 8) (l : Fin 2048) : Fin 256 → EReal := fun k => m ((c : Thread nD τ).loc main_arg1) (ix4 0 b l k)

/-- The projection as the call takes it. -/
theorem V_wIn (k : Fin 1024) (d : Fin 7168) : V m c main_v19 (ix2 k d) = (kpar m c).wIn k d := by
  unfold kpar
  entry_read
  pointwise []

/-- The spatial mix as the call takes it. -/
theorem V_wS (h : Fin 8) (r t : Fin 128) : V m c main_v20 (ix3 h r t) = (kpar m c).wS h r t := by
  unfold kpar
  entry_read
  pointwise []

/-- The spatial shift as the call takes it. -/
theorem V_bS (r : Fin 128) (h : Fin 8) : V m c main_v22 (ix2 r h) = (kpar m c).bS h r := by
  unfold kpar
  entry_read
  pointwise []

/-- The pooled mix as the call takes it. -/
theorem V_wPool (g : Fin 4) (k e : Fin 256) : V m c main_v24 (ix3 g k e) = (kpar m c).wPool g k e := by
  unfold kpar
  entry_read
  pointwise []

/-- The first merge as the call takes it. -/
theorem V_wPa (k d : Fin 1024) : V m c main_v26 (ix2 k d) = (kpar m c).wPa k d := by
  unfold kpar
  entry_read
  pointwise []

/-- The second merge as the call takes it. -/
theorem V_wPb (k d : Fin 1024) : V m c main_v28 (ix2 k d) = (kpar m c).wPb k d := by
  unfold kpar
  entry_read
  pointwise []

/-- The output projection as the call takes it. -/
theorem V_wOut (k d : Fin 1024) : V m c main_v30 (ix2 k d) = (kpar m c).wOut k d := by
  unfold kpar
  entry_read
  pointwise []

/-- The embedding's gate as the call takes it. -/
theorem V_wPg (k d : Fin 1024) : V m c main_v34 (ix2 k d) = (kpar m c).wPg k d := by
  unfold kpar
  entry_read
  pointwise []

/-- The embedding's projection as the call takes it. -/
theorem V_wPle (k : Fin 256) (d : Fin 1024) : V m c main_v32 (ix2 k d) = (kpar m c).wPle k d := by
  unfold kpar
  entry_read
  pointwise []

/-- The embeddings as the call takes them. -/
theorem V_p (b : Fin 8) (l : Fin 2048) (k : Fin 256) : V m c main_v35 (ix3 b l k) = kp m c b l k := by
  unfold kp
  entry_read
  pointwise []

end Cert.KernelIdeal.Gen

end
-- ==== Proof.Blocks.lean ====
/-
  The prompt kernel's blocks hold the layer's weights, and at every grid point 256 rows of one sequence and of
  its embeddings.
-/
module

public import proofs.«01_k».proof.Proof.Entry
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

variable (m : (ℓ : Loc nD τ sig) → Buf (Elt Ideal) ℓ) (c : Dev nD)

/-- Row 0 of the stacked scales. -/
theorem V_g0 (d : Fin 1024) : V m c main_v17 (ix2 0 d) = (kpar m c).preG d := by
  unfold kpar
  show StableHlo.after hostOps0 _ (Proc.devRef .tc main_v17) _ = _
  after_results
  pointwise []
  after_results_simp
  pointwise []

/-- Row 1 of the stacked scales. -/
theorem V_g1 (d : Fin 1024) : V m c main_v17 (ix2 1 d) = (kpar m c).lnG d := by
  unfold kpar
  show StableHlo.after hostOps0 _ (Proc.devRef .tc main_v17) _ = _
  after_results
  pointwise []
  after_results_simp
  pointwise []

/-- Row 2 of the stacked scales. -/
theorem V_g2 (d : Fin 1024) : V m c main_v17 (ix2 2 d) = (kpar m c).lnB d := by
  unfold kpar
  show StableHlo.after hostOps0 _ (Proc.devRef .tc main_v17) _ = _
  after_results
  pointwise []
  after_results_simp
  pointwise []

/-- Row 3 of the stacked scales. -/
theorem V_g3 (d : Fin 1024) : V m c main_v17 (ix2 3 d) = (kpar m c).poolScale d := by
  unfold kpar
  show StableHlo.after hostOps0 _ (Proc.devRef .tc main_v17) _ = _
  after_results
  pointwise []
  after_results_simp
  pointwise []

/-- Row 4 of the stacked scales. -/
theorem V_g4 (d : Fin 1024) : V m c main_v17 (ix2 4 d) = (kpar m c).postG d := by
  unfold kpar
  show StableHlo.after hostOps0 _ (Proc.devRef .tc main_v17) _ = _
  after_results
  pointwise []
  after_results_simp
  pointwise []

/-- Row 5 of the stacked scales. -/
theorem V_g5 (d : Fin 1024) : V m c main_v17 (ix2 5 d) = (kpar m c).pleInG d := by
  unfold kpar
  show StableHlo.after hostOps0 _ (Proc.devRef .tc main_v17) _ = _
  after_results
  pointwise []
  after_results_simp
  pointwise []

/-- Row 6 of the stacked scales. -/
theorem V_g6 (d : Fin 1024) : V m c main_v17 (ix2 6 d) = (kpar m c).pleOutG d := by
  unfold kpar
  show StableHlo.after hostOps0 _ (Proc.devRef .tc main_v17) _ = _
  after_results
  pointwise []
  after_results_simp
  pointwise []

/-- The tile of the input at a grid point. -/
theorem blk_x (t : Fin cfg0.N) (i : Fin 256) (d : Fin 1024) :
    iblk m c 0 t (ix3 0 i d) = kx m c ⟨t.val / 8, by have := lt_of_lt_of_eq t.isLt N_0; omega⟩ ⟨256 * (t.val % 8) + i.val, by omega⟩ d := by
  unfold kx
  have e : ∀ t : Fin cfg0.N, win0_0.index t = ![t.val / 8, t.val % 8, 0] := by decide +kernel
  blk_ext [iblk, V_main_arg0, e t]

/-- The tile of the embeddings at a grid point. -/
theorem blk_p (t : Fin cfg0.N) (i k : Fin 256) :
    iblk m c 1 t (ix3 0 i k) = kp m c ⟨t.val / 8, by have := lt_of_lt_of_eq t.isLt N_0; omega⟩ ⟨256 * (t.val % 8) + i.val, by omega⟩ k := by
  rw [← V_p]
  have e : ∀ t : Fin cfg0.N, win0_1.index t = ![t.val / 8, t.val % 8, 0] := by decide +kernel
  blk_ext [iblk, e t]

/-- Window 2's block is its whole array. -/
theorem blk2 (t : Fin cfg0.N) (k : Fin 1024) (d : Fin 7168) : iblk m c 2 t (ix2 k d) = V m c main_v19 (ix2 k d) := by
  have e : ∀ t : Fin cfg0.N, win0_2.index t = ![0, 0] := by decide +kernel
  blk_ext [iblk, e t]

/-- Window 3's block is its whole array. -/
theorem blk3 (t : Fin cfg0.N) (h : Fin 8) (r s : Fin 128) : iblk m c 3 t (ix3 h r s) = V m c main_v20 (ix3 h r s) := by
  have e : ∀ t : Fin cfg0.N, win0_3.index t = ![0, 0, 0] := by decide +kernel
  blk_ext [iblk, e t]

/-- Window 4's block is its whole array. -/
theorem blk4 (t : Fin cfg0.N) (r : Fin 128) (h : Fin 8) : iblk m c 4 t (ix2 r h) = V m c main_v22 (ix2 r h) := by
  have e : ∀ t : Fin cfg0.N, win0_4.index t = ![0, 0] := by decide +kernel
  blk_ext [iblk, e t]

/-- Window 5's block is its whole array. -/
theorem blk5 (t : Fin cfg0.N) (g : Fin 4) (k e : Fin 256) : iblk m c 5 t (ix3 g k e) = V m c main_v24 (ix3 g k e) := by
  have e : ∀ t : Fin cfg0.N, win0_5.index t = ![0, 0, 0] := by decide +kernel
  blk_ext [iblk, e t]

/-- Window 6's block is its whole array. -/
theorem blk6 (t : Fin cfg0.N) (k d : Fin 1024) : iblk m c 6 t (ix2 k d) = V m c main_v26 (ix2 k d) := by
  have e : ∀ t : Fin cfg0.N, win0_6.index t = ![0, 0] := by decide +kernel
  blk_ext [iblk, e t]

/-- Window 7's block is its whole array. -/
theorem blk7 (t : Fin cfg0.N) (k d : Fin 1024) : iblk m c 7 t (ix2 k d) = V m c main_v28 (ix2 k d) := by
  have e : ∀ t : Fin cfg0.N, win0_7.index t = ![0, 0] := by decide +kernel
  blk_ext [iblk, e t]

/-- Window 8's block is its whole array. -/
theorem blk8 (t : Fin cfg0.N) (k d : Fin 1024) : iblk m c 8 t (ix2 k d) = V m c main_v30 (ix2 k d) := by
  have e : ∀ t : Fin cfg0.N, win0_8.index t = ![0, 0] := by decide +kernel
  blk_ext [iblk, e t]

/-- Window 9's block is its whole array. -/
theorem blk9 (t : Fin cfg0.N) (k : Fin 256) (d : Fin 1024) : iblk m c 9 t (ix2 k d) = V m c main_v32 (ix2 k d) := by
  have e : ∀ t : Fin cfg0.N, win0_9.index t = ![0, 0] := by decide +kernel
  blk_ext [iblk, e t]

/-- Window 10's block is its whole array. -/
theorem blk10 (t : Fin cfg0.N) (k d : Fin 1024) : iblk m c 10 t (ix2 k d) = V m c main_v34 (ix2 k d) := by
  have e : ∀ t : Fin cfg0.N, win0_10.index t = ![0, 0] := by decide +kernel
  blk_ext [iblk, e t]

/-- Window 11's block is its whole array. -/
theorem blk11 (t : Fin cfg0.N) (r : Fin 8) (d : Fin 1024) : iblk m c 11 t (ix2 r d) = V m c main_v17 (ix2 r d) := by
  have e : ∀ t : Fin cfg0.N, win0_11.index t = ![0, 0] := by decide +kernel
  blk_ext [iblk, e t]

/-- At every grid point the blocks of the weights hold the layer's weights. -/
theorem holds (t : Fin cfg0.N) : Holds (kpar m c) (iblk m c 2 t) (iblk m c 3 t) (iblk m c 4 t) (iblk m c 5 t) (iblk m c 6 t) (iblk m c 7 t)
    (iblk m c 8 t) (iblk m c 9 t) (iblk m c 10 t) (iblk m c 11 t) where
  w k d := (blk2 m c t k d).trans (V_wIn m c k d)
  s h r s := (blk3 m c t h r s).trans (V_wS m c h r s)
  b r h := (blk4 m c t r h).trans (V_bS m c r h)
  p g k e := (blk5 m c t g k e).trans (V_wPool m c g k e)
  pa k d := (blk6 m c t k d).trans (V_wPa m c k d)
  pb k d := (blk7 m c t k d).trans (V_wPb m c k d)
  o k d := (blk8 m c t k d).trans (V_wOut m c k d)
  ple k d := (blk9 m c t k d).trans (V_wPle m c k d)
  pg k d := (blk10 m c t k d).trans (V_wPg m c k d)
  g0 d := (blk11 m c t 0 d).trans (V_g0 m c d)
  g1 d := (blk11 m c t 1 d).trans (V_g1 m c d)
  g2 d := (blk11 m c t 2 d).trans (V_g2 m c d)
  g3 d := (blk11 m c t 3 d).trans (V_g3 m c d)
  g4 d := (blk11 m c t 4 d).trans (V_g4 m c d)
  g5 d := (blk11 m c t 5 d).trans (V_g5 m c d)
  g6 d := (blk11 m c t 6 d).trans (V_g6 m c d)

end Cert.KernelIdeal.Gen

end
-- ==== Proof.TileA.lean ====
/-
  What the kernel leaves of a sequence's first tile is what the tile stores.
-/
module

public import proofs.«01_k».proof.Proof.Tile

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

set_option maxHeartbeats 2000000 in
/-- The output block of a sequence's first tile. -/
theorem out0_A_12_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = tY x0 x1 x2 x3 x4 x5 x6 x7 x8 x9 x10 x11 (extA x0 x2 x11) (BitVec.ofNat 32 (i 1).val) := by
  unfold out0_A_12
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x256x1024) (by funext a; fin_cases a <;> rfl) _ _

set_option maxHeartbeats 2000000 in
/-- The value block of a sequence's first tile. -/
theorem out0_A_13_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = tVn x0 x2 x11 := by
  unfold out0_A_13
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x128x1024) (by funext a; fin_cases a <;> rfl) _ _

set_option maxHeartbeats 2000000 in
/-- The pool block of a sequence's first tile. -/
theorem out0_A_14_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = tPool (extA x0 x2 x11) := by
  unfold out0_A_14
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x15x1024) (by funext a; fin_cases a <;> rfl) _ _

set_option maxHeartbeats 2000000 in
/-- What is kept of a sequence's first tile. -/
theorem sout0_A_0_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = tKeep x0 x2 x11 (extA x0 x2 x11) [⟨(Rect.unit (s := S272x1024) ![0, 0] ![16, 1024] inb_S272x1024_S16x1024_0_0), k0_pay2 (F := Ideal)⟩] := by
  unfold sout0_A_0
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rfl

end Cert.KernelIdeal.Gen

end
-- ==== Proof.TileB.lean ====
/-
  What the kernel leaves of a later tile is what the tile stores.
-/
module

public import proofs.«01_k».proof.Proof.Tile

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

set_option maxHeartbeats 2000000 in
/-- The output block of a later tile. -/
theorem out0_B_12_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : ¬cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) (xs0 : Vec Ideal S272x1024 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = tY x0 x1 x2 x3 x4 x5 x6 x7 x8 x9 x10 x11 (View.read (Elt Ideal) arg17.view (View.writes arg17.view (Elt Ideal) (harg17.unread xs0) [tPiece x0 x2 x11])) (BitVec.ofNat 32 (i 1).val) := by
  unfold out0_B_12
  rw [View.read_writes_junk_eq_canon]
  unfold kernelRun0_B
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x256x1024) (by funext a; fin_cases a <;> rfl) _ _

set_option maxHeartbeats 2000000 in
/-- The value block of a later tile. -/
theorem out0_B_13_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : ¬cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) (xs0 : Vec Ideal S272x1024 .f32) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = tVn x0 x2 x11 := by
  unfold out0_B_13
  rw [View.read_writes_junk_eq_canon]
  unfold kernelRun0_B
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x128x1024) (by funext a; fin_cases a <;> rfl) _ _

set_option maxHeartbeats 2000000 in
/-- The pool block of a later tile. -/
theorem out0_B_14_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : ¬cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) (xs0 : Vec Ideal S272x1024 .f32) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = tPool (View.canon [tPiece x0 x2 x11]) := by
  unfold out0_B_14
  rw [View.read_writes_junk_eq_canon]
  unfold kernelRun0_B
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact View.canon_unit_zero (S := S1x15x1024) (by funext a; fin_cases a <;> rfl) _ _

set_option maxHeartbeats 2000000 in
/-- What is kept of a later tile. -/
theorem sout0_B_0_eq (c : Dev nD) (i : grid0.Coords) (arg2 : Memref sig .tc .vmem S1x256x1024 .f32) (harg2 : arg2.IsWhole) (arg3 : Memref sig .tc .vmem S1x256x256 .f32) (harg3 : arg3.IsWhole) (arg4 : Memref sig .tc .vmem S1024x7168 .bf16) (harg4 : arg4.IsWhole) (arg5 : Memref sig .tc .vmem S8x128x128 .f32) (harg5 : arg5.IsWhole) (arg6 : Memref sig .tc .vmem S128x8 .f32) (harg6 : arg6.IsWhole) (arg7 : Memref sig .tc .vmem S4x256x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1024x1024 .bf16) (harg12 : arg12.IsWhole) (arg13 : Memref sig .tc .vmem S8x1024 .f32) (harg13 : arg13.IsWhole) (arg14 : Memref sig .tc .vmem S1x256x1024 .f32) (harg14 : arg14.IsWhole) (arg15 : Memref sig .tc .vmem S1x128x1024 .f32) (harg15 : arg15.IsWhole) (arg16 : Memref sig .tc .vmem S1x15x1024 .f32) (harg16 : arg16.IsWhole) (arg17 : Memref sig .tc .vmem S272x1024 .f32) (harg17 : arg17.IsWhole) (hc0 : ¬cond0_0 i)
    (x0 : Vec Ideal S1x256x1024 .f32) (x1 : Vec Ideal S1x256x256 .f32) (x2 : Vec Ideal S1024x7168 .bf16) (x3 : Vec Ideal S8x128x128 .f32) (x4 : Vec Ideal S128x8 .f32) (x5 : Vec Ideal S4x256x256 .bf16) (x6 : Vec Ideal S1024x1024 .bf16) (x7 : Vec Ideal S1024x1024 .bf16) (x8 : Vec Ideal S1024x1024 .bf16) (x9 : Vec Ideal S256x1024 .bf16) (x10 : Vec Ideal S1024x1024 .bf16) (x11 : Vec Ideal S8x1024 .f32) (xs0 : Vec Ideal S272x1024 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 = tKeep x0 x2 x11 (View.canon [tPiece x0 x2 x11]) [] := by
  unfold sout0_B_0
  rw [View.read_writes_junk_eq_canon]
  unfold kernelRun0_B
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rfl

end Cert.KernelIdeal.Gen

end
-- ==== Proof.Points.lean ====
/-
  The prompt kernel at a grid point: its blocks, and the scratch it leaves, are rows of the layer over the sequence
  the point belongs to.
-/
module

public import proofs.«01_k».proof.Proof.Seq
public import proofs.«01_k».proof.Proof.Blocks
public import proofs.«01_k».proof.Proof.TileA
public import proofs.«01_k».proof.Proof.TileB
public import Idealize.ShloMosaic.Lib.WritesUnit

@[expose] public section

set_option maxRecDepth 16384

noncomputable section

namespace Cert.KernelIdeal.Gen

open Idealize.ShloMosaic Idealize.ShloMosaic.TcCoe Idealize.ShloMosaic.Tactic Idealize.SL.Sem Cert.Layer
open scoped BigOperators

section
variable {P : Par} {x0 : Vec Ideal S1x256x1024 .f32} {x2 : Vec Ideal S1024x7168 .bf16} {x3 : Vec Ideal S8x128x128 .f32}
  {x4 : Vec Ideal S128x8 .f32} {x5 : Vec Ideal S4x256x256 .bf16} {x6 x7 x8 : Vec Ideal S1024x1024 .bf16} {x9 : Vec Ideal S256x1024 .bf16}
  {x10 : Vec Ideal S1024x1024 .bf16} {x11 : Vec Ideal S8x1024 .f32}
variable (H : Holds P x2 x3 x4 x5 x6 x7 x8 x9 x10 x11)

include H

/-- Below the first sixteen rows, the scratch holds the tile's pooling inputs. -/
theorem piece_row (v : View sig .tc .vmem S272x1024 .f32) (f) (L : List (View.Piece (Elt Ideal) S272x1024 .f32)) (r : Fin 272) (hr : 16 ≤ r.val)
    (d : Fin 1024) :
    v.read (Elt Ideal) (v.writes (Elt Ideal) f (tPiece x0 x2 x11 :: L)) (ix2 r d) = P.xb (fun k => x0 (ix3 0 ⟨r.val - 16, by omega⟩ k)) d :=
  (View.read_writes_cons_rows_of_mem v f _ _ L (ix2 r d) (ix2 (⟨r.val - 16, by omega⟩ : Fin 256) d) rfl
    (show r.val = 16 + (r.val - 16) by omega) rfl).trans (tPiece_apply H _ d)

/-- The same, of the scratch as a list of pieces written. -/
theorem canon_piece_row (L : List (View.Piece (Elt Ideal) S272x1024 .f32)) (r : Fin 272) (hr : 16 ≤ r.val) (d : Fin 1024) :
    View.canon (tPiece x0 x2 x11 :: L) (ix2 r d) = P.xb (fun k => x0 (ix3 0 ⟨r.val - 16, by omega⟩ k)) d := by
  rw [← View.read_writes_junk_eq_canon scM0_0.view]
  exact piece_row H _ _ _ r hr d

/-- The scratch a tile leaves begins with the tile's last sixteen pooling inputs. -/
theorem keep_row (ext : Vec Ideal S272x1024 .f32) (L : List (View.Piece (Elt Ideal) S272x1024 .f32))
    (he : ∀ (r : Fin 272) (_ : 16 ≤ r.val) d, ext (ix2 r d) = P.xb (fun k => x0 (ix3 0 ⟨r.val - 16, by omega⟩ k)) d)
    (i : Fin 16) (d : Fin 1024) :
    tKeep x0 x2 x11 ext L (ix2 ⟨i.val, by omega⟩ d) = P.xb (fun k => x0 (ix3 0 ⟨240 + i.val, by omega⟩ k)) d := by
  unfold tKeep
  rw [← View.read_writes_junk_eq_canon scM0_0.view]
  refine (View.read_writes_cons_rows_of_mem _ _ _ _ _ (ix2 (⟨i.val, by omega⟩ : Fin 272) d) (ix2 i d) rfl (show i.val = 0 + i.val by omega) rfl).trans ?_
  have hi : (⟨240 + i.val, by omega⟩ : Fin 256) = ⟨256 + i.val - 16, by omega⟩ := Fin.ext (by show 240 + i.val = 256 + i.val - 16; omega)
  rw [hi]
  exact (pay55_apply _ i d).trans ((ldKeep ext i d).trans (he _ (by show 16 ≤ 256 + i.val; omega) d))
omit H

/-- A sequence's first tile begins with sixteen rows of zeros. -/
theorem extA_low (r : Fin 272) (hr : r.val < 16) (d : Fin 1024) : extA x0 x2 x11 (ix2 r d) = 0 := by
  unfold extA
  rw [← View.read_writes_junk_eq_canon scM0_0.view]
  refine (View.read_writes_cons_rows_of_not_mem _ _ _ _ _ (ix2 r d) rfl (W := 256) rfl (Or.inl hr)).trans ?_
  refine (View.read_writes_cons_rows_of_mem _ _ _ _ _ (ix2 r d) (ix2 (⟨r.val, hr⟩ : Fin 16) d) rfl (show r.val = 0 + r.val by omega) rfl).trans ?_
  exact pay2_apply _ d

/-- A later tile begins with the rows the scratch was handed over with. -/
theorem extB_low (v : View sig .tc .vmem S272x1024 .f32) (f) (r : Fin 272) (hr : r.val < 16) (d : Fin 1024) :
    v.read (Elt Ideal) (v.writes (Elt Ideal) f [tPiece x0 x2 x11]) (ix2 r d) = v.read (Elt Ideal) f (ix2 r d) :=
  (View.read_writes_cons_rows_of_not_mem v f _ _ _ (ix2 r d) rfl (W := 256) rfl (Or.inl hr)).trans (by rw [View.writes_nil])
end

variable (m : (ℓ : Loc nD τ sig) → Buf (Elt Ideal) ℓ) (c : Dev nD)

/-- The sequence of a grid point. -/
abbrev bOf (t : Fin cfg0.N) : Fin 8 := ⟨t.val / 8, by have := lt_of_lt_of_eq t.isLt N_0; omega⟩

/-- The row of the sequence a row of the point's block is. -/
abbrev lOf (t : Fin cfg0.N) (i : Fin 256) : Fin 2048 := ⟨256 * (t.val % 8) + i.val, by omega⟩

theorem row_x (t : Fin cfg0.N) (i : Fin 256) : (fun k => iblk m c 0 t (ix3 0 i k)) = kx m c (bOf t) (lOf t i) :=
  funext fun k => blk_x m c t i k

theorem row_p (t : Fin cfg0.N) (i : Fin 256) : (fun k => iblk m c 1 t (ix3 0 i k)) = kp m c (bOf t) (lOf t i) :=
  funext fun k => blk_p m c t i k

/-- A tile's pooling inputs are rows of the sequence's. -/
theorem xb_E (t : Fin cfg0.N) (i : Fin 256) (n : ℕ) (hn : n = 256 * (t.val % 8) + 16 + i.val) (d : Fin 1024) :
    (kpar m c).xb (fun k => iblk m c 0 t (ix3 0 i k)) d = seqE (kpar m c) (kx m c (bOf t)) n d := by
  rw [row_x]
  exact (seqE_row _ _ (lOf t i) (by show n = 256 * (t.val % 8) + i.val + 16; omega) d).symm

/-- What the scratch holds after a grid point: the last sixteen rows of the pooling inputs so far. -/
theorem scratch_row (t : Fin cfg0.N) (i : Fin 16) (d : Fin 1024) :
    (outsAt0 m c t.val t.isLt).2.2.2 (ix2 ⟨i.val, by omega⟩ d) = seqE (kpar m c) (kx m c (bOf t)) (256 * (t.val % 8 + 1) + i.val) d := by
  rw [← xb_E m c t ⟨240 + i.val, by omega⟩ _ (by show _ = _ + 16 + (240 + i.val); omega) d]
  by_cases h0 : t.val % 8 = 0
  · rw [outsAt0_A m c t h0]
    dsimp only
    rw [sout0_A_0_eq]
    exact keep_row (holds m c t) _ _ (fun r hr d => canon_piece_row (holds m c t) _ r hr d) i d
  · rw [outsAt0_B m c t h0]
    dsimp only
    rw [sout0_B_0_eq]
    exact keep_row (holds m c t) _ _ (fun r hr d => canon_piece_row (holds m c t) _ r hr d) i d

/-- The rows the point before handed over. -/
theorem prev_row (t : Fin cfg0.N) (h0 : ¬t.val % 8 = 0) (r : Fin 272) (hr : r.val < 16) (d : Fin 1024) :
    (outsAt0 m c (t.val - 1) (Nat.lt_of_le_of_lt (Nat.sub_le _ _) t.isLt)).2.2.2 (ix2 r d)
      = seqE (kpar m c) (kx m c (bOf t)) (256 * (t.val % 8) + r.val) d := by
  have h := scratch_row m c ⟨t.val - 1, Nat.lt_of_le_of_lt (Nat.sub_le _ _) t.isLt⟩ ⟨r.val, hr⟩ d
  have eb : bOf ⟨t.val - 1, Nat.lt_of_le_of_lt (Nat.sub_le _ _) t.isLt⟩ = bOf t := Fin.ext (show (t.val - 1) / 8 = t.val / 8 by omega)
  have en : 256 * ((t.val - 1) % 8 + 1) = 256 * (t.val % 8) := by omega
  rw [eb] at h
  refine h.trans ?_
  dsimp only
  rw [en]

theorem coord_J (t : Fin cfg0.N) : (grid0.coords t 1).val = t.val % 8 := by
  revert t
  decide +kernel

theorem pos_word (J i : ℕ) : BitVec.ofNat 32 J * 256#32 + BitVec.ofNat 32 i = BitVec.ofNat 32 (256 * J + i) := by
  apply BitVec.eq_of_toNat_eq
  simp only [BitVec.toNat_add, BitVec.toNat_mul, BitVec.toNat_ofNat]
  omega

/-- What a tile that has its pooling inputs below its sixteen earlier rows puts out. -/
theorem tile_out (t : Fin cfg0.N) (ext : Vec Ideal S272x1024 .f32)
    (hE : ∀ (r : Fin 272) d, ext (ix2 r d) = seqE (kpar m c) (kx m c (bOf t)) (256 * (t.val % 8) + r.val) d) (i : Fin 256) (d : Fin 1024) :
    tY (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) ext (BitVec.ofNat 32 (grid0.coords t 1).val) (ix3 0 i d)
      = seqOut (kpar m c) (kx m c (bOf t)) (kp m c (bOf t)) (lOf t i) d := by
  refine (tY_apply (holds m c t) _ _ (256 * (t.val % 8)) hE (fun i d => xb_E m c t i _ rfl d) i d).trans ?_
  unfold seqOut seqMix seqPooled
  have hr : (⟨i.val % 128, by omega⟩ : Fin 128) = ⟨(lOf t i).val % 128, by omega⟩ := Fin.ext (by show i.val % 128 = (256 * (t.val % 8) + i.val) % 128; omega)
  have hn : 256 * (t.val % 8) + 16 + i.val = (lOf t i).val + 16 := by show _ = 256 * (t.val % 8) + i.val + 16; omega
  have hv : (fun s : Fin 128 => (kpar m c).vn (fun k => iblk m c 0 t (ix3 0 ⟨128 * (i.val / 128) + s.val, by omega⟩ k)))
      = fun s : Fin 128 => (kpar m c).vn (kx m c (bOf t) ⟨128 * ((lOf t i).val / 128) + s.val, by omega⟩) := by
    funext s
    rw [row_x]
    congr 2
    exact Fin.ext (show 256 * (t.val % 8) + (128 * (i.val / 128) + s.val) = 128 * ((256 * (t.val % 8) + i.val) / 128) + s.val by omega)
  rw [row_x, row_p, hv, hr, hn, coord_J, pos_word]

/-- The rows under which a sequence's first tile pools. -/
theorem extA_row (t : Fin cfg0.N) (h0 : t.val % 8 = 0) (r : Fin 272) (d : Fin 1024) :
    extA (iblk m c 0 t) (iblk m c 2 t) (iblk m c 11 t) (ix2 r d) = seqE (kpar m c) (kx m c (bOf t)) (256 * (t.val % 8) + r.val) d := by
  by_cases hr : r.val < 16
  · rw [extA_low r hr d, seqE_low _ _ (by omega)]
  · exact (canon_piece_row (holds m c t) _ r (by omega) d).trans (xb_E m c t _ _ (by dsimp only; omega) d)

/-- The output rows at a grid point. -/
theorem point_y (t : Fin cfg0.N) (i : Fin 256) (d : Fin 1024) :
    (outsAt0 m c t.val t.isLt).1 (ix3 0 i d) = seqOut (kpar m c) (kx m c (bOf t)) (kp m c (bOf t)) (lOf t i) d := by
  by_cases h0 : t.val % 8 = 0
  · rw [outsAt0_A m c t h0]
    dsimp only
    rw [out0_A_12_eq]
    exact tile_out m c t _ (extA_row m c t h0) i d
  · rw [outsAt0_B m c t h0]
    dsimp only
    rw [out0_B_12_eq]
    refine tile_out m c t _ (fun r d => ?_) i d
    by_cases hr : r.val < 16
    · rw [extB_low _ _ r hr d, Memref.IsWhole.read_unread]
      exact prev_row m c t h0 r hr d
    · exact (piece_row (holds m c t) _ _ _ r (by omega) d).trans (xb_E m c t _ _ (by dsimp only; omega) d)

/-- The value rows at a grid point. -/
theorem point_vn (t : Fin cfg0.N) (r : Fin 128) (d : Fin 1024) :
    (outsAt0 m c t.val t.isLt).2.1 (ix3 0 r d) = (kpar m c).vn (kx m c (bOf t) (lOf t ⟨128 + r.val, by omega⟩)) d := by
  rw [← row_x]
  by_cases h0 : t.val % 8 = 0
  · rw [outsAt0_A m c t h0]
    dsimp only
    rw [out0_A_13_eq]
    exact tVn_apply (holds m c t) r d
  · rw [outsAt0_B m c t h0]
    dsimp only
    rw [out0_B_13_eq]
    exact tVn_apply (holds m c t) r d

/-- The pool rows at a grid point. -/
theorem point_pool (t : Fin cfg0.N) (r : Fin 15) (d : Fin 1024) :
    (outsAt0 m c t.val t.isLt).2.2.1 (ix3 0 r d) = (kpar m c).xb (kx m c (bOf t) (lOf t ⟨241 + r.val, by omega⟩)) d := by
  rw [← row_x]
  have hi : (⟨257 + r.val - 16, by omega⟩ : Fin 256) = ⟨241 + r.val, by omega⟩ := Fin.ext (by show 257 + r.val - 16 = 241 + r.val; omega)
  rw [← hi]
  by_cases h0 : t.val % 8 = 0
  · rw [outsAt0_A m c t h0]
    dsimp only
    rw [out0_A_14_eq]
    exact (tPool_apply _ r d).trans (canon_piece_row (holds m c t) _ _ (by show 16 ≤ 257 + r.val; omega) d)
  · rw [outsAt0_B m c t h0]
    dsimp only
    rw [out0_B_14_eq]
    exact (tPool_apply _ r d).trans (canon_piece_row (holds m c t) _ _ (by show 16 ≤ 257 + r.val; omega) d)

end Cert.KernelIdeal.Gen

end
-- ==== Proof.Prompt.lean ====
/-
  The prompt kernel's three results, row by row.
-/
module

public import proofs.«01_k».proof.Proof.Points

@[expose] public section

set_option maxRecDepth 16384

noncomputable section

namespace Cert.KernelIdeal.Gen

open Idealize.ShloMosaic Idealize.ShloMosaic.TcCoe Idealize.ShloMosaic.Tactic Idealize.SL.Sem Cert.Layer Cert.KernelIdeal.Value
open scoped BigOperators

variable (m : (ℓ : Loc nD τ sig) → Buf (Elt Ideal) ℓ) (c : Dev nD)

/-- The first result is the layer's output. -/
theorem result_y (b : Fin 8) (l : Fin 2048) (d : Fin 1024) :
    G12 m c (ix3 b l d) = seqOut (kpar m c) (kx m c b) (kp m c b) l d := by
  have hp : pt12Of (ix3 b l d) = 8 * b.val + l.val / 256 := by
    show 8 * (b.val / 1 - 0) + 1 * (l.val / 256 - 0) + 1 * (d.val / 1024 - 0) = _
    omega
  have hN : 8 * b.val + l.val / 256 < cfg0.N   := lt_of_lt_of_eq (by omega) N_0.symm
  have hl : loc12Of (ix3 b l d) = ix3 (0 : Fin 1) (⟨l.val % 256, by omega⟩ : Fin 256) d := by
    funext a
    apply Fin.ext
    match a with
    | ⟨0, _⟩ => show b.val % 1 = 0; omega
    | ⟨1, _⟩ => rfl
    | ⟨2, _⟩ => show d.val % 1024 = d.val; omega
  unfold G12
  rw [dif_pos (by rw [hp]; exact hN), hl]
  have e := congrArg Prod.fst ((fold0_congr m c _ (by rw [Nat.zero_add, hp]; exact hN) (8 * b.val + l.val / 256) (by rw [Nat.zero_add]; exact hN) hp).trans
    (outsAt0_sweep m c (8 * b.val + l.val / 256) hN).symm)
  refine (congrFun e _).trans ?_
  have hq := point_y m c ⟨8 * b.val + l.val / 256, hN⟩ ⟨l.val % 256, by omega⟩ d
  have hb : bOf ⟨8 * b.val + l.val / 256, hN⟩ = b := Fin.ext (show (8 * b.val + l.val / 256) / 8 = b.val by omega)
  have hr : lOf ⟨8 * b.val + l.val / 256, hN⟩ ⟨l.val % 256, by omega⟩ = l :=
    Fin.ext (show 256 * ((8 * b.val + l.val / 256) % 8) + l.val % 256 = l.val by omega)
  rw [hb, hr] at hq
  exact hq

/-- The second result is the last chunk's value rows. -/
theorem result_vn (b : Fin 8) (r : Fin 128) (d : Fin 1024) :
    G13 m c (ix3 b r d) = (kpar m c).vn (kx m c b ⟨1920 + r.val, by omega⟩) d := by
  have hp : pt13Of (ix3 b r d) = 8 * b.val + 7 := by
    show 8 * (1 * (b.val / 1 - 0) + 1 * (r.val / 128 - 0) + 1 * (d.val / 1024 - 0)) + 7 = _
    omega
  have hN : 8 * b.val + 7 < cfg0.N   := lt_of_lt_of_eq (by omega) N_0.symm
  have hl : loc13Of (ix3 b r d) = ix3 (0 : Fin 1) r d := by
    funext a
    apply Fin.ext
    match a with
    | ⟨0, _⟩ => show b.val % 1 = 0; omega
    | ⟨1, _⟩ => show r.val % 128 = r.val; omega
    | ⟨2, _⟩ => show d.val % 1024 = d.val; omega
  unfold G13
  rw [dif_pos (by rw [hp]; exact hN), hl]
  have e := congrArg (fun o => o.2.1) ((fold0_congr m c _ (by rw [Nat.zero_add, hp]; exact hN) (8 * b.val + 7) (by rw [Nat.zero_add]; exact hN) hp).trans
    (outsAt0_sweep m c (8 * b.val + 7) hN).symm)
  refine (congrFun e _).trans ?_
  have hq := point_vn m c ⟨8 * b.val + 7, hN⟩ r d
  have hb : bOf ⟨8 * b.val + 7, hN⟩ = b := Fin.ext (show (8 * b.val + 7) / 8 = b.val by omega)
  have hr : lOf ⟨8 * b.val + 7, hN⟩ ⟨128 + r.val, by omega⟩ = ⟨1920 + r.val, by omega⟩ :=
    Fin.ext (show 256 * ((8 * b.val + 7) % 8) + (128 + r.val) = 1920 + r.val by omega)
  rw [hb, hr] at hq
  exact hq

/-- The third result is the last fifteen pooling inputs. -/
theorem result_pool (b : Fin 8) (r : Fin 15) (d : Fin 1024) :
    G14 m c (ix3 b r d) = (kpar m c).xb (kx m c b ⟨2033 + r.val, by omega⟩) d := by
  have hp : pt14Of (ix3 b r d) = 8 * b.val + 7 := by
    show 8 * (1 * (b.val / 1 - 0) + 1 * (r.val / 15 - 0) + 1 * (d.val / 1024 - 0)) + 7 = _
    omega
  have hN : 8 * b.val + 7 < cfg0.N   := lt_of_lt_of_eq (by omega) N_0.symm
  have hl : loc14Of (ix3 b r d) = ix3 (0 : Fin 1) r d := by
    funext a
    apply Fin.ext
    match a with
    | ⟨0, _⟩ => show b.val % 1 = 0; omega
    | ⟨1, _⟩ => show r.val % 15 = r.val; omega
    | ⟨2, _⟩ => show d.val % 1024 = d.val; omega
  unfold G14
  rw [dif_pos (by rw [hp]; exact hN), hl]
  have e := congrArg (fun o => o.2.2.1) ((fold0_congr m c _ (by rw [Nat.zero_add, hp]; exact hN) (8 * b.val + 7) (by rw [Nat.zero_add]; exact hN) hp).trans
    (outsAt0_sweep m c (8 * b.val + 7) hN).symm)
  refine (congrFun e _).trans ?_
  have hq := point_pool m c ⟨8 * b.val + 7, hN⟩ r d
  have hb : bOf ⟨8 * b.val + 7, hN⟩ = b := Fin.ext (show (8 * b.val + 7) / 8 = b.val by omega)
  have hr : lOf ⟨8 * b.val + 7, hN⟩ ⟨241 + r.val, by omega⟩ = ⟨2033 + r.val, by omega⟩ :=
    Fin.ext (show 256 * ((8 * b.val + 7) % 8) + (241 + r.val) = 2033 + r.val by omega)
  rw [hb, hr] at hq
  exact hq

end Cert.KernelIdeal.Gen

end
-- ==== Proof.RefRows.lean ====
/-
  The reference's operations read as row functions of the layer.
-/
module

public import proofs.«01_k».proof.Proof.Seq
public import proofs.«01_k».proof.Proof.Congr
public import proofs.«01_k».proof.Proof.Gen.ReferenceIdeal.Read

@[expose] public section

set_option maxRecDepth 16384
set_option maxHeartbeats 1000000

noncomputable section

namespace Cert.ReferenceIdeal.Read

open Cert.ReferenceIdeal Cert.ReferenceIdeal.Gen Idealize.ShloMosaic Idealize.ShloMosaic.TcCoe Idealize.ShloMosaic.Tactic Idealize.SL.Sem Cert.Layer
open scoped BigOperators

/-- The layer's weights, out of the reference's arguments. -/
def rpar (x2 : (⟨S1x1024, .f32⟩ : BufTy).Contents (Elt Ideal)) (x3 : (⟨S1x1024x7168, .f32⟩ : BufTy).Contents (Elt Ideal)) (x4 : (⟨S1x1024, .f32⟩ : BufTy).Contents (Elt Ideal)) (x5 : (⟨S1x1024, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x4x256x256, .f32⟩ : BufTy).Contents (Elt Ideal)) (x9 : (⟨S1x1024, .f32⟩ : BufTy).Contents (Elt Ideal)) (x10 : (⟨S1x1024x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024, .f32⟩ : BufTy).Contents (Elt Ideal)) (x14 : (⟨S1x256x1024, .f32⟩ : BufTy).Contents (Elt Ideal)) (x15 : (⟨S1x1024x1024, .f32⟩ : BufTy).Contents (Elt Ideal)) (x16 : (⟨S1x1024, .f32⟩ : BufTy).Contents (Elt Ideal)) (x17 : (⟨S1x1024, .f32⟩ : BufTy).Contents (Elt Ideal)) : Par where
  preG := fun d => x2 (ix2 0 d)
  wIn := fun k d => x3 (ix3 0 k d)
  lnG := fun d => x4 (ix2 0 d)
  lnB := fun d => x5 (ix2 0 d)
  wS := fun h r t => x6 (ix4 0 h r t)
  bS := fun h r => x7 (ix3 0 h r)
  wPool := fun g k e => x8 (ix4 0 g k e)
  poolScale := fun d => x9 (ix2 0 d)
  wPa := fun k d => x10 (ix3 0 k d)
  wPb := fun k d => x11 (ix3 0 k d)
  wOut := fun k d => x12 (ix3 0 k d)
  postG := fun d => x13 (ix2 0 d)
  wPle := fun k d => x14 (ix3 0 k d)
  wPg := fun k d => x15 (ix3 0 k d)
  pleInG := fun d => x16 (ix2 0 d)
  pleOutG := fun d => x17 (ix2 0 d)

/-- Row `l` of sequence `b`. -/
def rx (x0 : (⟨S8x2048x1024, .f32⟩ : BufTy).Contents (Elt Ideal)) (b : Fin 8) (l : Fin 2048) : Fin 1024 → EReal := fun d => x0 (ix3 b l d)

/-- Row `l` of sequence `b` of the embeddings. -/
def rp (x1 : (⟨S1x8x2048x256, .f32⟩ : BufTy).Contents (Elt Ideal)) (b : Fin 8) (l : Fin 2048) : Fin 256 → EReal := fun k => x1 (ix4 0 b l k)

variable (x0 : (⟨S8x2048x1024, .f32⟩ : BufTy).Contents (Elt Ideal)) (x1 : (⟨S1x8x2048x256, .f32⟩ : BufTy).Contents (Elt Ideal)) (x2 : (⟨S1x1024, .f32⟩ : BufTy).Contents (Elt Ideal)) (x3 : (⟨S1x1024x7168, .f32⟩ : BufTy).Contents (Elt Ideal)) (x4 : (⟨S1x1024, .f32⟩ : BufTy).Contents (Elt Ideal)) (x5 : (⟨S1x1024, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x4x256x256, .f32⟩ : BufTy).Contents (Elt Ideal)) (x9 : (⟨S1x1024, .f32⟩ : BufTy).Contents (Elt Ideal)) (x10 : (⟨S1x1024x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024, .f32⟩ : BufTy).Contents (Elt Ideal)) (x14 : (⟨S1x256x1024, .f32⟩ : BufTy).Contents (Elt Ideal)) (x15 : (⟨S1x1024x1024, .f32⟩ : BufTy).Contents (Elt Ideal)) (x16 : (⟨S1x1024, .f32⟩ : BufTy).Contents (Elt Ideal)) (x17 : (⟨S1x1024, .f32⟩ : BufTy).Contents (Elt Ideal))

/-- The first norm. -/
theorem row_v30 (b : Fin 8) (l : Fin 2048) (d : Fin 1024) :
    val_main_v30 (F := Ideal) x0 x2 (ix3 b l d) = rms (rx x0 b l) (rpar x2 x3 x4 x5 x6 x7 x8 x9 x10 x11 x12 x13 x14 x15 x16 x17).preG d := by
  pointwise [val_main_v18, val_main_v19, val_main_v20, val_main_v21, val_main_v22, val_main_v23, val_main_v24, val_main_v25, val_main_v26, val_main_v27, val_main_v28, val_main_v29, val_main_v30, val_main_v1, val_main_cst_0, val_main_cst_1, val_main_cst_2]
  rfl

/-- The projection, at any of its columns. -/
theorem row_v31 (b : Fin 8) (l : Fin 2048) (c : Fin 7168) :
    val_main_v31 (F := Ideal) x0 x2 x3 (ix3 b l c) = lin (rms (rx x0 b l) (rpar x2 x3 x4 x5 x6 x7 x8 x9 x10 x11 x12 x13 x14 x15 x16 x17).preG) (rpar x2 x3 x4 x5 x6 x7 x8 x9 x10 x11 x12 x13 x14 x15 x16 x17).wIn c := by
  pointwise [val_main_v31, val_main_v2]
  exact lin_congr (w := fun k d => x3 (ix3 0 k d)) (fun k => row_v30 x0 x2 x3 x4 x5 x6 x7 x8 x9 x10 x11 x12 x13 x14 x15 x16 x17 b l k) (fun _ _ => rfl) c

/-- A part of the projection: its columns from 0 on. -/
theorem row_v32 (b : Fin 8) (l : Fin 2048) (d : Fin 1024) :
    val_main_v32 (F := Ideal) x0 x2 x3 (ix3 b l d) = (rpar x2 x3 x4 x5 x6 x7 x8 x9 x10 x11 x12 x13 x14 x15 x16 x17).part 0 (by norm_num) (rx x0 b l) d := by
  have h : val_main_v32 (F := Ideal) x0 x2 x3 (ix3 b l d) = val_main_v31 (F := Ideal) x0 x2 x3 (ix3 b l ⟨0 + d.val, by omega⟩) := by
    pointwise [val_main_v32]
  exact h.trans (row_v31 x0 x2 x3 x4 x5 x6 x7 x8 x9 x10 x11 x12 x13 x14 x15 x16 x17 b l _)

/-- A part of the projection: its columns from 1024 on. -/
theorem row_v33 (b : Fin 8) (l : Fin 2048) (d : Fin 1024) :
    val_main_v33 (F := Ideal) x0 x2 x3 (ix3 b l d) = (rpar x2 x3 x4 x5 x6 x7 x8 x9 x10 x11 x12 x13 x14 x15 x16 x17).part 1024 (by norm_num) (rx x0 b l) d := by
  have h : val_main_v33 (F := Ideal) x0 x2 x3 (ix3 b l d) = val_main_v31 (F := Ideal) x0 x2 x3 (ix3 b l ⟨1024 + d.val, by omega⟩) := by
    pointwise [val_main_v33]
  exact h.trans (row_v31 x0 x2 x3 x4 x5 x6 x7 x8 x9 x10 x11 x12 x13 x14 x15 x16 x17 b l _)

/-- A part of the projection: its columns from 2048 on. -/
theorem row_v34 (b : Fin 8) (l : Fin 2048) (d : Fin 1024) :
    val_main_v34 (F := Ideal) x0 x2 x3 (ix3 b l d) = (rpar x2 x3 x4 x5 x6 x7 x8 x9 x10 x11 x12 x13 x14 x15 x16 x17).part 2048 (by norm_num) (rx x0 b l) d := by
  have h : val_main_v34 (F := Ideal) x0 x2 x3 (ix3 b l d) = val_main_v31 (F := Ideal) x0 x2 x3 (ix3 b l ⟨2048 + d.val, by omega⟩) := by
    pointwise [val_main_v34]
  exact h.trans (row_v31 x0 x2 x3 x4 x5 x6 x7 x8 x9 x10 x11 x12 x13 x14 x15 x16 x17 b l _)

/-- A part of the projection: its columns from 3072 on. -/
theorem row_v35 (b : Fin 8) (l : Fin 2048) (d : Fin 1024) :
    val_main_v35 (F := Ideal) x0 x2 x3 (ix3 b l d) = (rpar x2 x3 x4 x5 x6 x7 x8 x9 x10 x11 x12 x13 x14 x15 x16 x17).part 3072 (by norm_num) (rx x0 b l) d := by
  have h : val_main_v35 (F := Ideal) x0 x2 x3 (ix3 b l d) = val_main_v31 (F := Ideal) x0 x2 x3 (ix3 b l ⟨3072 + d.val, by omega⟩) := by
    pointwise [val_main_v35]
  exact h.trans (row_v31 x0 x2 x3 x4 x5 x6 x7 x8 x9 x10 x11 x12 x13 x14 x15 x16 x17 b l _)

/-- A part of the projection: its columns from 4096 on. -/
theorem row_v36 (b : Fin 8) (l : Fin 2048) (d : Fin 1024) :
    val_main_v36 (F := Ideal) x0 x2 x3 (ix3 b l d) = (rpar x2 x3 x4 x5 x6 x7 x8 x9 x10 x11 x12 x13 x14 x15 x16 x17).part 4096 (by norm_num) (rx x0 b l) d := by
  have h : val_main_v36 (F := Ideal) x0 x2 x3 (ix3 b l d) = val_main_v31 (F := Ideal) x0 x2 x3 (ix3 b l ⟨4096 + d.val, by omega⟩) := by
    pointwise [val_main_v36]
  exact h.trans (row_v31 x0 x2 x3 x4 x5 x6 x7 x8 x9 x10 x11 x12 x13 x14 x15 x16 x17 b l _)

/-- A part of the projection: its columns from 5120 on. -/
theorem row_v37 (b : Fin 8) (l : Fin 2048) (d : Fin 1024) :
    val_main_v37 (F := Ideal) x0 x2 x3 (ix3 b l d) = (rpar x2 x3 x4 x5 x6 x7 x8 x9 x10 x11 x12 x13 x14 x15 x16 x17).part 5120 (by norm_num) (rx x0 b l) d := by
  have h : val_main_v37 (F := Ideal) x0 x2 x3 (ix3 b l d) = val_main_v31 (F := Ideal) x0 x2 x3 (ix3 b l ⟨5120 + d.val, by omega⟩) := by
    pointwise [val_main_v37]
  exact h.trans (row_v31 x0 x2 x3 x4 x5 x6 x7 x8 x9 x10 x11 x12 x13 x14 x15 x16 x17 b l _)

/-- A part of the projection: its columns from 6144 on. -/
theorem row_v38 (b : Fin 8) (l : Fin 2048) (d : Fin 1024) :
    val_main_v38 (F := Ideal) x0 x2 x3 (ix3 b l d) = (rpar x2 x3 x4 x5 x6 x7 x8 x9 x10 x11 x12 x13 x14 x15 x16 x17).part 6144 (by norm_num) (rx x0 b l) d := by
  have h : val_main_v38 (F := Ideal) x0 x2 x3 (ix3 b l d) = val_main_v31 (F := Ideal) x0 x2 x3 (ix3 b l ⟨6144 + d.val, by omega⟩) := by
    pointwise [val_main_v38]
  exact h.trans (row_v31 x0 x2 x3 x4 x5 x6 x7 x8 x9 x10 x11 x12 x13 x14 x15 x16 x17 b l _)

/-- The activated part from column 0 on. -/
theorem row_v51 (b : Fin 8) (l : Fin 2048) (d : Fin 1024) :
    val_main_v51 (F := Ideal) x0 x2 x3 (ix3 b l d) = gelu ((rpar x2 x3 x4 x5 x6 x7 x8 x9 x10 x11 x12 x13 x14 x15 x16 x17).part 0 (by norm_num) (rx x0 b l) d) := by
  rw [← row_v32]
  generalize h : val_main_v32 (F := Ideal) x0 x2 x3 (ix3 b l d) = e
  pointwise [val_main_v39, val_main_v40, val_main_v41, val_main_v42, val_main_v43, val_main_v44, val_main_v45, val_main_v46, val_main_v47, val_main_v48, val_main_v49, val_main_v50, val_main_v51, val_main_cst_3, val_main_cst_4, val_main_cst_5, val_main_cst_6]
  rw [h]
  rfl

/-- The activated part from column 1024 on. -/
theorem row_v64 (b : Fin 8) (l : Fin 2048) (d : Fin 1024) :
    val_main_v64 (F := Ideal) x0 x2 x3 (ix3 b l d) = gelu ((rpar x2 x3 x4 x5 x6 x7 x8 x9 x10 x11 x12 x13 x14 x15 x16 x17).part 1024 (by norm_num) (rx x0 b l) d) := by
  rw [← row_v33]
  generalize h : val_main_v33 (F := Ideal) x0 x2 x3 (ix3 b l d) = e
  pointwise [val_main_v52, val_main_v53, val_main_v54, val_main_v55, val_main_v56, val_main_v57, val_main_v58, val_main_v59, val_main_v60, val_main_v61, val_main_v62, val_main_v63, val_main_v64, val_main_cst_7, val_main_cst_8, val_main_cst_9, val_main_cst_10]
  rw [h]
  rfl

/-- The value rows. -/
theorem row_v86 (b : Fin 8) (l : Fin 2048) (d : Fin 1024) :
    val_main_v86 (F := Ideal) x0 x2 x3 x4 x5 (ix3 b l d) = (rpar x2 x3 x4 x5 x6 x7 x8 x9 x10 x11 x12 x13 x14 x15 x16 x17).vn (rx x0 b l) d := by
  pointwise [val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v3, val_main_v4, val_main_cst_11, val_main_cst_12, val_main_cst_13, val_main_cst_14, val_main_cst_15]
  exact lnorm_congr (g := fun d => x4 (ix2 0 d)) (b := fun d => x5 (ix2 0 d)) (fun k => row_v64 x0 x2 x3 x4 x5 x6 x7 x8 x9 x10 x11 x12 x13 x14 x15 x16 x17 b l k) (fun _ => rfl) (fun _ => rfl) d

/-- The part from column 2048 on times its logistic. -/
theorem row_v98 (b : Fin 8) (l : Fin 2048) (d : Fin 1024) :
    val_main_v98 (F := Ideal) x0 x2 x3 (ix3 b l d) = silu ((rpar x2 x3 x4 x5 x6 x7 x8 x9 x10 x11 x12 x13 x14 x15 x16 x17).part 2048 (by norm_num) (rx x0 b l) d) := by
  rw [← row_v34]
  generalize h : val_main_v34 (F := Ideal) x0 x2 x3 (ix3 b l d) = e
  pointwise [val_main_v98, val_main_call2_v0, val_main_call2_v1, val_main_call2_v2, val_main_call2_v3, val_main_call2_v4, val_main_call2_v5, val_main_call2_cst, val_main_call2_cst_0]
  rw [h]
  rfl

/-- The part from column 4096 on times its logistic. -/
theorem row_v172 (b : Fin 8) (l : Fin 2048) (d : Fin 1024) :
    val_main_v172 (F := Ideal) x0 x2 x3 (ix3 b l d) = silu ((rpar x2 x3 x4 x5 x6 x7 x8 x9 x10 x11 x12 x13 x14 x15 x16 x17).part 4096 (by norm_num) (rx x0 b l) d) := by
  rw [← row_v36]
  generalize h : val_main_v36 (F := Ideal) x0 x2 x3 (ix3 b l d) = e
  pointwise [val_main_v172, val_main_call4_v0, val_main_call4_v1, val_main_call4_v2, val_main_call4_v3, val_main_call4_v4, val_main_call4_v5, val_main_call4_cst, val_main_call4_cst_0]
  rw [h]
  rfl

/-- The logistic of the part from column 5120 on. -/
theorem row_v179 (b : Fin 8) (l : Fin 2048) (d : Fin 1024) :
    val_main_v179 (F := Ideal) x0 x2 x3 (ix3 b l d) = Layer.sig ((rpar x2 x3 x4 x5 x6 x7 x8 x9 x10 x11 x12 x13 x14 x15 x16 x17).part 5120 (by norm_num) (rx x0 b l) d) := by
  rw [← row_v37]
  generalize h : val_main_v37 (F := Ideal) x0 x2 x3 (ix3 b l d) = e
  pointwise [val_main_v174, val_main_v175, val_main_v176, val_main_v177, val_main_v178, val_main_v179, val_main_cst_26, val_main_cst_27]
  rw [h]
  rfl

/-- The logistic of the part from column 6144 on. -/
theorem row_v187 (b : Fin 8) (l : Fin 2048) (d : Fin 1024) :
    val_main_v187 (F := Ideal) x0 x2 x3 (ix3 b l d) = Layer.sig ((rpar x2 x3 x4 x5 x6 x7 x8 x9 x10 x11 x12 x13 x14 x15 x16 x17).part 6144 (by norm_num) (rx x0 b l) d) := by
  rw [← row_v38]
  generalize h : val_main_v38 (F := Ideal) x0 x2 x3 (ix3 b l d) = e
  pointwise [val_main_v182, val_main_v183, val_main_v184, val_main_v185, val_main_v186, val_main_v187, val_main_cst_28, val_main_cst_29]
  rw [h]
  rfl

end Cert.ReferenceIdeal.Read

end
-- ==== Proof.Finite.lean ====
/-
  Where the weights are finite, the pooling inputs are finite, whatever the row; and a window of finite rows is a
  difference of two running sums.
-/
module

public import proofs.«01_k».proof.Proof.Seq

@[expose] public section

noncomputable section

namespace Cert.Layer

open Idealize.ShloMosaic
open scoped BigOperators

/-- A number that is neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.sum {ι : Type*} (s : Finset ι) (f : ι → EReal) (h : ∀ i ∈ s, IsReal (f i)) : IsReal (∑ i ∈ s, f i) :=
  Finset.sum_induction f IsReal (fun _ _ => IsReal.add) IsReal.zero h

theorem kN_eq : kN = ((1024 : ℝ) : EReal) := by
  unfold kN; simp [Ideal.ofBits, Ideal.ieee, -EReal.coe_mul]; norm_num

theorem kEps_pos : ∃ e : ℝ, 0 < e ∧ kEps = (e : EReal) := by
  unfold kEps; simp [Ideal.ofBits, Ideal.ieee, -EReal.coe_mul]

/-- A sum of squares is no less than nothing. -/
theorem mul_self_nonneg' (x : EReal) : 0 ≤ x * x := by
  induction x with
  | bot => simp
  | coe r => rw [← EReal.coe_mul]; exact_mod_cast mul_self_nonneg r
  | top => simp

/-- The norm's root factor times the row's number is finite, also for a row that holds infinities. -/
theorem rms_real (x g : Fin 1024 → EReal) (hg : ∀ k, IsReal (g k)) (j : Fin 1024) : IsReal (rms x g j) := by
  unfold rms
  refine IsReal.mul ?_ (hg j)
  obtain ⟨e, he, hk⟩ := kEps_pos
  rw [kN_eq, hk, Ideal.div_coe (by norm_num)]
  by_cases h : ∀ k, IsReal (x k)
  · refine IsReal.mul (h j) ?_
    obtain ⟨s, hs⟩ := IsReal.sum Finset.univ (fun k => x k * x k) (fun k _ => (h k).mul (h k))
    have h0 : (0 : EReal) ≤ ∑ k : Fin 1024, x k * x k := Finset.sum_nonneg fun k _ => mul_self_nonneg' (x k)
    rw [hs] at h0 ⊢
    have h1 : 0 ≤ s := by exact_mod_cast h0
    rw [← EReal.coe_mul, ← EReal.coe_add, Ideal.rsqrt_coe]
    have h2 : 0 < s * (1 / 1024) + e := by positivity
    rw [if_neg (not_lt.mpr h2.le), if_neg h2.ne']
    exact ⟨_, rfl⟩
  · obtain ⟨k, hk'⟩ := not_forall.mp h
    have ht : x k * x k = ⊤ := by
      generalize x k = y at hk'
      induction y with
      | bot => simp
      | coe r => exact absurd ⟨r, rfl⟩ hk'
      | top => simp
    have hs : ∑ k : Fin 1024, x k * x k = ⊤ := by
      apply top_le_iff.mp
      rw [← ht]
      exact Finset.single_le_sum (f := fun k => x k * x k) (fun k _ => mul_self_nonneg' (x k)) (Finset.mem_univ k)
    rw [hs, EReal.top_mul_coe_of_pos (by norm_num), EReal.top_add_coe, Ideal.rsqrt_top, mul_zero]
    exact IsReal.zero

/-- The pooling inputs of any row are finite where the weights they read are. -/
theorem xb_real (P : Par) (hg : ∀ k, IsReal (P.preG k)) (hw : ∀ k (d : Fin 1024), IsReal (P.wIn k ⟨3072 + d.val, by omega⟩))
    (x : Fin 1024 → EReal) (d : Fin 1024) : IsReal (P.xb x d) := by
  show IsReal (∑ k : Fin 1024, rms x P.preG k * P.wIn k ⟨3072 + d.val, by omega⟩)
  exact IsReal.sum _ _ fun k _ => (rms_real x _ hg k).mul (hw k d)

/-- So are a sequence's, with the zeros above them. -/
theorem seqE_real (P : Par) (hg : ∀ k, IsReal (P.preG k)) (hw : ∀ k (d : Fin 1024), IsReal (P.wIn k ⟨3072 + d.val, by omega⟩))
    (x : Fin 2048 → Fin 1024 → EReal) (n : ℕ) (d : Fin 1024) : IsReal (seqE P x n d) := by
  unfold seqE
  by_cases h : n < 16
  · rw [if_pos h]; exact IsReal.zero
  · rw [if_neg h]
    by_cases h' : n - 16 < 2048
    · rw [dif_pos h']; exact xb_real P hg hw _ d
    · rw [dif_neg h']; exact IsReal.zero

theorem coe_sum_range (r : ℕ → ℝ) (n : ℕ) : ∑ i ∈ Finset.range n, ((r i : ℝ) : EReal) = ((∑ i ∈ Finset.range n, r i : ℝ) : EReal) := by
  induction n with
  | zero => simp
  | succ n ih => rw [Finset.sum_range_succ, Finset.sum_range_succ, ih, EReal.coe_add]

/-- The difference of two running sums of finite rows is the window between them. -/
theorem win_diff (E : ℕ → Fin 1024 → EReal) (d : Fin 1024) (h : ∀ n, IsReal (E n d)) (m w : ℕ) :
    ∑ i ∈ Finset.range (m + w), E (i + 1) d - ∑ i ∈ Finset.range m, E (i + 1) d = win E (m + w) w d := by
  choose r hr using h
  unfold win
  simp only [hr]
  rw [coe_sum_range, coe_sum_range, coe_sum_range (fun j => r (m + w - j)), ← EReal.coe_sub, Finset.sum_range_add, add_sub_cancel_left,
    ← Finset.sum_range_reflect]
  congr 1
  refine Finset.sum_congr rfl fun j hj => ?_
  have := Finset.mem_range.mp hj
  congr 1
  omega

end Cert.Layer

end
-- ==== Proof.Cumsum.lean ====
/-
  A running sum along the middle axis, as a window sum that reaches back over the whole axis states it.
-/
module

public import proofs.«01_k».proof.Proof.Gen.ReferenceIdeal.Read
public import Idealize.ShloMosaic.Lib.Pointwise.Index

@[expose] public section

noncomputable section

namespace Cert.Layer

open Idealize.ShloMosaic
open scoped BigOperators

/-- A left fold of additions over the positions is a sum over them. -/
theorem foldl_add_sum {N : ℕ} (g : Fin N → EReal) (v : EReal) :
    (List.finRange N).foldl (fun r n => r + g n) v = v + ∑ n : Fin N, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- The positions of a window of `N` rows of one sequence and one column. -/
theorem window_row {N : ℕ} (n : Fin (⟨3, ![1, N, 1]⟩ : Shape).numel) :
    (((⟨3, ![1, N, 1]⟩ : Shape).rowMajor.symm n) 0).val = 0 ∧ (((⟨3, ![1, N, 1]⟩ : Shape).rowMajor.symm n) 1).val = n.val
      ∧ (((⟨3, ![1, N, 1]⟩ : Shape).rowMajor.symm n) 2).val = 0 := by
  have h := Shape.rowMajor_val_three ((⟨3, ![1, N, 1]⟩ : Shape).rowMajor.symm n)
  rw [Equiv.apply_symm_apply] at h
  have h0 : (((⟨3, ![1, N, 1]⟩ : Shape).rowMajor.symm n) 0).val < 1 := (((⟨3, ![1, N, 1]⟩ : Shape).rowMajor.symm n) 0).isLt
  have h2 : (((⟨3, ![1, N, 1]⟩ : Shape).rowMajor.symm n) 2).val < 1 := (((⟨3, ![1, N, 1]⟩ : Shape).rowMajor.symm n) 2).isLt
  change n.val = (_ * N + _) * 1 + _ at h
  refine ⟨by omega, ?_, by omega⟩
  have h00 : (((⟨3, ![1, N, 1]⟩ : Shape).rowMajor.symm n) 0).val = 0 := by omega
  rw [h00, Nat.zero_mul] at h
  omega

/-- The window sum over all rows so far. -/
theorem cumsum_rows {B N M D : ℕ} (hN : M + 1 = N) (x : (⟨3, ![B, N, D]⟩ : Shape).Idx → EReal)
    (h : (⟨3, ![B, N, D]⟩ : Shape).ReduceWindows ![1, N, 1] ![1, 1, 1] ![0, M, 0] ![0, 0, 0] ⟨3, ![B, N, D]⟩) (X : ℕ → EReal)
    (b : Fin B) (d : Fin D) (hX : ∀ i : Fin N, x (ix3 b i d) = X i.val) (j : Fin N) :
    Ideal.hostReduceWindowAdd ![1, N, 1] ![1, 1, 1] ![0, M, 0] ![0, 0, 0] h x 0 (ix3 b j d) = ∑ i ∈ Finset.range (j.val + 1), X i := by
  subst hN
  have hj := j.isLt
  have hb := b.isLt
  have hd := d.isLt
  unfold Ideal.hostReduceWindowAdd Host.reduceWindow
  dsimp only
  refine (foldl_add_sum _ _).trans ?_
  rw [zero_add]
  have hn : (⟨3, ![1, M + 1, 1]⟩ : Shape).numel = M + 1 := by
    simp [Shape.numel, Fin.prod_univ_three]
  refine (Finset.sum_congr rfl (g := fun n => if M ≤ j.val + n.val then X (j.val + n.val - M) else 0) fun n _ => ?_).trans ?_
  · obtain ⟨h0, h1, h2⟩ := window_row (N := M + 1) n
    have hn' : n.val < M + 1 := lt_of_lt_of_eq n.isLt hn
    split
    · next hin =>
      have hm := hin 1
      change M ≤ j.val * 1 + _ ∧ j.val * 1 + _ - M < M + 1 at hm
      rw [h1] at hm
      rw [if_pos (by omega)]
      refine (congrArg x (funext fun a => Fin.ext ?_)).trans (hX ⟨j.val + n.val - M, by omega⟩)
      match a with
      | ⟨0, _⟩ => show b.val * 1 + (((⟨3, ![1, M + 1, 1]⟩ : Shape).rowMajor.symm n) 0).val - 0 = b.val; rw [h0]; omega
      | ⟨1, _⟩ => show j.val * 1 + (((⟨3, ![1, M + 1, 1]⟩ : Shape).rowMajor.symm n) 1).val - M = j.val + n.val - M; rw [h1]; omega
      | ⟨2, _⟩ => show d.val * 1 + (((⟨3, ![1, M + 1, 1]⟩ : Shape).rowMajor.symm n) 2).val - 0 = d.val; rw [h2]; omega
    · next hin =>
      rw [if_neg fun hle => hin fun a => ?_]
      match a with
      | ⟨0, _⟩ => show 0 ≤ b.val * 1 + (((⟨3, ![1, M + 1, 1]⟩ : Shape).rowMajor.symm n) 0).val ∧ b.val * 1 + (((⟨3, ![1, M + 1, 1]⟩ : Shape).rowMajor.symm n) 0).val - 0 < B; rw [h0]; omega
      | ⟨1, _⟩ => show M ≤ j.val * 1 + (((⟨3, ![1, M + 1, 1]⟩ : Shape).rowMajor.symm n) 1).val ∧ j.val * 1 + (((⟨3, ![1, M + 1, 1]⟩ : Shape).rowMajor.symm n) 1).val - M < M + 1; rw [h1]; omega
      | ⟨2, _⟩ => show 0 ≤ d.val * 1 + (((⟨3, ![1, M + 1, 1]⟩ : Shape).rowMajor.symm n) 2).val ∧ d.val * 1 + (((⟨3, ![1, M + 1, 1]⟩ : Shape).rowMajor.symm n) 2).val - 0 < D; rw [h2]; omega
  · rw [Fin.sum_univ_eq_sum_range (fun n : ℕ => if M ≤ j.val + n then X (j.val + n - M) else 0), hn,
      show Finset.range (M + 1) = Finset.range ((M - j.val) + (j.val + 1)) from congrArg Finset.range (by omega), Finset.sum_range_add, Finset.sum_eq_zero, zero_add]
    · refine Finset.sum_congr rfl fun i hi => ?_
      rw [if_pos (by omega)]
      congr 1
      omega
    · intro i hi
      have := Finset.mem_range.mp hi
      rw [if_neg (by omega)]

end Cert.Layer

end
-- ==== Proof.RefPool.lean ====
/-
  The reference's pooling read as row functions of the layer: its running sum, the four windows, and their mix.
-/
module

public import proofs.«01_k».proof.Proof.RefRows
public import proofs.«01_k».proof.Proof.Finite
public import proofs.«01_k».proof.Proof.Cumsum

@[expose] public section

set_option maxRecDepth 16384
set_option maxHeartbeats 1000000

noncomputable section

namespace Cert.ReferenceIdeal.Read

open Cert.ReferenceIdeal Cert.ReferenceIdeal.Gen Idealize.ShloMosaic Idealize.ShloMosaic.TcCoe Idealize.ShloMosaic.Tactic Idealize.SL.Sem Cert.Layer
open scoped BigOperators

/-- The count of a window as the reference writes it. -/
theorem cnt_read (l w : BitVec 32) : FloatOps.sitofp (F := Ideal) .f32 (IntOp.minsi (IntOp.addi (IntOp.addi 0#32 l) 1#32) w) = cnt l w := by
  have h : IntOp.addi 0#32 l = l := by
    show 0#32 + l = l
    simp
  rw [h]
  rfl

variable (x0 : (⟨S8x2048x1024, .f32⟩ : BufTy).Contents (Elt Ideal)) (x1 : (⟨S1x8x2048x256, .f32⟩ : BufTy).Contents (Elt Ideal)) (x2 : (⟨S1x1024, .f32⟩ : BufTy).Contents (Elt Ideal)) (x3 : (⟨S1x1024x7168, .f32⟩ : BufTy).Contents (Elt Ideal)) (x4 : (⟨S1x1024, .f32⟩ : BufTy).Contents (Elt Ideal)) (x5 : (⟨S1x1024, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x4x256x256, .f32⟩ : BufTy).Contents (Elt Ideal)) (x9 : (⟨S1x1024, .f32⟩ : BufTy).Contents (Elt Ideal)) (x10 : (⟨S1x1024x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024, .f32⟩ : BufTy).Contents (Elt Ideal)) (x14 : (⟨S1x256x1024, .f32⟩ : BufTy).Contents (Elt Ideal)) (x15 : (⟨S1x1024x1024, .f32⟩ : BufTy).Contents (Elt Ideal)) (x16 : (⟨S1x1024, .f32⟩ : BufTy).Contents (Elt Ideal)) (x17 : (⟨S1x1024, .f32⟩ : BufTy).Contents (Elt Ideal))

/-- The pooling inputs under fifteen rows of zeros. -/
theorem row_v100 (b : Fin 8) (i : Fin 2063) (d : Fin 1024) :
    val_main_v100 (F := Ideal) x0 x2 x3 (ix3 b i d) = seqE (rpar x2 x3 x4 x5 x6 x7 x8 x9 x10 x11 x12 x13 x14 x15 x16 x17) (rx x0 b) (i.val + 1) d := by
  pointwise [val_main_v100, val_main_v0, val_main_cst]
  by_cases h : i.val < 15
  · rw [seqE_low _ _ (by omega)]
    first | rw [dif_pos h] | rw [if_pos h]
  · have e := row_v35 x0 x2 x3 x4 x5 x6 x7 x8 x9 x10 x11 x12 x13 x14 x15 x16 x17 b ⟨i.val - 15, by omega⟩ d
    rw [seqE_row _ _ ⟨i.val - 15, by omega⟩ (by show i.val + 1 = i.val - 15 + 16; omega)]
    rw [dif_neg h]
    exact e

/-- Their running sum. -/
theorem row_v103 (b : Fin 8) (i : Fin 2063) (d : Fin 1024) :
    val_main_v103 (F := Ideal) x0 x2 x3 (ix3 b i d) = ∑ j ∈ Finset.range (i.val + 1), seqE (rpar x2 x3 x4 x5 x6 x7 x8 x9 x10 x11 x12 x13 x14 x15 x16 x17) (rx x0 b) (j + 1) d := by
  have h0 : val_main_call3_call0_v0 (F := Ideal) (Shape.Idx.first h_S_) = 0 := by
    rw [val_main_call3_call0_v0_apply, val_main_call3_call0_cst_apply]
    exact Ideal.ofBits_zero_f32
  unfold val_main_v103 Host.reduceWindowAdd
  rw [Ideal.hostReduceWindowAdd_def, h0]
  exact cumsum_rows rfl _ _ (fun j => seqE (rpar x2 x3 x4 x5 x6 x7 x8 x9 x10 x11 x12 x13 x14 x15 x16 x17) (rx x0 b) (j + 1) d) b d (fun i => row_v100 x0 x2 x3 x4 x5 x6 x7 x8 x9 x10 x11 x12 x13 x14 x15 x16 x17 b i d) i

/-- The running sum under one row of zeros. -/
theorem row_v104 (b : Fin 8) (i : Fin 2064) (d : Fin 1024) :
    val_main_v104 (F := Ideal) x0 x2 x3 (ix3 b i d) = ∑ j ∈ Finset.range i.val, seqE (rpar x2 x3 x4 x5 x6 x7 x8 x9 x10 x11 x12 x13 x14 x15 x16 x17) (rx x0 b) (j + 1) d := by
  pointwise [val_main_v104, val_main_v102, val_main_cst_16]
  by_cases h : i.val < 1
  · have h0 : i.val = 0 := by omega
    rw [dif_pos h, show Finset.range i.val = ∅ by rw [h0]; rfl, Finset.sum_empty]
  · have e := row_v103 x0 x2 x3 x4 x5 x6 x7 x8 x9 x10 x11 x12 x13 x14 x15 x16 x17 b ⟨i.val - 1, by omega⟩ d
    rw [show i.val - 1 + 1 = i.val by omega] at e
    rw [dif_neg h]
    exact e

section
variable (hE : ∀ (b : Fin 8) (n : ℕ) (d : Fin 1024), IsReal (seqE (rpar x2 x3 x4 x5 x6 x7 x8 x9 x10 x11 x12 x13 x14 x15 x16 x17) (rx x0 b) n d))
include hE

/-- The mean of 2 rows less the row, in the columns of group 0. -/
theorem row_v120 (b : Fin 8) (l : Fin 2048) (e : Fin 256) :
    val_main_v120 (F := Ideal) x0 x2 x3 (ix3 b l e) = seqPooled (rpar x2 x3 x4 x5 x6 x7 x8 x9 x10 x11 x12 x13 x14 x15 x16 x17) (rx x0 b) l ⟨e.val, by omega⟩ := by
  have h : val_main_v120 (F := Ideal) x0 x2 x3 (ix3 b l e)
      = Ideal.div (val_main_v104 (F := Ideal) x0 x2 x3 (ix3 b ⟨16 + l.val, by omega⟩ ⟨e.val, by omega⟩) - val_main_v104 (F := Ideal) x0 x2 x3 (ix3 b ⟨14 + l.val, by omega⟩ ⟨e.val, by omega⟩))
          (cnt (BitVec.ofNat 32 l.val) 2#32) - val_main_v35 (F := Ideal) x0 x2 x3 (ix3 b l ⟨e.val, by omega⟩) := by
    pointwise [val_main_v108, val_main_v109, val_main_v110, val_main_v111, val_main_v112, val_main_v113, val_main_v114, val_main_v115, val_main_v116, val_main_v117, val_main_v118, val_main_v119, val_main_v120, val_main_v105, val_main_v106, val_main_v107, val_main_c_17, val_main_c_18, val_main_c_19]
    rw [cnt_read]
  have hw : wid ⟨e.val, by omega⟩ = 2 := by
    unfold wid
    rw [show e.val / 256 = 0 by omega]
    norm_num
  rw [h, row_v104 x0 x2 x3 x4 x5 x6 x7 x8 x9 x10 x11 x12 x13 x14 x15 x16 x17 b _ _, row_v104 x0 x2 x3 x4 x5 x6 x7 x8 x9 x10 x11 x12 x13 x14 x15 x16 x17 b _ _, row_v35 x0 x2 x3 x4 x5 x6 x7 x8 x9 x10 x11 x12 x13 x14 x15 x16 x17 b l _]
  unfold seqPooled pooled
  rw [hw, seqE_row _ _ l rfl, show l.val + 16 = 16 + l.val by omega]
  have hd := win_diff (seqE (rpar x2 x3 x4 x5 x6 x7 x8 x9 x10 x11 x12 x13 x14 x15 x16 x17) (rx x0 b)) ⟨e.val, by omega⟩ (fun n => hE b n _) (14 + l.val) 2
  rw [show 14 + l.val + 2 = 16 + l.val by omega] at hd
  rw [hd]
  rfl

/-- The mean of 4 rows less the row, in the columns of group 1. -/
theorem row_v133 (b : Fin 8) (l : Fin 2048) (e : Fin 256) :
    val_main_v133 (F := Ideal) x0 x2 x3 (ix3 b l e) = seqPooled (rpar x2 x3 x4 x5 x6 x7 x8 x9 x10 x11 x12 x13 x14 x15 x16 x17) (rx x0 b) l ⟨256 + e.val, by omega⟩ := by
  have h : val_main_v133 (F := Ideal) x0 x2 x3 (ix3 b l e)
      = Ideal.div (val_main_v104 (F := Ideal) x0 x2 x3 (ix3 b ⟨16 + l.val, by omega⟩ ⟨256 + e.val, by omega⟩) - val_main_v104 (F := Ideal) x0 x2 x3 (ix3 b ⟨12 + l.val, by omega⟩ ⟨256 + e.val, by omega⟩))
          (cnt (BitVec.ofNat 32 l.val) 4#32) - val_main_v35 (F := Ideal) x0 x2 x3 (ix3 b l ⟨256 + e.val, by omega⟩) := by
    pointwise [val_main_v121, val_main_v122, val_main_v123, val_main_v124, val_main_v125, val_main_v126, val_main_v127, val_main_v128, val_main_v129, val_main_v130, val_main_v131, val_main_v132, val_main_v133, val_main_v105, val_main_v106, val_main_v107, val_main_c_17, val_main_c_20, val_main_c_21]
    rw [cnt_read]
  have hw : wid ⟨256 + e.val, by omega⟩ = 4 := by
    unfold wid
    rw [show (256 + e.val) / 256 = 1 by omega]
    norm_num
  rw [h, row_v104 x0 x2 x3 x4 x5 x6 x7 x8 x9 x10 x11 x12 x13 x14 x15 x16 x17 b _ _, row_v104 x0 x2 x3 x4 x5 x6 x7 x8 x9 x10 x11 x12 x13 x14 x15 x16 x17 b _ _, row_v35 x0 x2 x3 x4 x5 x6 x7 x8 x9 x10 x11 x12 x13 x14 x15 x16 x17 b l _]
  unfold seqPooled pooled
  rw [hw, seqE_row _ _ l rfl, show l.val + 16 = 16 + l.val by omega]
  have hd := win_diff (seqE (rpar x2 x3 x4 x5 x6 x7 x8 x9 x10 x11 x12 x13 x14 x15 x16 x17) (rx x0 b)) ⟨256 + e.val, by omega⟩ (fun n => hE b n _) (12 + l.val) 4
  rw [show 12 + l.val + 4 = 16 + l.val by omega] at hd
  rw [hd]
  rfl

/-- The mean of 8 rows less the row, in the columns of group 2. -/
theorem row_v146 (b : Fin 8) (l : Fin 2048) (e : Fin 256) :
    val_main_v146 (F := Ideal) x0 x2 x3 (ix3 b l e) = seqPooled (rpar x2 x3 x4 x5 x6 x7 x8 x9 x10 x11 x12 x13 x14 x15 x16 x17) (rx x0 b) l ⟨512 + e.val, by omega⟩ := by
  have h : val_main_v146 (F := Ideal) x0 x2 x3 (ix3 b l e)
      = Ideal.div (val_main_v104 (F := Ideal) x0 x2 x3 (ix3 b ⟨16 + l.val, by omega⟩ ⟨512 + e.val, by omega⟩) - val_main_v104 (F := Ideal) x0 x2 x3 (ix3 b ⟨8 + l.val, by omega⟩ ⟨512 + e.val, by omega⟩))
          (cnt (BitVec.ofNat 32 l.val) 8#32) - val_main_v35 (F := Ideal) x0 x2 x3 (ix3 b l ⟨512 + e.val, by omega⟩) := by
    pointwise [val_main_v134, val_main_v135, val_main_v136, val_main_v137, val_main_v138, val_main_v139, val_main_v140, val_main_v141, val_main_v142, val_main_v143, val_main_v144, val_main_v145, val_main_v146, val_main_v105, val_main_v106, val_main_v107, val_main_c_17, val_main_c_22, val_main_c_23]
    rw [cnt_read]
  have hw : wid ⟨512 + e.val, by omega⟩ = 8 := by
    unfold wid
    rw [show (512 + e.val) / 256 = 2 by omega]
    norm_num
  rw [h, row_v104 x0 x2 x3 x4 x5 x6 x7 x8 x9 x10 x11 x12 x13 x14 x15 x16 x17 b _ _, row_v104 x0 x2 x3 x4 x5 x6 x7 x8 x9 x10 x11 x12 x13 x14 x15 x16 x17 b _ _, row_v35 x0 x2 x3 x4 x5 x6 x7 x8 x9 x10 x11 x12 x13 x14 x15 x16 x17 b l _]
  unfold seqPooled pooled
  rw [hw, seqE_row _ _ l rfl, show l.val + 16 = 16 + l.val by omega]
  have hd := win_diff (seqE (rpar x2 x3 x4 x5 x6 x7 x8 x9 x10 x11 x12 x13 x14 x15 x16 x17) (rx x0 b)) ⟨512 + e.val, by omega⟩ (fun n => hE b n _) (8 + l.val) 8
  rw [show 8 + l.val + 8 = 16 + l.val by omega] at hd
  rw [hd]
  rfl

/-- The mean of 16 rows less the row, in the columns of group 3. -/
theorem row_v159 (b : Fin 8) (l : Fin 2048) (e : Fin 256) :
    val_main_v159 (F := Ideal) x0 x2 x3 (ix3 b l e) = seqPooled (rpar x2 x3 x4 x5 x6 x7 x8 x9 x10 x11 x12 x13 x14 x15 x16 x17) (rx x0 b) l ⟨768 + e.val, by omega⟩ := by
  have h : val_main_v159 (F := Ideal) x0 x2 x3 (ix3 b l e)
      = Ideal.div (val_main_v104 (F := Ideal) x0 x2 x3 (ix3 b ⟨16 + l.val, by omega⟩ ⟨768 + e.val, by omega⟩) - val_main_v104 (F := Ideal) x0 x2 x3 (ix3 b ⟨l.val, by omega⟩ ⟨768 + e.val, by omega⟩))
          (cnt (BitVec.ofNat 32 l.val) 16#32) - val_main_v35 (F := Ideal) x0 x2 x3 (ix3 b l ⟨768 + e.val, by omega⟩) := by
    pointwise [val_main_v147, val_main_v148, val_main_v149, val_main_v150, val_main_v151, val_main_v152, val_main_v153, val_main_v154, val_main_v155, val_main_v156, val_main_v157, val_main_v158, val_main_v159, val_main_v105, val_main_v106, val_main_v107, val_main_c_17, val_main_c_24, val_main_c_25]
    rw [cnt_read]
  have hw : wid ⟨768 + e.val, by omega⟩ = 16 := by
    unfold wid
    rw [show (768 + e.val) / 256 = 3 by omega]
    norm_num
  rw [h, row_v104 x0 x2 x3 x4 x5 x6 x7 x8 x9 x10 x11 x12 x13 x14 x15 x16 x17 b _ _, row_v104 x0 x2 x3 x4 x5 x6 x7 x8 x9 x10 x11 x12 x13 x14 x15 x16 x17 b _ _, row_v35 x0 x2 x3 x4 x5 x6 x7 x8 x9 x10 x11 x12 x13 x14 x15 x16 x17 b l _]
  unfold seqPooled pooled
  rw [hw, seqE_row _ _ l rfl, show l.val + 16 = 16 + l.val by omega]
  have hd := win_diff (seqE (rpar x2 x3 x4 x5 x6 x7 x8 x9 x10 x11 x12 x13 x14 x15 x16 x17) (rx x0 b)) ⟨768 + e.val, by omega⟩ (fun n => hE b n _) (l.val) 16
  rw [show l.val + 16 = 16 + l.val by omega] at hd
  rw [hd]
  rfl

/-- The four groups side by side. -/
theorem row_v164 (b : Fin 8) (l : Fin 2048) (g : Fin 4) (e : Fin 256) :
    val_main_v164 (F := Ideal) x0 x2 x3 (ix4 b l g e) = seqPooled (rpar x2 x3 x4 x5 x6 x7 x8 x9 x10 x11 x12 x13 x14 x15 x16 x17) (rx x0 b) l ⟨256 * g.val + e.val, by omega⟩ := by
  have h : val_main_v164 (F := Ideal) x0 x2 x3 (ix4 b l g e)
      = if g.val < 1 then val_main_v120 (F := Ideal) x0 x2 x3 (ix3 b l e) else if g.val < 2 then val_main_v133 (F := Ideal) x0 x2 x3 (ix3 b l e)
        else if g.val < 3 then val_main_v146 (F := Ideal) x0 x2 x3 (ix3 b l e) else val_main_v159 (F := Ideal) x0 x2 x3 (ix3 b l e) := by
    pointwise [val_main_v164, val_main_v160, val_main_v161, val_main_v162, val_main_v163]
    obtain ⟨g, hg⟩ := g
    rcases (by omega : g = 0 ∨ g = 1 ∨ g = 2 ∨ g = 3) with rfl | rfl | rfl | rfl <;> simp
  rw [h]
  obtain ⟨g, hg⟩ := g
  rcases (by omega : g = 0 ∨ g = 1 ∨ g = 2 ∨ g = 3) with rfl | rfl | rfl | rfl
  · rw [show (⟨256 * 0 + e.val, by omega⟩ : Fin 1024) = ⟨e.val, by omega⟩ from Fin.ext (by simp)]
    exact row_v120 x0 x2 x3 x4 x5 x6 x7 x8 x9 x10 x11 x12 x13 x14 x15 x16 x17 hE b l e
  · exact row_v133 x0 x2 x3 x4 x5 x6 x7 x8 x9 x10 x11 x12 x13 x14 x15 x16 x17 hE b l e
  · exact row_v146 x0 x2 x3 x4 x5 x6 x7 x8 x9 x10 x11 x12 x13 x14 x15 x16 x17 hE b l e
  · exact row_v159 x0 x2 x3 x4 x5 x6 x7 x8 x9 x10 x11 x12 x13 x14 x15 x16 x17 hE b l e

/-- The groups mixed and scaled. -/
theorem row_v170 (b : Fin 8) (l : Fin 2048) (d : Fin 1024) :
    val_main_v170 (F := Ideal) x0 x2 x3 x8 x9 (ix3 b l d) = (rpar x2 x3 x4 x5 x6 x7 x8 x9 x10 x11 x12 x13 x14 x15 x16 x17).pmix (seqPooled (rpar x2 x3 x4 x5 x6 x7 x8 x9 x10 x11 x12 x13 x14 x15 x16 x17) (rx x0 b) l) d * (rpar x2 x3 x4 x5 x6 x7 x8 x9 x10 x11 x12 x13 x14 x15 x16 x17).poolScale d := by
  have h : val_main_v170 (F := Ideal) x0 x2 x3 x8 x9 (ix3 b l d)
      = (∑ k : Fin 256, x8 (ix4 0 ⟨d.val / 256, by omega⟩ k ⟨d.val % 256, by omega⟩) * val_main_v164 (F := Ideal) x0 x2 x3 (ix4 b l ⟨d.val / 256, by omega⟩ k)) * x9 (ix2 0 d) := by
    pointwise [val_main_v165, val_main_v166, val_main_v167, val_main_v168, val_main_v169, val_main_v170, val_main_v7, val_main_v8]
  rw [h]
  refine congrArg₂ (· * ·) (Finset.sum_congr rfl fun k _ => ?_) rfl
  rw [row_v164 x0 x2 x3 x4 x5 x6 x7 x8 x9 x10 x11 x12 x13 x14 x15 x16 x17 hE, mul_comm]
  rfl
end

/-- The last fifteen pooling inputs. -/
theorem row_v171 (b : Fin 8) (r : Fin 15) (d : Fin 1024) :
    val_main_v171 (F := Ideal) x0 x2 x3 (ix3 b r d) = (rpar x2 x3 x4 x5 x6 x7 x8 x9 x10 x11 x12 x13 x14 x15 x16 x17).xb (rx x0 b ⟨2033 + r.val, by omega⟩) d := by
  have h : val_main_v171 (F := Ideal) x0 x2 x3 (ix3 b r d) = val_main_v100 (F := Ideal) x0 x2 x3 (ix3 b ⟨2048 + r.val, by omega⟩ d) := by
    pointwise [val_main_v171]
  rw [h, row_v100 x0 x2 x3 x4 x5 x6 x7 x8 x9 x10 x11 x12 x13 x14 x15 x16 x17, seqE_row _ _ ⟨2033 + r.val, by omega⟩ (by show 2048 + r.val + 1 = 2033 + r.val + 16; omega)]

end Cert.ReferenceIdeal.Read

end
-- ==== Proof.RefMix.lean ====
/-
  The reference's spatial mix read as a row function of the layer.
-/
module

public import proofs.«01_k».proof.Proof.RefRows

@[expose] public section

set_option maxRecDepth 16384
set_option maxHeartbeats 1000000

noncomputable section

namespace Cert.ReferenceIdeal.Read

open Cert.ReferenceIdeal Cert.ReferenceIdeal.Gen Idealize.ShloMosaic Idealize.ShloMosaic.TcCoe Idealize.ShloMosaic.Tactic Idealize.SL.Sem Cert.Layer
open scoped BigOperators

/-- Counting down from the diagonal in words is counting down in numbers. -/
theorem sge_word : ∀ r t : Fin 128, IntOp.cmpi .sge (IntOp.addi (BitVec.ofNat 32 r.val) 0#32) (BitVec.ofNat 32 t.val) = if t.val ≤ r.val then 1#1 else 0#1 := by
  decide +kernel

theorem select_one (x y : EReal) : Scalar.select 1#1 x y = x := rfl

theorem select_zero (x y : EReal) : Scalar.select 0#1 x y = y := rfl

variable (x0 : (⟨S8x2048x1024, .f32⟩ : BufTy).Contents (Elt Ideal)) (x1 : (⟨S1x8x2048x256, .f32⟩ : BufTy).Contents (Elt Ideal)) (x2 : (⟨S1x1024, .f32⟩ : BufTy).Contents (Elt Ideal)) (x3 : (⟨S1x1024x7168, .f32⟩ : BufTy).Contents (Elt Ideal)) (x4 : (⟨S1x1024, .f32⟩ : BufTy).Contents (Elt Ideal)) (x5 : (⟨S1x1024, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x4x256x256, .f32⟩ : BufTy).Contents (Elt Ideal)) (x9 : (⟨S1x1024, .f32⟩ : BufTy).Contents (Elt Ideal)) (x10 : (⟨S1x1024x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024, .f32⟩ : BufTy).Contents (Elt Ideal)) (x14 : (⟨S1x256x1024, .f32⟩ : BufTy).Contents (Elt Ideal)) (x15 : (⟨S1x1024x1024, .f32⟩ : BufTy).Contents (Elt Ideal)) (x16 : (⟨S1x1024, .f32⟩ : BufTy).Contents (Elt Ideal)) (x17 : (⟨S1x1024, .f32⟩ : BufTy).Contents (Elt Ideal))

/-- The spatial weights below the diagonal. -/
theorem row_v89 (h : Fin 8) (r t : Fin 128) :
    val_main_v89 (F := Ideal) x6 (ix3 h r t) = if t.val ≤ r.val then (rpar x2 x3 x4 x5 x6 x7 x8 x9 x10 x11 x12 x13 x14 x15 x16 x17).wS h r t else 0 := by
  pointwise [val_main_v89, val_main_v5, val_main_call1_v0, val_main_call1_v1, val_main_call1_v2, val_main_call1_v3, val_main_call1_v4, val_main_call1_v5, val_main_call1_v6, val_main_call1_c, val_main_call1_cst]
  rw [sge_word]
  by_cases h' : t.val ≤ r.val
  · rw [if_pos h', if_pos h', select_one]
    rfl
  · rw [if_neg h', if_neg h', select_zero]

/-- The spatial mix. -/
theorem row_v96 (b : Fin 8) (l : Fin 2048) (d : Fin 1024) :
    val_main_v96 (F := Ideal) x0 x2 x3 x4 x5 x6 x7 (ix3 b l d) = (seqMix (rpar x2 x3 x4 x5 x6 x7 x8 x9 x10 x11 x12 x13 x14 x15 x16 x17) (rx x0 b) l) d := by
  have h : val_main_v96 (F := Ideal) x0 x2 x3 x4 x5 x6 x7 (ix3 b l d)
      = (∑ t : Fin 128, val_main_v86 (F := Ideal) x0 x2 x3 x4 x5 (ix3 b ⟨128 * (l.val / 128) + t.val, by omega⟩ d) * val_main_v89 (F := Ideal) x6 (ix3 ⟨d.val / 128, by omega⟩ ⟨l.val % 128, by omega⟩ t))
        + x7 (ix3 0 ⟨d.val / 128, by omega⟩ ⟨l.val % 128, by omega⟩) := by
    pointwise [val_main_v90, val_main_v91, val_main_v92, val_main_v93, val_main_v94, val_main_v95, val_main_v96, val_main_v87, val_main_v88, val_main_v6, val_main_call0_v0, val_main_c]
    refine congrArg₂ (· + ·) (Finset.sum_congr rfl fun t _ => congrArg₂ (· * ·) ?_ rfl) rfl
    rw [dif_pos (by omega)]
    congr 2
    exact Fin.ext (by show l.val / 128 * 128 + t.val = 128 * (l.val / 128) + t.val; omega)
  rw [h]
  refine congrArg₂ (· + ·) (Finset.sum_congr rfl fun t _ => ?_) rfl
  rw [row_v86 x0 x2 x3 x4 x5 x6 x7 x8 x9 x10 x11 x12 x13 x14 x15 x16 x17, row_v89 x2 x3 x4 x5 x6 x7 x8 x9 x10 x11 x12 x13 x14 x15 x16 x17, mul_comm]

end Cert.ReferenceIdeal.Read

end
-- ==== Proof.RefOut.lean ====
/-
  The reference's results read as row functions of the layer.
-/
module

public import proofs.«01_k».proof.Proof.RefPool
public import proofs.«01_k».proof.Proof.RefMix

@[expose] public section

set_option maxRecDepth 16384
set_option maxHeartbeats 1000000

noncomputable section

namespace Cert.ReferenceIdeal.Read

open Cert.ReferenceIdeal Cert.ReferenceIdeal.Gen Idealize.ShloMosaic Idealize.ShloMosaic.TcCoe Idealize.ShloMosaic.Tactic Idealize.SL.Sem Cert.Layer
open scoped BigOperators

variable (x0 : (⟨S8x2048x1024, .f32⟩ : BufTy).Contents (Elt Ideal)) (x1 : (⟨S1x8x2048x256, .f32⟩ : BufTy).Contents (Elt Ideal)) (x2 : (⟨S1x1024, .f32⟩ : BufTy).Contents (Elt Ideal)) (x3 : (⟨S1x1024x7168, .f32⟩ : BufTy).Contents (Elt Ideal)) (x4 : (⟨S1x1024, .f32⟩ : BufTy).Contents (Elt Ideal)) (x5 : (⟨S1x1024, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x4x256x256, .f32⟩ : BufTy).Contents (Elt Ideal)) (x9 : (⟨S1x1024, .f32⟩ : BufTy).Contents (Elt Ideal)) (x10 : (⟨S1x1024x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024, .f32⟩ : BufTy).Contents (Elt Ideal)) (x14 : (⟨S1x256x1024, .f32⟩ : BufTy).Contents (Elt Ideal)) (x15 : (⟨S1x1024x1024, .f32⟩ : BufTy).Contents (Elt Ideal)) (x16 : (⟨S1x1024, .f32⟩ : BufTy).Contents (Elt Ideal)) (x17 : (⟨S1x1024, .f32⟩ : BufTy).Contents (Elt Ideal))

/-- The first branch. -/
theorem row_v99 (b : Fin 8) (l : Fin 2048) (d : Fin 1024) :
    val_main_v99 (F := Ideal) x0 x2 x3 x4 x5 x6 x7 (ix3 b l d) = (rpar x2 x3 x4 x5 x6 x7 x8 x9 x10 x11 x12 x13 x14 x15 x16 x17).ya (rx x0 b l) (seqMix (rpar x2 x3 x4 x5 x6 x7 x8 x9 x10 x11 x12 x13 x14 x15 x16 x17) (rx x0 b) l) d := by
  have h : val_main_v99 (F := Ideal) x0 x2 x3 x4 x5 x6 x7 (ix3 b l d) = val_main_v51 (F := Ideal) x0 x2 x3 (ix3 b l d) * val_main_v96 (F := Ideal) x0 x2 x3 x4 x5 x6 x7 (ix3 b l d) * val_main_v98 (F := Ideal) x0 x2 x3 (ix3 b l d) := by
    pointwise [val_main_v97, val_main_v99]
  rw [h, row_v51 x0 x2 x3 x4 x5 x6 x7 x8 x9 x10 x11 x12 x13 x14 x15 x16 x17, row_v96 x0 x2 x3 x4 x5 x6 x7 x8 x9 x10 x11 x12 x13 x14 x15 x16 x17, row_v98 x0 x2 x3 x4 x5 x6 x7 x8 x9 x10 x11 x12 x13 x14 x15 x16 x17]
  rfl

section
variable (hE : ∀ (b : Fin 8) (n : ℕ) (d : Fin 1024), IsReal (seqE (rpar x2 x3 x4 x5 x6 x7 x8 x9 x10 x11 x12 x13 x14 x15 x16 x17) (rx x0 b) n d))
include hE

/-- The second branch. -/
theorem row_v173 (b : Fin 8) (l : Fin 2048) (d : Fin 1024) :
    val_main_v173 (F := Ideal) x0 x2 x3 x8 x9 (ix3 b l d) = (rpar x2 x3 x4 x5 x6 x7 x8 x9 x10 x11 x12 x13 x14 x15 x16 x17).yb (rx x0 b l) (seqPooled (rpar x2 x3 x4 x5 x6 x7 x8 x9 x10 x11 x12 x13 x14 x15 x16 x17) (rx x0 b) l) d := by
  have h : val_main_v173 (F := Ideal) x0 x2 x3 x8 x9 (ix3 b l d) = val_main_v170 (F := Ideal) x0 x2 x3 x8 x9 (ix3 b l d) * val_main_v172 (F := Ideal) x0 x2 x3 (ix3 b l d) := by
    pointwise [val_main_v173]
  rw [h, row_v170 x0 x2 x3 x4 x5 x6 x7 x8 x9 x10 x11 x12 x13 x14 x15 x16 x17 hE, row_v172 x0 x2 x3 x4 x5 x6 x7 x8 x9 x10 x11 x12 x13 x14 x15 x16 x17]
  rfl

/-- The branches merged. -/
theorem row_v190 (b : Fin 8) (l : Fin 2048) (d : Fin 1024) :
    val_main_v190 (F := Ideal) x0 x2 x3 x4 x5 x6 x7 x8 x9 x10 x11 (ix3 b l d) = (rpar x2 x3 x4 x5 x6 x7 x8 x9 x10 x11 x12 x13 x14 x15 x16 x17).merged (rx x0 b l) (seqMix (rpar x2 x3 x4 x5 x6 x7 x8 x9 x10 x11 x12 x13 x14 x15 x16 x17) (rx x0 b) l) (seqPooled (rpar x2 x3 x4 x5 x6 x7 x8 x9 x10 x11 x12 x13 x14 x15 x16 x17) (rx x0 b) l) d := by
  have h : val_main_v190 (F := Ideal) x0 x2 x3 x4 x5 x6 x7 x8 x9 x10 x11 (ix3 b l d)
      = val_main_v179 (F := Ideal) x0 x2 x3 (ix3 b l d) * lin (fun k => val_main_v99 (F := Ideal) x0 x2 x3 x4 x5 x6 x7 (ix3 b l k)) (fun k d => x10 (ix3 0 k d)) d
        + val_main_v187 (F := Ideal) x0 x2 x3 (ix3 b l d) * lin (fun k => val_main_v173 (F := Ideal) x0 x2 x3 x8 x9 (ix3 b l k)) (fun k d => x11 (ix3 0 k d)) d := by
    unfold lin
    pointwise [val_main_v190, val_main_v181, val_main_v189, val_main_v180, val_main_v188, val_main_v9, val_main_v10]
  rw [h, row_v179 x0 x2 x3 x4 x5 x6 x7 x8 x9 x10 x11 x12 x13 x14 x15 x16 x17, row_v187 x0 x2 x3 x4 x5 x6 x7 x8 x9 x10 x11 x12 x13 x14 x15 x16 x17]
  exact congrArg₂ (· + ·) (congrArg₂ (· * ·) rfl (lin_congr (fun k => row_v99 x0 x2 x3 x4 x5 x6 x7 x8 x9 x10 x11 x12 x13 x14 x15 x16 x17 b l k) (fun _ _ => rfl) d))
    (congrArg₂ (· * ·) rfl (lin_congr (fun k => row_v173 x0 x2 x3 x4 x5 x6 x7 x8 x9 x10 x11 x12 x13 x14 x15 x16 x17 hE b l k) (fun _ _ => rfl) d))

/-- The row after the output projection, its norm and the residual sum. -/
theorem row_v205 (b : Fin 8) (l : Fin 2048) (d : Fin 1024) :
    val_main_v205 (F := Ideal) x0 x2 x3 x4 x5 x6 x7 x8 x9 x10 x11 x12 x13 (ix3 b l d) = (rpar x2 x3 x4 x5 x6 x7 x8 x9 x10 x11 x12 x13 x14 x15 x16 x17).hid (rx x0 b l) (seqMix (rpar x2 x3 x4 x5 x6 x7 x8 x9 x10 x11 x12 x13 x14 x15 x16 x17) (rx x0 b) l) (seqPooled (rpar x2 x3 x4 x5 x6 x7 x8 x9 x10 x11 x12 x13 x14 x15 x16 x17) (rx x0 b) l) d := by
  have h0 (d : Fin 1024) : val_main_v191 (F := Ideal) x0 x2 x3 x4 x5 x6 x7 x8 x9 x10 x11 x12 (ix3 b l d) = lin (fun k => val_main_v190 (F := Ideal) x0 x2 x3 x4 x5 x6 x7 x8 x9 x10 x11 (ix3 b l k)) (fun k d => x12 (ix3 0 k d)) d := by
    unfold lin
    pointwise [val_main_v191, val_main_v11]
  have h : val_main_v205 (F := Ideal) x0 x2 x3 x4 x5 x6 x7 x8 x9 x10 x11 x12 x13 (ix3 b l d) = x0 (ix3 b l d) + rms (fun k => val_main_v191 (F := Ideal) x0 x2 x3 x4 x5 x6 x7 x8 x9 x10 x11 x12 (ix3 b l k)) (fun d => x13 (ix2 0 d)) d := by
    unfold rms kN kEps
    pointwise [val_main_v192, val_main_v193, val_main_v194, val_main_v195, val_main_v196, val_main_v197, val_main_v198, val_main_v199, val_main_v200, val_main_v201, val_main_v202, val_main_v203, val_main_v204, val_main_v205, val_main_v12, val_main_cst_30, val_main_cst_31, val_main_cst_32]
  rw [h]
  exact congrArg₂ (· + ·) rfl (rms_congr (fun k => (h0 k).trans (lin_congr (fun k => row_v190 x0 x2 x3 x4 x5 x6 x7 x8 x9 x10 x11 x12 x13 x14 x15 x16 x17 hE b l k) (fun _ _ => rfl) k)) (fun _ => rfl) d)

/-- The gated embedding. -/
theorem row_v227 (b : Fin 8) (l : Fin 2048) (d : Fin 1024) :
    val_main_v227 (F := Ideal) x0 x1 x2 x3 x4 x5 x6 x7 x8 x9 x10 x11 x12 x13 x14 x15 x16 (ix3 b l d) = (rpar x2 x3 x4 x5 x6 x7 x8 x9 x10 x11 x12 x13 x14 x15 x16 x17).emb ((rpar x2 x3 x4 x5 x6 x7 x8 x9 x10 x11 x12 x13 x14 x15 x16 x17).hid (rx x0 b l) (seqMix (rpar x2 x3 x4 x5 x6 x7 x8 x9 x10 x11 x12 x13 x14 x15 x16 x17) (rx x0 b) l) (seqPooled (rpar x2 x3 x4 x5 x6 x7 x8 x9 x10 x11 x12 x13 x14 x15 x16 x17) (rx x0 b) l)) (rp x1 b l) d := by
  have h0 (d : Fin 1024) : val_main_v219 (F := Ideal) x0 x2 x3 x4 x5 x6 x7 x8 x9 x10 x11 x12 x13 x16 (ix3 b l d) = rms (fun k => val_main_v205 (F := Ideal) x0 x2 x3 x4 x5 x6 x7 x8 x9 x10 x11 x12 x13 (ix3 b l k)) (fun d => x16 (ix2 0 d)) d := by
    unfold rms kN kEps
    pointwise [val_main_v207, val_main_v208, val_main_v209, val_main_v210, val_main_v211, val_main_v212, val_main_v213, val_main_v214, val_main_v215, val_main_v216, val_main_v217, val_main_v218, val_main_v219, val_main_v15, val_main_cst_33, val_main_cst_34, val_main_cst_35]
  have h1 : val_main_v206 (F := Ideal) x1 x14 (ix3 b l d) = lin (rp x1 b l) (fun k d => x14 (ix3 0 k d)) d := by
    unfold lin rp
    pointwise [val_main_v206, val_main_v13, val_main_v17]
  have h2 : val_main_v220 (F := Ideal) x0 x2 x3 x4 x5 x6 x7 x8 x9 x10 x11 x12 x13 x15 x16 (ix3 b l d) = lin (fun k => val_main_v219 (F := Ideal) x0 x2 x3 x4 x5 x6 x7 x8 x9 x10 x11 x12 x13 x16 (ix3 b l k)) (fun k d => x15 (ix3 0 k d)) d := by
    unfold lin
    pointwise [val_main_v220, val_main_v14]
  have h3 : val_main_v227 (F := Ideal) x0 x1 x2 x3 x4 x5 x6 x7 x8 x9 x10 x11 x12 x13 x14 x15 x16 (ix3 b l d) = Layer.sig (val_main_v220 (F := Ideal) x0 x2 x3 x4 x5 x6 x7 x8 x9 x10 x11 x12 x13 x15 x16 (ix3 b l d)) * val_main_v206 (F := Ideal) x1 x14 (ix3 b l d) := by
    generalize e0 : val_main_v220 (F := Ideal) x0 x2 x3 x4 x5 x6 x7 x8 x9 x10 x11 x12 x13 x15 x16 (ix3 b l d) = u
    pointwise [val_main_v221, val_main_v222, val_main_v223, val_main_v224, val_main_v225, val_main_v226, val_main_v227, val_main_cst_36, val_main_cst_37]
    rw [e0]
    rfl
  rw [h3, h2, h1]
  exact congrArg₂ (· * ·) (congrArg Layer.sig (lin_congr (fun k => (h0 k).trans (rms_congr (fun k => row_v205 x0 x2 x3 x4 x5 x6 x7 x8 x9 x10 x11 x12 x13 x14 x15 x16 x17 hE b l k) (fun _ => rfl) k)) (fun _ _ => rfl) d)) rfl

/-- The first result. -/
theorem row_v241 (b : Fin 8) (l : Fin 2048) (d : Fin 1024) :
    val_main_v241 (F := Ideal) x0 x1 x2 x3 x4 x5 x6 x7 x8 x9 x10 x11 x12 x13 x14 x15 x16 x17 (ix3 b l d) = seqOut (rpar x2 x3 x4 x5 x6 x7 x8 x9 x10 x11 x12 x13 x14 x15 x16 x17) (rx x0 b) (rp x1 b) l d := by
  have h : val_main_v241 (F := Ideal) x0 x1 x2 x3 x4 x5 x6 x7 x8 x9 x10 x11 x12 x13 x14 x15 x16 x17 (ix3 b l d) = val_main_v205 (F := Ideal) x0 x2 x3 x4 x5 x6 x7 x8 x9 x10 x11 x12 x13 (ix3 b l d) + rms (fun k => val_main_v227 (F := Ideal) x0 x1 x2 x3 x4 x5 x6 x7 x8 x9 x10 x11 x12 x13 x14 x15 x16 (ix3 b l k)) (fun d => x17 (ix2 0 d)) d := by
    unfold rms kN kEps
    pointwise [val_main_v228, val_main_v229, val_main_v230, val_main_v231, val_main_v232, val_main_v233, val_main_v234, val_main_v235, val_main_v236, val_main_v237, val_main_v238, val_main_v239, val_main_v240, val_main_v241, val_main_v16, val_main_cst_38, val_main_cst_39, val_main_cst_40]
  rw [h, row_v205 x0 x2 x3 x4 x5 x6 x7 x8 x9 x10 x11 x12 x13 x14 x15 x16 x17 hE]
  exact congrArg₂ (· + ·) rfl (rms_congr (fun k => row_v227 x0 x1 x2 x3 x4 x5 x6 x7 x8 x9 x10 x11 x12 x13 x14 x15 x16 x17 hE b l k) (fun _ => rfl) d)
end

/-- The second result. -/
theorem row_v242 (b : Fin 8) (r : Fin 128) (d : Fin 1024) :
    val_main_v242 (F := Ideal) x0 x2 x3 x4 x5 (ix3 b r d) = (rpar x2 x3 x4 x5 x6 x7 x8 x9 x10 x11 x12 x13 x14 x15 x16 x17).vn (rx x0 b ⟨1920 + r.val, by omega⟩) d := by
  have h : val_main_v242 (F := Ideal) x0 x2 x3 x4 x5 (ix3 b r d) = val_main_v86 (F := Ideal) x0 x2 x3 x4 x5 (ix3 b ⟨1920 + r.val, by omega⟩ d) := by
    pointwise [val_main_v242]
  rw [h, row_v86 x0 x2 x3 x4 x5 x6 x7 x8 x9 x10 x11 x12 x13 x14 x15 x16 x17]

end Cert.ReferenceIdeal.Read

end
-- ==== Proof.PreRead.lean ====
/-
  The preconditions, read at an entry: a value whose magnitude compares below infinity is real.
-/
module

public import proofs.«01_k».proof.Pre_finite_pool_weights
public import proofs.«01_k».proof.Proof.Finite
public import Idealize.ShloMosaic.Lib.Pointwise.Index
public import Idealize.ShloMosaic.Lib.Pointwise

@[expose] public section

set_option maxRecDepth 16384

noncomputable section

namespace Cert.Layer

open Idealize.ShloMosaic Idealize.ShloMosaic.Tactic

/-- A value whose magnitude lies below infinity is real. -/
theorem isReal_of_cmp (x : EReal) (h : BitVec.ofBool (decide ((FloatOps.absf (F := Ideal) (φ := .f32) x : EReal) < Ideal.ofBits .f32 0x7F800000#32)) = 1#1) : IsReal x := by
  have htop : Ideal.ofBits .f32 0x7F800000#32 = ⊤ := by simp [Ideal.ofBits, Ideal.ieee]
  rw [htop] at h
  have h : Ideal.cmp .olt (FloatOps.absf (F := Ideal) (φ := .f32) x : EReal) ⊤ = 1 := h
  rw [Ideal.cmp_olt_eq_one] at h
  induction x with
  | bot => exact absurd h (by simp [FloatOps.absf])
  | top => exact absurd h (by simp [FloatOps.absf])
  | coe r => exact ⟨r, rfl⟩

/-- The side conditions of the first precondition's operations. -/
instance facts_pool_weights : Cert.Pre_finite_pool_weights.Facts where
  bcast_S_S1x1024 := by decide
  slices_S1x1024x7168_S1x1024x1024_0_0_3072 := by decide
  bcast_S_S1x1024x1024 := by decide

open Cert.Pre_finite_pool_weights in
/-- The first precondition's two results, read at an entry. -/
theorem pool_weights_read [Cert.Pre_finite_pool_weights.Facts] (x0 : FVec Ideal S8x2048x1024 .f32) (x1 : FVec Ideal S1x8x2048x256 .f32) (x2 : FVec Ideal S1x1024 .f32) (x3 : FVec Ideal S1x1024x7168 .f32) (x4 x5 : FVec Ideal S1x1024 .f32) (x6 : FVec Ideal S1x8x128x128 .f32) (x7 : FVec Ideal S1x8x128 .f32) (x8 : FVec Ideal S1x4x256x256 .f32) (x9 : FVec Ideal S1x1024 .f32) (x10 x11 x12 : FVec Ideal S1x1024x1024 .f32) (x13 : FVec Ideal S1x1024 .f32) (x14 : FVec Ideal S1x256x1024 .f32) (x15 : FVec Ideal S1x1024x1024 .f32) (x16 x17 : FVec Ideal S1x1024 .f32)
    (h : (fn (F := Ideal) x0 x1 x2 x3 x4 x5 x6 x7 x8 x9 x10 x11 x12 x13 x14 x15 x16 x17).1 = (fun _ => 1#1) ∧ (fn (F := Ideal) x0 x1 x2 x3 x4 x5 x6 x7 x8 x9 x10 x11 x12 x13 x14 x15 x16 x17).2 = (fun _ => 1#1)) :
    (∀ k : Fin 1024, IsReal (x2 (ix2 0 k))) ∧ ∀ (k d : Fin 1024), IsReal (x3 (ix3 0 k ⟨3072 + d.val, by omega⟩)) := by
  constructor
  · intro k
    have e := congrFun h.1 (ix2 0 k)
    unfold fn at e
    dsimp only at e
    have e' : (cmpf .olt (Host.absf x2) (broadcastInDim S1x1024 ![] Facts.bcast_S_S1x1024 (constant S_ .f32 0x7F800000#32)) : IVec S1x1024 1) (ix2 0 k) = BitVec.ofBool (decide ((FloatOps.absf (F := Ideal) (φ := .f32) (x2 (ix2 0 k)) : EReal) < Ideal.ofBits .f32 0x7F800000#32)) := by
      pointwise []
    exact isReal_of_cmp _ (e'.symm.trans e)
  · intro k d
    have e := congrFun h.2 (ix3 0 k d)
    unfold fn at e
    dsimp only at e
    have e' : (cmpf .olt (Host.absf (extractStridedSlice S1x1024x1024 ![0, 0, 3072] x3 Facts.slices_S1x1024x7168_S1x1024x1024_0_0_3072)) (broadcastInDim S1x1024x1024 ![] Facts.bcast_S_S1x1024x1024 (constant S_ .f32 0x7F800000#32)) : IVec S1x1024x1024 1) (ix3 0 k d) = BitVec.ofBool (decide ((FloatOps.absf (F := Ideal) (φ := .f32) (x3 (ix3 0 k ⟨3072 + d.val, by omega⟩)) : EReal) < Ideal.ofBits .f32 0x7F800000#32)) := by
      pointwise []
    exact isReal_of_cmp _ (e'.symm.trans e)

end Cert.Layer

end
-- ==== Proof.PromptClaim.lean ====
/-
  The prompt: kernel and reference compute the same three results.
-/
module

public import proofs.«01_k».proof.Defs
public import proofs.«01_k».proof.Proof.Prompt
public import proofs.«01_k».proof.Proof.RefOut
public import proofs.«01_k».proof.Proof.PreRead

@[expose] public section

set_option maxRecDepth 16384
set_option maxHeartbeats 1000000

noncomputable section

namespace Cert.PromptClaim

open Idealize.ShloMosaic Idealize.ShloMosaic.TcCoe Idealize.ShloMosaic.Tactic Idealize.SL.Sem Cert.Layer Cert.ReferenceIdeal.Read

/-- The memory of the kernel's program. -/
abbrev KMem : Type := (ℓ : Loc Cert.KernelIdeal.nD Cert.KernelIdeal.τ Cert.KernelIdeal.sig) → Buf (Elt Ideal) ℓ

/-- The memory of the reference's program. -/
abbrev RMem : Type := (ℓ : Loc Cert.ReferenceIdeal.nD Cert.ReferenceIdeal.τ Cert.ReferenceIdeal.sig) → Buf (Elt Ideal) ℓ

variable (m : KMem) (c : Dev Cert.KernelIdeal.nD)

/-- Under the precondition every pooling input is a real number. -/
theorem pool_real (hp : Cert.Pre_KernelIdeal_finite_pool_weights m) (b : Fin 8) (n : ℕ) (d : Fin 1024) :
    IsReal (seqE (Cert.KernelIdeal.Gen.kpar m c) (Cert.KernelIdeal.Gen.kx m c b) n d) := by
  have h := pool_weights_read _ _ _ _ _ _ _ _ _ _ _ _ _ _ _ _ _ _ (hp c)
  exact seqE_real _ h.1 h.2 _ n d

/-- The reference's results are the kernel's. -/
theorem same (hp : Cert.Pre_KernelIdeal_finite_pool_weights m)
    (x0 : (⟨Cert.ReferenceIdeal.S8x2048x1024, .f32⟩ : BufTy).Contents (Elt Ideal)) (x1 : (⟨Cert.ReferenceIdeal.S1x8x2048x256, .f32⟩ : BufTy).Contents (Elt Ideal)) (x2 : (⟨Cert.ReferenceIdeal.S1x1024, .f32⟩ : BufTy).Contents (Elt Ideal)) (x3 : (⟨Cert.ReferenceIdeal.S1x1024x7168, .f32⟩ : BufTy).Contents (Elt Ideal)) (x4 : (⟨Cert.ReferenceIdeal.S1x1024, .f32⟩ : BufTy).Contents (Elt Ideal)) (x5 : (⟨Cert.ReferenceIdeal.S1x1024, .f32⟩ : BufTy).Contents (Elt Ideal)) (x6 : (⟨Cert.ReferenceIdeal.S1x8x128x128, .f32⟩ : BufTy).Contents (Elt Ideal)) (x7 : (⟨Cert.ReferenceIdeal.S1x8x128, .f32⟩ : BufTy).Contents (Elt Ideal)) (x8 : (⟨Cert.ReferenceIdeal.S1x4x256x256, .f32⟩ : BufTy).Contents (Elt Ideal)) (x9 : (⟨Cert.ReferenceIdeal.S1x1024, .f32⟩ : BufTy).Contents (Elt Ideal)) (x10 : (⟨Cert.ReferenceIdeal.S1x1024x1024, .f32⟩ : BufTy).Contents (Elt Ideal)) (x11 : (⟨Cert.ReferenceIdeal.S1x1024x1024, .f32⟩ : BufTy).Contents (Elt Ideal)) (x12 : (⟨Cert.ReferenceIdeal.S1x1024x1024, .f32⟩ : BufTy).Contents (Elt Ideal)) (x13 : (⟨Cert.ReferenceIdeal.S1x1024, .f32⟩ : BufTy).Contents (Elt Ideal)) (x14 : (⟨Cert.ReferenceIdeal.S1x256x1024, .f32⟩ : BufTy).Contents (Elt Ideal)) (x15 : (⟨Cert.ReferenceIdeal.S1x1024x1024, .f32⟩ : BufTy).Contents (Elt Ideal)) (x16 : (⟨Cert.ReferenceIdeal.S1x1024, .f32⟩ : BufTy).Contents (Elt Ideal)) (x17 : (⟨Cert.ReferenceIdeal.S1x1024, .f32⟩ : BufTy).Contents (Elt Ideal))
    (h0 : x0 = (m ((c.tc : Thread Cert.KernelIdeal.nD Cert.KernelIdeal.τ).loc Cert.KernelIdeal.main_arg0)))
    (h1 : x1 = (m ((c.tc : Thread Cert.KernelIdeal.nD Cert.KernelIdeal.τ).loc Cert.KernelIdeal.main_arg1)))
    (h2 : x2 = (m ((c.tc : Thread Cert.KernelIdeal.nD Cert.KernelIdeal.τ).loc Cert.KernelIdeal.main_arg2)))
    (h3 : x3 = (m ((c.tc : Thread Cert.KernelIdeal.nD Cert.KernelIdeal.τ).loc Cert.KernelIdeal.main_arg3)))
    (h4 : x4 = (m ((c.tc : Thread Cert.KernelIdeal.nD Cert.KernelIdeal.τ).loc Cert.KernelIdeal.main_arg4)))
    (h5 : x5 = (m ((c.tc : Thread Cert.KernelIdeal.nD Cert.KernelIdeal.τ).loc Cert.KernelIdeal.main_arg5)))
    (h6 : x6 = (m ((c.tc : Thread Cert.KernelIdeal.nD Cert.KernelIdeal.τ).loc Cert.KernelIdeal.main_arg6)))
    (h7 : x7 = (m ((c.tc : Thread Cert.KernelIdeal.nD Cert.KernelIdeal.τ).loc Cert.KernelIdeal.main_arg7)))
    (h8 : x8 = (m ((c.tc : Thread Cert.KernelIdeal.nD Cert.KernelIdeal.τ).loc Cert.KernelIdeal.main_arg8)))
    (h9 : x9 = (m ((c.tc : Thread Cert.KernelIdeal.nD Cert.KernelIdeal.τ).loc Cert.KernelIdeal.main_arg9)))
    (h10 : x10 = (m ((c.tc : Thread Cert.KernelIdeal.nD Cert.KernelIdeal.τ).loc Cert.KernelIdeal.main_arg10)))
    (h11 : x11 = (m ((c.tc : Thread Cert.KernelIdeal.nD Cert.KernelIdeal.τ).loc Cert.KernelIdeal.main_arg11)))
    (h12 : x12 = (m ((c.tc : Thread Cert.KernelIdeal.nD Cert.KernelIdeal.τ).loc Cert.KernelIdeal.main_arg12)))
    (h13 : x13 = (m ((c.tc : Thread Cert.KernelIdeal.nD Cert.KernelIdeal.τ).loc Cert.KernelIdeal.main_arg13)))
    (h14 : x14 = (m ((c.tc : Thread Cert.KernelIdeal.nD Cert.KernelIdeal.τ).loc Cert.KernelIdeal.main_arg14)))
    (h15 : x15 = (m ((c.tc : Thread Cert.KernelIdeal.nD Cert.KernelIdeal.τ).loc Cert.KernelIdeal.main_arg15)))
    (h16 : x16 = (m ((c.tc : Thread Cert.KernelIdeal.nD Cert.KernelIdeal.τ).loc Cert.KernelIdeal.main_arg16)))
    (h17 : x17 = (m ((c.tc : Thread Cert.KernelIdeal.nD Cert.KernelIdeal.τ).loc Cert.KernelIdeal.main_arg17))) :
    val_main_v241 (F := Ideal) x0 x1 x2 x3 x4 x5 x6 x7 x8 x9 x10 x11 x12 x13 x14 x15 x16 x17 = Cert.KernelIdeal.Value.G12 m c
    ∧ val_main_v242 (F := Ideal) x0 x2 x3 x4 x5 = Cert.KernelIdeal.Value.G13 m c
    ∧ val_main_v171 (F := Ideal) x0 x2 x3 = Cert.KernelIdeal.Value.G14 m c := by
  subst h0 h1 h2 h3 h4 h5 h6 h7 h8 h9 h10 h11 h12 h13 h14 h15 h16 h17
  have hE : ∀ b n d, IsReal (seqE (rpar (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (rx (m ((c.tc : Thread Cert.KernelIdeal.nD Cert.KernelIdeal.τ).loc Cert.KernelIdeal.main_arg0)) b) n d) := fun b n d => pool_real m c hp b n d
  refine ⟨funext fun i => ?_, funext fun i => ?_, funext fun i => ?_⟩
  · have hi : i = ix3 (i 0) (i 1) (i 2) := by funext a; fin_cases a <;> rfl
    rw [hi]
    exact (row_v241 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) hE (i 0) (i 1) (i 2)).trans (Cert.KernelIdeal.Gen.result_y m c (i 0) (i 1) (i 2)).symm
  · have hi : i = ix3 (i 0) (i 1) (i 2) := by funext a; fin_cases a <;> rfl
    rw [hi]
    exact (row_v242 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (i 0) (i 1) (i 2)).trans (Cert.KernelIdeal.Gen.result_vn m c (i 0) (i 1) (i 2)).symm
  · have hi : i = ix3 (i 0) (i 1) (i 2) := by funext a; fin_cases a <;> rfl
    rw [hi]
    exact (row_v171 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (i 0) (i 1) (i 2)).trans (Cert.KernelIdeal.Gen.result_pool m c (i 0) (i 1) (i 2)).symm

/-- The prompt's kernel and the reference leave the same values in their results. -/
theorem algebraic : Cert.algebraic_KernelIdeal_ReferenceIdeal_pre_finite_pool_weights := by
  intro m g m' g' hp ha
  refine ⟨fun c => Cert.KernelIdeal.Value.G12 m c, fun c => Cert.KernelIdeal.Value.G13 m c, fun c => Cert.KernelIdeal.Value.G14 m c, Cert.KernelIdeal.Value.run m g, ?_⟩
  refine (θ_run Cert.ReferenceIdeal.defs _ _).mono (fun r h c => ?_) (Cert.ReferenceIdeal.Value.run (F := Ideal) m' g')
  obtain ⟨a0, a1, a2, a3, a4, a5, a6, a7, a8, a9, a10, a11, a12, a13, a14, a15, a16, a17⟩ := ha c
  have hs := same m c hp _ _ _ _ _ _ _ _ _ _ _ _ _ _ _ _ _ _ a0 a1 a2 a3 a4 a5 a6 a7 a8 a9 a10 a11 a12 a13 a14 a15 a16 a17
  exact ⟨(h c).1.trans ((val_main_v241_eq (StableHlo.launchContents m' c)).trans hs.1),
    (h c).2.1.trans ((val_main_v242_eq (StableHlo.launchContents m' c)).trans hs.2.1),
    (h c).2.2.1.trans ((val_main_v171_eq (StableHlo.launchContents m' c)).trans hs.2.2), (h c).2.2.2⟩

/-- The reference runs and keeps its arguments. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.PromptClaim

end
-- ==== Proof.Step.lean ====
/-
  One step of a sequence whose last fifteen pooling inputs are kept: its row functions.
-/
module

public import proofs.«01_k».proof.Proof.Finite

@[expose] public section

noncomputable section

namespace Cert.Layer

open Idealize.ShloMosaic
open scoped BigOperators

variable (P : Par) (x : Fin 1024 → EReal) (prev : Fin 15 → Fin 1024 → EReal)

/-- The kept pooling inputs and the step's own, counted from one. -/
def stepE (n : ℕ) : Fin 1024 → EReal := fun d =>
  if n = 0 then 0 else if h : n - 1 < 15 then prev ⟨n - 1, h⟩ d else P.xb x d

theorem stepE_prev (r : Fin 15) {n : ℕ} (h : n = r.val + 1) (d : Fin 1024) : stepE P x prev n d = prev r d := by
  subst h
  have hr := r.isLt
  unfold stepE
  rw [if_neg (by omega), dif_pos (by omega)]
  congr 1

theorem stepE_row (d : Fin 1024) : stepE P x prev 16 d = P.xb x d := by
  unfold stepE
  rw [if_neg (by omega), dif_neg (by omega)]

/-- The spatial mix of a chunk's first row: its own value row times the corner of each head's weights. -/
def stepMix : Fin 1024 → EReal := fun d =>
  P.vn x d * P.wS ⟨d.val / 128, by omega⟩ 0 0 + P.bS ⟨d.val / 128, by omega⟩ 0

/-- The step's pooled row. -/
def stepPooled : Fin 1024 → EReal := pooled (stepE P x prev) 16 16384#32

/-- The step's output row. -/
def stepOut (p : Fin 256 → EReal) : Fin 1024 → EReal := P.out x (stepMix P x) (stepPooled P x prev) p

/-- The difference of two running sums is the window between them, where the sum that is subtracted is finite. -/
theorem win_sub (E : ℕ → Fin 1024 → EReal) (d : Fin 1024) (m w : ℕ) (h : ∀ n < m, IsReal (E (n + 1) d)) :
    ∑ i ∈ Finset.range (m + w), E (i + 1) d - ∑ i ∈ Finset.range m, E (i + 1) d = win E (m + w) w d := by
  obtain ⟨r, hr⟩ := IsReal.sum (Finset.range m) (fun i => E (i + 1) d) fun i hi => h i (Finset.mem_range.mp hi)
  have hs (y : EReal) : (r : EReal) + y - (r : EReal) = y := by
    induction y with
    | bot => simp
    | top => simp
    | coe s => rw [← EReal.coe_add, ← EReal.coe_sub, add_sub_cancel_left]
  unfold win
  rw [Finset.sum_range_add, hr, hs, ← Finset.sum_range_reflect]
  refine Finset.sum_congr rfl fun j hj => ?_
  have := Finset.mem_range.mp hj
  rw [show m + (w - 1 - j) + 1 = m + w - j by omega]

end Cert.Layer

end
-- ==== Proof.SamplePays.lean ====
/-
  The step kernel's arithmetic, by rows: the norm, the value row, the mix of the eight heads and the first branch.
-/
module

public import proofs.«01_k».proof.Proof.Step
public import proofs.«01_k».proof.Proof.Scalars
public import proofs.«01_k».proof.Proof.Gen.SampleIdeal.Skeleton

@[expose] public section

set_option maxRecDepth 16384

noncomputable section

namespace Cert.SampleIdeal.Gen

open Idealize.ShloMosaic Cert.Layer
open scoped BigOperators

/-- The norm of the row. -/
theorem pay3_apply (v0 : Vec Ideal S128x1024 .f32) (v2 : Vec Ideal S1x1024 .f32) (i : Fin 128) (j : Fin 1024) :
    k0_pay3 (F := Ideal) v0 v2 (ix2 i j) = rms (fun k => v0 (ix2 i k)) (fun k => v2 (ix2 0 k)) j := by
  pointwise [k0_pay3, k0_pay2]
  rfl

/-- The rows are passed on as they are. -/
theorem pay2_apply (v : Vec Ideal S128x1024 .f32) (i : Fin 128) (j : Fin 1024) : k0_pay2 (F := Ideal) v (ix2 i j) = v (ix2 i j) := by
  pointwise [k0_pay2]

/-- The activated first part. -/
theorem pay4_apply (v0 : Vec Ideal S128x1024 .f32) (v2 : Vec Ideal S1x1024 .f32) (w : Vec Ideal S1024x1024 .bf16) (i : Fin 128) (j : Fin 1024) :
    k0_pay4 (F := Ideal) v0 v2 w (ix2 i j)
      = gelu (lin (fun k => k0_pay3 (F := Ideal) v0 v2 (ix2 i k)) (fun k d => w (ix2 k d)) j) := by
  rw [← gelu_half_first]
  pointwise [k0_pay4]
  rfl

/-- The value row. -/
theorem pay9_apply (v0 : Vec Ideal S128x1024 .f32) (v2 : Vec Ideal S1x1024 .f32) (w : Vec Ideal S1024x1024 .bf16) (g b : Vec Ideal S1x1024 .f32)
    (i : Fin 128) (j : Fin 1024) :
    k0_pay9 (F := Ideal) (k0_pay5 v0 v2 w) (k0_pay6 v0 v2 w) (k0_pay7 v0 v2 w) k0_pay8 g b (ix2 i j)
      = lnorm (fun d => gelu (lin (fun k => k0_pay3 (F := Ideal) v0 v2 (ix2 i k)) (fun k d => w (ix2 k d)) d))
          (fun k => g (ix2 0 k)) (fun k => b (ix2 0 k)) j := by
  simp only [← gelu_half_first]
  pointwise [k0_pay9, k0_pay5, k0_pay6, k0_pay7, k0_pay8]
  rfl

/-- Head 0: the value row times the corner of the head's weights, shifted. -/
theorem pay12_apply (v35 v37 v39 v40 : FVec Ideal S128x1024 .f32) (g b : Vec Ideal S1x1024 .f32) (s : Vec Ideal S1x1x1 .f32) (z : Vec Ideal S1x1 .f32)
    (i e : Fin 128) :
    k0_pay12 (F := Ideal) (k0_pay10 v35 v37 v39 v40 g b s) (k0_pay11 z) (ix2 i e)
      = k0_pay9 (F := Ideal) v35 v37 v39 v40 g b (ix2 i ⟨e.val, by omega⟩) * s (ix3 0 0 0) + z (ix2 0 0) := by
  pointwise [k0_pay12, k0_pay10, k0_pay11]

/-- Head 1: the value row times the corner of the head's weights, shifted. -/
theorem pay13_apply (v : FVec Ideal S128x1024 .f32) (s : Vec Ideal S1x1x1 .f32) (z : Vec Ideal S1x1 .f32) (i e : Fin 128) :
    k0_pay13 (F := Ideal) v s z (ix2 i e) = v (ix2 i ⟨128 + e.val, by omega⟩) * s (ix3 0 0 0) + z (ix2 0 0) := by
  pointwise [k0_pay13]

/-- Head 2: the value row times the corner of the head's weights, shifted. -/
theorem pay14_apply (v : FVec Ideal S128x1024 .f32) (s : Vec Ideal S1x1x1 .f32) (z : Vec Ideal S1x1 .f32) (i e : Fin 128) :
    k0_pay14 (F := Ideal) v s z (ix2 i e) = v (ix2 i ⟨256 + e.val, by omega⟩) * s (ix3 0 0 0) + z (ix2 0 0) := by
  pointwise [k0_pay14]

/-- Head 3: the value row times the corner of the head's weights, shifted. -/
theorem pay15_apply (v : FVec Ideal S128x1024 .f32) (s : Vec Ideal S1x1x1 .f32) (z : Vec Ideal S1x1 .f32) (i e : Fin 128) :
    k0_pay15 (F := Ideal) v s z (ix2 i e) = v (ix2 i ⟨384 + e.val, by omega⟩) * s (ix3 0 0 0) + z (ix2 0 0) := by
  pointwise [k0_pay15]

/-- Head 4: the value row times the corner of the head's weights, shifted. -/
theorem pay16_apply (v : FVec Ideal S128x1024 .f32) (s : Vec Ideal S1x1x1 .f32) (z : Vec Ideal S1x1 .f32) (i e : Fin 128) :
    k0_pay16 (F := Ideal) v s z (ix2 i e) = v (ix2 i ⟨512 + e.val, by omega⟩) * s (ix3 0 0 0) + z (ix2 0 0) := by
  pointwise [k0_pay16]

/-- The mix at a column of a known head. -/
theorem mix_head (P : Par) (V : Fin 1024 → EReal) (d : Fin 1024) (h : Fin 8) (hd : d.val / 128 = h.val) :
    V d * P.wS ⟨d.val / 128, by omega⟩ 0 0 + P.bS ⟨d.val / 128, by omega⟩ 0 = V d * P.wS h 0 0 + P.bS h 0 := by
  have e : (⟨d.val / 128, by omega⟩ : Fin 8) = h := Fin.ext hd
  rw [e]

set_option maxHeartbeats 1000000 in
/-- The first branch, from the activated first part and the heads' mixes. -/
theorem pay17_apply (P : Par) (V : Fin 1024 → EReal) (v16 : FVec Ideal S128x1024 .bf16) (v32 v72 : FVec Ideal S128x1024 .f32)
    (q0 q1 q2 q3 q4 : FVec Ideal S128x128 .f32) (s5 s6 s7 : Vec Ideal S1x1x1 .f32) (b5 b6 b7 : Vec Ideal S1x1 .f32) (w : Vec Ideal S1024x1024 .bf16)
    (i : Fin 128) (hV : ∀ d, v72 (ix2 i d) = V d)
    (h0 : ∀ e : Fin 128, q0 (ix2 i e) = V ⟨e.val, by omega⟩ * P.wS 0 0 0 + P.bS 0 0)
    (h1 : ∀ e : Fin 128, q1 (ix2 i e) = V ⟨128 + e.val, by omega⟩ * P.wS 1 0 0 + P.bS 1 0)
    (h2 : ∀ e : Fin 128, q2 (ix2 i e) = V ⟨256 + e.val, by omega⟩ * P.wS 2 0 0 + P.bS 2 0)
    (h3 : ∀ e : Fin 128, q3 (ix2 i e) = V ⟨384 + e.val, by omega⟩ * P.wS 3 0 0 + P.bS 3 0)
    (h4 : ∀ e : Fin 128, q4 (ix2 i e) = V ⟨512 + e.val, by omega⟩ * P.wS 4 0 0 + P.bS 4 0)
    (hs5 : s5 (ix3 0 0 0) = P.wS 5 0 0) (hb5 : b5 (ix2 0 0) = P.bS 5 0)
    (hs6 : s6 (ix3 0 0 0) = P.wS 6 0 0) (hb6 : b6 (ix2 0 0) = P.bS 6 0)
    (hs7 : s7 (ix3 0 0 0) = P.wS 7 0 0) (hb7 : b7 (ix2 0 0) = P.bS 7 0)
    (d : Fin 1024) :
    k0_pay17 (F := Ideal) v16 v32 v72 q0 q1 q2 q3 q4 s5 b5 s6 b6 s7 b7 w (ix2 i d)
      = v32 (ix2 i d) * (V d * P.wS ⟨d.val / 128, by omega⟩ 0 0 + P.bS ⟨d.val / 128, by omega⟩ 0)
          * silu (lin (fun k => v16 (ix2 i k)) (fun k d => w (ix2 k d)) d) := by
  unfold silu
  rw [← sig_tanh]
  pointwise [k0_pay17]
  refine congrArg₂ (· * ·) (congrArg₂ (· * ·) rfl ?_) rfl
  have hd : d.val / 128 = 0 ∨ d.val / 128 = 1 ∨ d.val / 128 = 2 ∨ d.val / 128 = 3 ∨ d.val / 128 = 4 ∨ d.val / 128 = 5
      ∨ d.val / 128 = 6 ∨ d.val / 128 = 7 := by omega
  rcases hd with hd | hd | hd | hd | hd | hd | hd | hd
  · rw [dif_pos (by omega), mix_head P V d 0 hd]
    simp only [h0]
    first
      | done
      | exact congrArg₂ (· + ·) (congrArg₂ (· * ·) (congrArg V (Fin.ext (by show _ = d.val; simp only []; omega))) rfl) rfl
  · rw [dif_neg (by omega), dif_pos (by omega), mix_head P V d 1 hd]
    simp only [h1]
    first
      | done
      | exact congrArg₂ (· + ·) (congrArg₂ (· * ·) (congrArg V (Fin.ext (by show _ = d.val; simp only []; omega))) rfl) rfl
  · rw [dif_neg (by omega), dif_neg (by omega), dif_pos (by omega), mix_head P V d 2 hd]
    simp only [h2]
    first
      | done
      | exact congrArg₂ (· + ·) (congrArg₂ (· * ·) (congrArg V (Fin.ext (by show _ = d.val; simp only []; omega))) rfl) rfl
  · rw [dif_neg (by omega), dif_neg (by omega), dif_neg (by omega), dif_pos (by omega), mix_head P V d 3 hd]
    simp only [h3]
    first
      | done
      | exact congrArg₂ (· + ·) (congrArg₂ (· * ·) (congrArg V (Fin.ext (by show _ = d.val; simp only []; omega))) rfl) rfl
  · rw [dif_neg (by omega), dif_neg (by omega), dif_neg (by omega), dif_neg (by omega), dif_pos (by omega), mix_head P V d 4 hd]
    simp only [h4]
    first
      | done
      | exact congrArg₂ (· + ·) (congrArg₂ (· * ·) (congrArg V (Fin.ext (by show _ = d.val; simp only []; omega))) rfl) rfl
  · rw [dif_neg (by omega), dif_neg (by omega), dif_neg (by omega), dif_neg (by omega), dif_neg (by omega), dif_pos (by omega), mix_head P V d 5 hd]
    simp only [hV, hs5, hb5]
    first
      | done
      | exact congrArg₂ (· + ·) (congrArg₂ (· * ·) (congrArg V (Fin.ext (by show _ = d.val; simp only []; omega))) rfl) rfl
  · rw [dif_neg (by omega), dif_neg (by omega), dif_neg (by omega), dif_neg (by omega), dif_neg (by omega), dif_neg (by omega), dif_pos (by omega), mix_head P V d 6 hd]
    simp only [hV, hs6, hb6]
    first
      | done
      | exact congrArg₂ (· + ·) (congrArg₂ (· * ·) (congrArg V (Fin.ext (by show _ = d.val; simp only []; omega))) rfl) rfl
  · rw [dif_neg (by omega), dif_neg (by omega), dif_neg (by omega), dif_neg (by omega), dif_neg (by omega), dif_neg (by omega), dif_neg (by omega), mix_head P V d 7 hd]
    simp only [hV, hs7, hb7]
    first
      | done
      | exact congrArg₂ (· + ·) (congrArg₂ (· * ·) (congrArg V (Fin.ext (by show _ = d.val; simp only []; omega))) rfl) rfl

end Cert.SampleIdeal.Gen

end
-- ==== Proof.SamplePool.lean ====
/-
  The step kernel's arithmetic, by rows: the four pooled groups, the second branch, the merge and the output.
-/
module

public import proofs.«01_k».proof.Proof.KernelPool
public import proofs.«01_k».proof.Proof.SamplePays

@[expose] public section

set_option maxRecDepth 16384

noncomputable section

namespace Cert.SampleIdeal.Gen

open Idealize.ShloMosaic Cert.Layer
open Cert.KernelIdeal.Gen (pooled_of pmix_group)
open scoped BigOperators

/-- A window of 2 rows is full at the step: it holds 2. -/
theorem cnt_2 : cnt 16384#32 (BitVec.ofNat 32 2) = Ideal.ofBits .f32 0x40000000#32 := by
  have e : (IntOp.minsi (16384#32 + 1#32) (BitVec.ofNat 32 2)).toInt = 2 := by decide
  unfold cnt
  rw [e]
  simp [Ideal.ofBits, Ideal.ieee, -EReal.coe_mul]
  norm_num

/-- A window of 4 rows is full at the step: it holds 4. -/
theorem cnt_4 : cnt 16384#32 (BitVec.ofNat 32 4) = Ideal.ofBits .f32 0x40800000#32 := by
  have e : (IntOp.minsi (16384#32 + 1#32) (BitVec.ofNat 32 4)).toInt = 4 := by decide
  unfold cnt
  rw [e]
  simp [Ideal.ofBits, Ideal.ieee, -EReal.coe_mul]
  norm_num

/-- A window of 8 rows is full at the step: it holds 8. -/
theorem cnt_8 : cnt 16384#32 (BitVec.ofNat 32 8) = Ideal.ofBits .f32 0x41000000#32 := by
  have e : (IntOp.minsi (16384#32 + 1#32) (BitVec.ofNat 32 8)).toInt = 8 := by decide
  unfold cnt
  rw [e]
  simp [Ideal.ofBits, Ideal.ieee, -EReal.coe_mul]
  norm_num

/-- A window of 16 rows is full at the step: it holds 16. -/
theorem cnt_16 : cnt 16384#32 (BitVec.ofNat 32 16) = Ideal.ofBits .f32 0x41800000#32 := by
  have e : (IntOp.minsi (16384#32 + 1#32) (BitVec.ofNat 32 16)).toInt = 16 := by decide
  unfold cnt
  rw [e]
  simp [Ideal.ofBits, Ideal.ieee, -EReal.coe_mul]
  norm_num

/-- The pooling input's row. -/
theorem pay18_apply (v16 : FVec Ideal S128x1024 .bf16) (w : Vec Ideal S1024x1024 .bf16) (i : Fin 128) (j : Fin 1024) :
    k0_pay18 (F := Ideal) v16 w (ix2 i j) = lin (fun k => v16 (ix2 i k)) (fun k d => w (ix2 k d)) j := by
  pointwise [k0_pay18]
  rfl

/-- The kept rows are passed on as they are. -/
theorem pay29_apply (v : Vec Ideal S128x14336 .f32) (i : Fin 128) (j : Fin 14336) : k0_pay29 (F := Ideal) v (ix2 i j) = v (ix2 i j) := by
  pointwise [k0_pay29]

section
variable (E : ℕ → Fin 1024 → EReal) (i : Fin 128) (v16 : FVec Ideal S128x1024 .bf16) (w : Vec Ideal S1024x1024 .bf16)

/-- The group of windows of 2. -/
theorem pay19_apply (l1 : Vec Ideal S128x256 .f32) (e : Fin 256)
    (h0 : ∀ j, k0_pay18 (F := Ideal) v16 w (ix2 i j) = E 16 j)
    (h1 : l1 (ix2 i e) = E 15 ⟨e.val, by omega⟩) :
    k0_pay19 (F := Ideal) v16 w l1 (ix2 i e) = pooled E 16 16384#32 ⟨e.val, by omega⟩ := by
  pointwise [k0_pay19]
  have hw : wid ⟨e.val, by omega⟩ = 2 := by
    unfold wid; rw [show (e.val) / 256 = 0 by omega]; norm_num
  rw [pooled_of E 16 _ _ 2 hw, cnt_2]
  simp only [h0, h1]
  simp only [Finset.sum_range_succ, Finset.sum_range_zero, zero_add, Nat.sub_zero, Nat.reduceSub]

/-- The group of windows of 4. -/
theorem pay20_apply (l1 l2 l3 : Vec Ideal S128x256 .f32) (e : Fin 256)
    (h0 : ∀ j, k0_pay18 (F := Ideal) v16 w (ix2 i j) = E 16 j)
    (h1 : l1 (ix2 i e) = E 15 ⟨256 + e.val, by omega⟩)
    (h2 : l2 (ix2 i e) = E 14 ⟨256 + e.val, by omega⟩)
    (h3 : l3 (ix2 i e) = E 13 ⟨256 + e.val, by omega⟩) :
    k0_pay20 (F := Ideal) v16 w l1 l2 l3 (ix2 i e) = pooled E 16 16384#32 ⟨256 + e.val, by omega⟩ := by
  pointwise [k0_pay20]
  have hw : wid ⟨256 + e.val, by omega⟩ = 4 := by
    unfold wid; rw [show (256 + e.val) / 256 = 1 by omega]; norm_num
  rw [pooled_of E 16 _ _ 4 hw, cnt_4]
  simp only [h0, h1, h2, h3]
  simp only [Finset.sum_range_succ, Finset.sum_range_zero, zero_add, Nat.sub_zero, Nat.reduceSub]

/-- The group of windows of 8. -/
theorem pay24_apply (l1 l2 l3 l4 l5 l6 l7 : Vec Ideal S128x256 .f32) (e : Fin 256)
    (h0 : ∀ j, k0_pay18 (F := Ideal) v16 w (ix2 i j) = E 16 j)
    (h1 : l1 (ix2 i e) = E 15 ⟨512 + e.val, by omega⟩)
    (h2 : l2 (ix2 i e) = E 14 ⟨512 + e.val, by omega⟩)
    (h3 : l3 (ix2 i e) = E 13 ⟨512 + e.val, by omega⟩)
    (h4 : l4 (ix2 i e) = E 12 ⟨512 + e.val, by omega⟩)
    (h5 : l5 (ix2 i e) = E 11 ⟨512 + e.val, by omega⟩)
    (h6 : l6 (ix2 i e) = E 10 ⟨512 + e.val, by omega⟩)
    (h7 : l7 (ix2 i e) = E 9 ⟨512 + e.val, by omega⟩) :
    k0_pay24 (F := Ideal) (k0_pay21 v16 w) (k0_pay22 v16 w l1 l2 l3 l4) (k0_pay23 l5) l6 l7 (ix2 i e) = pooled E 16 16384#32 ⟨512 + e.val, by omega⟩ := by
  pointwise [k0_pay24, k0_pay21, k0_pay22, k0_pay23]
  have hw : wid ⟨512 + e.val, by omega⟩ = 8 := by
    unfold wid; rw [show (512 + e.val) / 256 = 2 by omega]; norm_num
  rw [pooled_of E 16 _ _ 8 hw, cnt_8]
  simp only [h0, h1, h2, h3, h4, h5, h6, h7]
  simp only [Finset.sum_range_succ, Finset.sum_range_zero, zero_add, Nat.sub_zero, Nat.reduceSub]

/-- The first nine terms of the windows of sixteen. -/
theorem pay26_apply (v162 : FVec Ideal S128x1024 .f32) (l1 l2 l3 l4 l5 l6 l7 l8 : Vec Ideal S128x256 .f32) (e : Fin 256) :
    k0_pay26 (F := Ideal) v162 l1 l2 l3 l4 l5 l6 l7 l8 (ix2 i e)
      = v162 (ix2 i ⟨768 + e.val, by omega⟩) + l1 (ix2 i e) + l2 (ix2 i e) + l3 (ix2 i e) + l4 (ix2 i e) + l5 (ix2 i e) + l6 (ix2 i e)
        + l7 (ix2 i e) + l8 (ix2 i e) := by
  pointwise [k0_pay26, k0_pay25]

/-- The pooling input's last group. -/
theorem pay25_apply (v162 : FVec Ideal S128x1024 .f32) (e : Fin 256) :
    k0_pay25 (F := Ideal) v162 (ix2 i e) = v162 (ix2 i ⟨768 + e.val, by omega⟩) := by
  pointwise [k0_pay25]

/-- A kept row's group is passed on as it is. -/
theorem pay27_apply (l : Vec Ideal S128x256 .f32) (e : Fin 256) : k0_pay27 (F := Ideal) l (ix2 i e) = l (ix2 i e) := by
  pointwise [k0_pay27]

/-- The fourth group from its terms, beside the first three. -/
theorem pay28_parts (q0 q1 q2 q3 v232 v234 l10 l11 l12 l13 l14 l15 : FVec Ideal S128x256 .f32) (j : Fin 1024) :
    k0_pay28 (F := Ideal) q0 q1 q2 q3 v232 v234 l10 l11 l12 l13 l14 l15 (ix2 i j)
      = if h0 : j.val < 256 then q0 (ix2 i ⟨j.val, h0⟩)
        else if h1 : j.val - 256 < 256 then q1 (ix2 i ⟨j.val - 256, h1⟩)
        else if h2 : j.val - 256 - 256 < 256 then q2 (ix2 i ⟨j.val - 256 - 256, h2⟩)
        else Ideal.div (v232 (ix2 i ⟨j.val - 256 - 256 - 256, by omega⟩) + v234 (ix2 i ⟨j.val - 256 - 256 - 256, by omega⟩)
            + l10 (ix2 i ⟨j.val - 256 - 256 - 256, by omega⟩) + l11 (ix2 i ⟨j.val - 256 - 256 - 256, by omega⟩)
            + l12 (ix2 i ⟨j.val - 256 - 256 - 256, by omega⟩) + l13 (ix2 i ⟨j.val - 256 - 256 - 256, by omega⟩)
            + l14 (ix2 i ⟨j.val - 256 - 256 - 256, by omega⟩) + l15 (ix2 i ⟨j.val - 256 - 256 - 256, by omega⟩))
            (Ideal.ofBits .f32 0x41800000#32) - q3 (ix2 i ⟨j.val - 256 - 256 - 256, by omega⟩) := by
  pointwise [k0_pay28]

/-- The pooled row, all four groups. -/
theorem pay28_apply (v162 : FVec Ideal S128x1024 .f32) (q0 q1 q2 : FVec Ideal S128x256 .f32) (l1 l2 l3 l4 l5 l6 l7 l8 l9 l10 l11 l12 l13 l14 l15 : Vec Ideal S128x256 .f32)
    (h0 : ∀ j, v162 (ix2 i j) = E 16 j)
    (hq0 : ∀ e : Fin 256, q0 (ix2 i e) = pooled E 16 16384#32 ⟨e.val, by omega⟩)
    (hq1 : ∀ e : Fin 256, q1 (ix2 i e) = pooled E 16 16384#32 ⟨256 + e.val, by omega⟩)
    (hq2 : ∀ e : Fin 256, q2 (ix2 i e) = pooled E 16 16384#32 ⟨512 + e.val, by omega⟩)
    (h1 : ∀ e : Fin 256, l1 (ix2 i e) = E 15 ⟨768 + e.val, by omega⟩)
    (h2 : ∀ e : Fin 256, l2 (ix2 i e) = E 14 ⟨768 + e.val, by omega⟩)
    (h3 : ∀ e : Fin 256, l3 (ix2 i e) = E 13 ⟨768 + e.val, by omega⟩)
    (h4 : ∀ e : Fin 256, l4 (ix2 i e) = E 12 ⟨768 + e.val, by omega⟩)
    (h5 : ∀ e : Fin 256, l5 (ix2 i e) = E 11 ⟨768 + e.val, by omega⟩)
    (h6 : ∀ e : Fin 256, l6 (ix2 i e) = E 10 ⟨768 + e.val, by omega⟩)
    (h7 : ∀ e : Fin 256, l7 (ix2 i e) = E 9 ⟨768 + e.val, by omega⟩)
    (h8 : ∀ e : Fin 256, l8 (ix2 i e) = E 8 ⟨768 + e.val, by omega⟩)
    (h9 : ∀ e : Fin 256, l9 (ix2 i e) = E 7 ⟨768 + e.val, by omega⟩)
    (h10 : ∀ e : Fin 256, l10 (ix2 i e) = E 6 ⟨768 + e.val, by omega⟩)
    (h11 : ∀ e : Fin 256, l11 (ix2 i e) = E 5 ⟨768 + e.val, by omega⟩)
    (h12 : ∀ e : Fin 256, l12 (ix2 i e) = E 4 ⟨768 + e.val, by omega⟩)
    (h13 : ∀ e : Fin 256, l13 (ix2 i e) = E 3 ⟨768 + e.val, by omega⟩)
    (h14 : ∀ e : Fin 256, l14 (ix2 i e) = E 2 ⟨768 + e.val, by omega⟩)
    (h15 : ∀ e : Fin 256, l15 (ix2 i e) = E 1 ⟨768 + e.val, by omega⟩)
    (j : Fin 1024) :
    k0_pay28 (F := Ideal) q0 q1 q2 (k0_pay25 v162) (k0_pay26 v162 l1 l2 l3 l4 l5 l6 l7 l8) (k0_pay27 l9)
        l10 l11 l12 l13 l14 l15 (ix2 i j) = pooled E 16 16384#32 j := by
  rw [pay28_parts]
  have hj : j.val < 256 ∨ (256 ≤ j.val ∧ j.val < 512) ∨ (512 ≤ j.val ∧ j.val < 768) ∨ 768 ≤ j.val := by omega
  rcases hj with hj | hj | hj | hj
  · rw [dif_pos (by omega), hq0]
  · rw [dif_neg (by omega), dif_pos (by omega), hq1]
    exact congrArg _ (Fin.ext (by show 256 + (j.val - 256) = j.val; omega))
  · rw [dif_neg (by omega), dif_neg (by omega), dif_pos (by omega), hq2]
    exact congrArg _ (Fin.ext (by show 512 + (j.val - 256 - 256) = j.val; omega))
  · rw [dif_neg (by omega), dif_neg (by omega), dif_neg (by omega)]
    have hd : ∀ h, (⟨768 + (j.val - 256 - 256 - 256), h⟩ : Fin 1024) = j := fun h =>
      Fin.ext (by show 768 + (j.val - 256 - 256 - 256) = j.val; omega)
    have hw : wid j = 16 := by unfold wid; rw [show j.val / 256 = 3 by omega]; norm_num
    rw [pooled_of E 16 _ j 16 hw, cnt_16]
    simp only [pay25_apply, pay26_apply, pay27_apply, h0, h1, h2, h3, h4, h5, h6, h7, h8, h9, h10, h11, h12, h13, h14, h15]
    simp only [hd, Finset.sum_range_succ, Finset.sum_range_zero, zero_add, Nat.sub_zero, Nat.reduceSub]
end

section
variable (a1 a2 a3 a4 a5 a6 : FVec Ideal S128x256 .f32) (a7 a8 a9 a10 a11 a12 : Vec Ideal S128x256 .f32)

/-- The mix of the first pooled group. -/
theorem pay30_apply (w : Vec Ideal S1x256x256 .bf16) (i : Fin 128) (e : Fin 256) :
    k0_pay30 (F := Ideal) a1 a2 a3 a4 a5 a6 a7 a8 a9 a10 a11 a12 w (ix2 i e)
      = ∑ k : Fin 256, k0_pay28 (F := Ideal) a1 a2 a3 a4 a5 a6 a7 a8 a9 a10 a11 a12 (ix2 i ⟨k.val, by omega⟩) * w (ix3 0 k e) := by
  pointwise [k0_pay30]

/-- The second pooled group, passed on to its mix. -/
theorem pay31_apply (i : Fin 128) (k : Fin 256) :
    k0_pay31 (F := Ideal) a1 a2 a3 a4 a5 a6 a7 a8 a9 a10 a11 a12 (ix2 i k)
      = k0_pay28 (F := Ideal) a1 a2 a3 a4 a5 a6 a7 a8 a9 a10 a11 a12 (ix2 i ⟨256 + k.val, by omega⟩) := by
  pointwise [k0_pay31]

/-- The second branch, from the pooled row and the groups' matrices. -/
theorem pay32_apply (P : Par) (w0 w1 w2 w3 : Vec Ideal S1x256x256 .bf16) (sc : Vec Ideal S1x1024 .f32) (wz : Vec Ideal S1024x1024 .bf16)
    (v16 : FVec Ideal S128x1024 .bf16) (i : Fin 128) (q : Fin 1024 → EReal)
    (hq : ∀ j, k0_pay28 (F := Ideal) a1 a2 a3 a4 a5 a6 a7 a8 a9 a10 a11 a12 (ix2 i j) = q j)
    (hw0 : ∀ k e, w0 (ix3 0 k e) = P.wPool 0 k e) (hw1 : ∀ k e, w1 (ix3 0 k e) = P.wPool 1 k e)
    (hw2 : ∀ k e, w2 (ix3 0 k e) = P.wPool 2 k e) (hw3 : ∀ k e, w3 (ix3 0 k e) = P.wPool 3 k e)
    (hsc : ∀ j, sc (ix2 0 j) = P.poolScale j) (j : Fin 1024) :
    k0_pay32 (F := Ideal) v16 (k0_pay28 a1 a2 a3 a4 a5 a6 a7 a8 a9 a10 a11 a12) (k0_pay30 a1 a2 a3 a4 a5 a6 a7 a8 a9 a10 a11 a12 w0)
        (k0_pay31 a1 a2 a3 a4 a5 a6 a7 a8 a9 a10 a11 a12) w1 w2 w3 sc wz (ix2 i j)
      = P.pmix q j * P.poolScale j * silu (lin (fun k => v16 (ix2 i k)) (fun k d => wz (ix2 k d)) j) := by
  unfold silu
  rw [← sig_tanh]
  pointwise [k0_pay32]
  refine congrArg₂ (· * ·) (congrArg₂ (· * ·) ?_ (hsc j)) rfl
  have hj : j.val < 256 ∨ (256 ≤ j.val ∧ j.val < 512) ∨ (512 ≤ j.val ∧ j.val < 768) ∨ 768 ≤ j.val := by omega
  rcases hj with hj | hj | hj | hj
  · rw [dif_pos (by omega), pmix_group P q j 0 ⟨j.val, by omega⟩ 0 rfl (by simp)]
    simp only [pay30_apply, hq, hw0, zero_add]
  · rw [dif_neg (by omega), dif_pos (by omega), pmix_group P q j 1 ⟨j.val - 256, by omega⟩ 256 rfl (by simp; omega)]
    simp only [pay31_apply, hq, hw1]
  · rw [dif_neg (by omega), dif_neg (by omega), dif_pos (by omega), pmix_group P q j 2 ⟨j.val - 256 - 256, by omega⟩ 512 rfl (by simp; omega)]
    simp only [hq, hw2]
  · rw [dif_neg (by omega), dif_neg (by omega), dif_neg (by omega), pmix_group P q j 3 ⟨j.val - 256 - 256 - 256, by omega⟩ 768 rfl (by simp; omega)]
    simp only [hq, hw3]
end

/-- The row before the embedding: the merged branches projected, normed and added to the input. -/
theorem pay38_apply (v1 v159 v298 : FVec Ideal S128x1024 .f32) (v16 : FVec Ideal S128x1024 .bf16) (wa wb wpa wpb wo : Vec Ideal S1024x1024 .bf16)
    (g : Vec Ideal S1x1024 .f32) (i : Fin 128) (j : Fin 1024) :
    k0_pay38 (F := Ideal) v1 (k0_pay35 v16 v159 v298 (k0_pay34 v16 wa) wb wpa wpb wo) (k0_pay36 g)
        (k0_pay37 v16 v159 v298 (k0_pay34 v16 wa) wb wpa wpb wo) (ix2 i j)
      = v1 (ix2 i j) + rms (lin (fun d => Layer.sig (lin (fun k => v16 (ix2 i k)) (fun k d => wa (ix2 k d)) d)
            * lin (fun k => v159 (ix2 i k)) (fun k d => wpa (ix2 k d)) d
          + Layer.sig (lin (fun k => v16 (ix2 i k)) (fun k d => wb (ix2 k d)) d)
            * lin (fun k => v298 (ix2 i k)) (fun k d => wpb (ix2 k d)) d) (fun k d => wo (ix2 k d))) (fun k => g (ix2 0 k)) j := by
  simp only [← sig_tanh]
  pointwise [k0_pay38, k0_pay35, k0_pay36, k0_pay37, k0_pay34]
  rfl

/-- The output row, from the row before the embedding. -/
theorem pay1_apply (v1 v335 : FVec Ideal S128x1024 .f32) (v337 : FVec Ideal S1x1024 .f32) (v342 : FVec Ideal S128x1 .f32)
    (p : Vec Ideal S128x256 .f32) (wp : Vec Ideal S256x1024 .bf16) (gi : Vec Ideal S1x1024 .f32)
    (wg : Vec Ideal S1024x1024 .bf16) (go : Vec Ideal S1x1024 .f32) (i : Fin 128) (j : Fin 1024) :
    k0_pay1 (F := Ideal) (k0_pay38 v1 v335 v337 v342) (k0_pay39 v1 (k0_pay33 p) v335 v337 v342 wp gi wg) (k0_pay40 go)
        (k0_pay41 v1 (k0_pay33 p) v335 v337 v342 wp gi wg) (ix2 i j)
      = k0_pay38 (F := Ideal) v1 v335 v337 v342 (ix2 i j)
        + rms (fun d => Layer.sig (lin (rms (fun k => k0_pay38 (F := Ideal) v1 v335 v337 v342 (ix2 i k)) (fun k => gi (ix2 0 k))) (fun k d => wg (ix2 k d)) d)
          * lin (fun k => p (ix2 i k)) (fun k d => wp (ix2 k d)) d) (fun k => go (ix2 0 k)) j := by
  simp only [← sig_tanh]
  pointwise [k0_pay1, k0_pay39, k0_pay40, k0_pay41, k0_pay33]
  rfl

end Cert.SampleIdeal.Gen

end
-- ==== Proof.SampleTile.lean ====
/-
  What the step kernel stores, as functions of what its blocks hold.
-/
module

public import proofs.«01_k».proof.Proof.SamplePool
public import proofs.«01_k».proof.Proof.Gen.SampleIdeal.Frame

@[expose] public section

set_option maxRecDepth 16384

noncomputable section

namespace Cert.SampleIdeal.Gen

open Idealize.ShloMosaic Idealize.ShloMosaic.TcCoe Idealize.ShloMosaic.Tactic Idealize.SL.Sem Cert.Layer
open scoped BigOperators

/-- The normed rows. -/
def sXn (x0 : Vec Ideal S128x1024 .f32) (x12 : Vec Ideal S8x1024 .f32) :
    FVec Ideal S128x1024 .bf16 :=
  k0_pay3 (View.ld x0 (Rect.unit (s := S128x1024) ![0, 0] ![128, 1024] inb_S128x1024_S128x1024_0_0)) (View.ld x12 (Rect.unit (s := S8x1024) ![0, 0] ![1, 1024] inb_S8x1024_S1x1024_0_0))

/-- The value rows. -/
def sV (x0 : Vec Ideal S128x1024 .f32) (x3 : Vec Ideal S1024x7168 .bf16) (x12 : Vec Ideal S8x1024 .f32) :
    FVec Ideal S128x1024 .f32 :=
  k0_pay9 (k0_pay5 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) (k0_pay6 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) (k0_pay7 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) k0_pay8 (View.ld x12 (Rect.unit (s := S8x1024) ![1, 0] ![1, 1024] inb_S8x1024_S1x1024_1_0)) (View.ld x12 (Rect.unit (s := S8x1024) ![2, 0] ![1, 1024] inb_S8x1024_S1x1024_2_0))

/-- The first branch. -/
def sYa (x0 : Vec Ideal S128x1024 .f32) (x3 : Vec Ideal S1024x7168 .bf16) (x4 : Vec Ideal S8x128x128 .f32) (x5 : Vec Ideal S128x8 .f32) (x12 : Vec Ideal S8x1024 .f32) :
    FVec Ideal S128x1024 .f32 :=
  k0_pay17 (sXn x0 x12) (k0_pay4 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 0] ![1024, 1024] inb_S1024x7168_S1024x1024_0_0))) (sV x0 x3 x12)
    (k0_pay12 (k0_pay10 (k0_pay5 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) (k0_pay6 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) (k0_pay7 (View.ld x0 (Rect.unit (s := S128x1024) ![0, 0] ![128, 1024] inb_S128x1024_S128x1024_0_0)) (View.ld x12 (Rect.unit (s := S8x1024) ![0, 0] ![1, 1024] inb_S8x1024_S1x1024_0_0)) (View.ld x3 (Rect.unit (s := S1024x7168) ![0, 1024] ![1024, 1024] inb_S1024x7168_S1024x1024_0_1024))) k0_pay8 (View.ld x12 (Rect.unit (s := S8x1024) ![1, 0] ![1, 1024] inb_S8x1024_S1x1024_1_0)) (View.ld x12 (Rect.unit (s := S8x1024) ![2, 0] ![1, 1024] inb_S8x1024_S1x1024_2_0)) (View.ld x4 (Rect.unit (s := S8x128x128) ![0, 0, 0] ![1, 1, 1] inb_S8x128x128_S1x1x1_0_0_0))) (k0_pay11 (View.ld x5 (Rect.unit (s := S128x8) ![0, 0] ![1, 1] inb_S128x8_S1x1_0_0))))
    (k0_pay13 (sV x0 x3 x12) (View.ld x4 (Rect.unit (s := S8x128x128) ![1, 0, 0] ![1, 1, 1] inb_S8x128x128_S1x1x1_1_0_0)) (View.ld x5 (Rect.unit (s := S128x8) ![0, 1] ![1, 1] inb_S128x8_S1x1_0_1)))
    (k0_pay14 (sV x0 x3 x12) (View.ld x4 (Rect.unit (s := S8x128x128) ![2, 0, 0] ![1, 1, 1] inb_S8x128x128_S1x1x1_2_0_0)) (View.ld x5 (Rect.unit (s := S128x8) ![0, 2] ![1, 1] inb_S128x8_S1x1_0_2)))
    (k0_pay15 (sV x0 x3 x12) (View.ld x4 (Rect.unit (s := S8x128x128) ![3, 0, 0] ![1, 1, 1] inb_S8x128x128_S1x1x1_3_0_0)) (View.ld x5 (Rect.unit (s := S128x8) ![0, 3] ![1, 1] inb_S128x8_S1x1_0_3)))
    (k0_pay16 (sV x0 x3 x12) (View.ld x4 (Rect.unit (s := S8x128x128) ![4, 0, 0] ![1, 1, 1] inb_S8x128x128_S1x1x1_4_0_0)) (View.ld x5 (Rect.unit (s := S128x8) ![0, 4] ![1, 1] inb_S128x8_S1x1_0_4)))
    (View.ld x4 (Rect.unit (s := S8x128x128) ![5, 0, 0] ![1, 1, 1] inb_S8x128x128_S1x1x1_5_0_0)) (View.ld x5 (Rect.unit (s := S128x8) ![0, 5] ![1, 1] inb_S128x8_S1x1_0_5)) (View.ld x4 (Rect.unit (s := S8x128x128) ![6, 0, 0] ![1, 1, 1] inb_S8x128x128_S1x1x1_6_0_0)) (View.ld x5 (Rect.unit (s := S128x8) ![0, 6] ![1, 1] inb_S128x8_S1x1_0_6)) (View.ld x4 (Rect.unit (s := S8x128x128) ![7, 0, 0] ![1, 1, 1] inb_S8x128x128_S1x1x1_7_0_0)) (View.ld x5 (Rect.unit (s := S128x8) ![0, 7] ![1, 1] inb_S128x8_S1x1_0_7)) (View.ld x3 (Rect.unit (s := S1024x7168) ![0, 2048] ![1024, 1024] inb_S1024x7168_S1024x1024_0_2048))

/-- The pooling input. -/
def sXb (x0 : Vec Ideal S128x1024 .f32) (x3 : Vec Ideal S1024x7168 .bf16) (x12 : Vec Ideal S8x1024 .f32) :
    FVec Ideal S128x1024 .f32 :=
  k0_pay18 (sXn x0 x12) (View.ld x3 (Rect.unit (s := S1024x7168) ![0, 3072] ![1024, 1024] inb_S1024x7168_S1024x1024_0_3072))

/-- The group of windows of two. -/
def sQ0 (x0 : Vec Ideal S128x1024 .f32) (x2 : Vec Ideal S128x15360 .f32) (x3 : Vec Ideal S1024x7168 .bf16) (x12 : Vec Ideal S8x1024 .f32) :
    FVec Ideal S128x256 .f32 :=
  k0_pay19 (sXn x0 x12) (View.ld x3 (Rect.unit (s := S1024x7168) ![0, 3072] ![1024, 1024] inb_S1024x7168_S1024x1024_0_3072)) (View.ld x2 (Rect.unit (s := S128x15360) ![0, 14336] ![128, 256] inb_S128x15360_S128x256_0_14336))

/-- The group of windows of four. -/
def sQ1 (x0 : Vec Ideal S128x1024 .f32) (x2 : Vec Ideal S128x15360 .f32) (x3 : Vec Ideal S1024x7168 .bf16) (x12 : Vec Ideal S8x1024 .f32) :
    FVec Ideal S128x256 .f32 :=
  k0_pay20 (sXn x0 x12) (View.ld x3 (Rect.unit (s := S1024x7168) ![0, 3072] ![1024, 1024] inb_S1024x7168_S1024x1024_0_3072)) (View.ld x2 (Rect.unit (s := S128x15360) ![0, 14592] ![128, 256] inb_S128x15360_S128x256_0_14592)) (View.ld x2 (Rect.unit (s := S128x15360) ![0, 13568] ![128, 256] inb_S128x15360_S128x256_0_13568)) (View.ld x2 (Rect.unit (s := S128x15360) ![0, 12544] ![128, 256] inb_S128x15360_S128x256_0_12544))

/-- The group of windows of eight. -/
def sQ2 (x0 : Vec Ideal S128x1024 .f32) (x2 : Vec Ideal S128x15360 .f32) (x3 : Vec Ideal S1024x7168 .bf16) (x12 : Vec Ideal S8x1024 .f32) :
    FVec Ideal S128x256 .f32 :=
  k0_pay24 (k0_pay21 (sXn x0 x12) (View.ld x3 (Rect.unit (s := S1024x7168) ![0, 3072] ![1024, 1024] inb_S1024x7168_S1024x1024_0_3072))) (k0_pay22 (sXn x0 x12) (View.ld x3 (Rect.unit (s := S1024x7168) ![0, 3072] ![1024, 1024] inb_S1024x7168_S1024x1024_0_3072)) (View.ld x2 (Rect.unit (s := S128x15360) ![0, 14848] ![128, 256] inb_S128x15360_S128x256_0_14848)) (View.ld x2 (Rect.unit (s := S128x15360) ![0, 13824] ![128, 256] inb_S128x15360_S128x256_0_13824)) (View.ld x2 (Rect.unit (s := S128x15360) ![0, 12800] ![128, 256] inb_S128x15360_S128x256_0_12800)) (View.ld x2 (Rect.unit (s := S128x15360) ![0, 11776] ![128, 256] inb_S128x15360_S128x256_0_11776))) (k0_pay23 (View.ld x2 (Rect.unit (s := S128x15360) ![0, 10752] ![128, 256] inb_S128x15360_S128x256_0_10752))) (View.ld x2 (Rect.unit (s := S128x15360) ![0, 9728] ![128, 256] inb_S128x15360_S128x256_0_9728)) (View.ld x2 (Rect.unit (s := S128x15360) ![0, 8704] ![128, 256] inb_S128x15360_S128x256_0_8704))

/-- The first nine terms of the windows of sixteen. -/
def sS (x0 : Vec Ideal S128x1024 .f32) (x2 : Vec Ideal S128x15360 .f32) (x3 : Vec Ideal S1024x7168 .bf16) (x12 : Vec Ideal S8x1024 .f32) :
    FVec Ideal S128x256 .f32 :=
  k0_pay26 (sXb x0 x3 x12) (View.ld x2 (Rect.unit (s := S128x15360) ![0, 15104] ![128, 256] inb_S128x15360_S128x256_0_15104)) (View.ld x2 (Rect.unit (s := S128x15360) ![0, 14080] ![128, 256] inb_S128x15360_S128x256_0_14080)) (View.ld x2 (Rect.unit (s := S128x15360) ![0, 13056] ![128, 256] inb_S128x15360_S128x256_0_13056)) (View.ld x2 (Rect.unit (s := S128x15360) ![0, 12032] ![128, 256] inb_S128x15360_S128x256_0_12032)) (View.ld x2 (Rect.unit (s := S128x15360) ![0, 11008] ![128, 256] inb_S128x15360_S128x256_0_11008)) (View.ld x2 (Rect.unit (s := S128x15360) ![0, 9984] ![128, 256] inb_S128x15360_S128x256_0_9984)) (View.ld x2 (Rect.unit (s := S128x15360) ![0, 8960] ![128, 256] inb_S128x15360_S128x256_0_8960)) (View.ld x2 (Rect.unit (s := S128x15360) ![0, 7936] ![128, 256] inb_S128x15360_S128x256_0_7936))

/-- The second branch. -/
def sYb (x0 : Vec Ideal S128x1024 .f32) (x2 : Vec Ideal S128x15360 .f32) (x3 : Vec Ideal S1024x7168 .bf16) (x6 : Vec Ideal S4x256x256 .bf16) (x12 : Vec Ideal S8x1024 .f32) :
    FVec Ideal S128x1024 .f32 :=
  k0_pay32 (sXn x0 x12)
    (k0_pay28 (sQ0 x0 x2 x3 x12) (sQ1 x0 x2 x3 x12) (sQ2 x0 x2 x3 x12) (k0_pay25 (sXb x0 x3 x12)) (sS x0 x2 x3 x12) (k0_pay27 (View.ld x2 (Rect.unit (s := S128x15360) ![0, 6912] ![128, 256] inb_S128x15360_S128x256_0_6912))) (View.ld x2 (Rect.unit (s := S128x15360) ![0, 5888] ![128, 256] inb_S128x15360_S128x256_0_5888)) (View.ld x2 (Rect.unit (s := S128x15360) ![0, 4864] ![128, 256] inb_S128x15360_S128x256_0_4864)) (View.ld x2 (Rect.unit (s := S128x15360) ![0, 3840] ![128, 256] inb_S128x15360_S128x256_0_3840)) (View.ld x2 (Rect.unit (s := S128x15360) ![0, 2816] ![128, 256] inb_S128x15360_S128x256_0_2816)) (View.ld x2 (Rect.unit (s := S128x15360) ![0, 1792] ![128, 256] inb_S128x15360_S128x256_0_1792)) (View.ld x2 (Rect.unit (s := S128x15360) ![0, 768] ![128, 256] inb_S128x15360_S128x256_0_768)))
    (k0_pay30 (sQ0 x0 x2 x3 x12) (sQ1 x0 x2 x3 x12) (sQ2 x0 x2 x3 x12) (k0_pay25 (sXb x0 x3 x12)) (sS x0 x2 x3 x12) (k0_pay27 (View.ld x2 (Rect.unit (s := S128x15360) ![0, 6912] ![128, 256] inb_S128x15360_S128x256_0_6912))) (View.ld x2 (Rect.unit (s := S128x15360) ![0, 5888] ![128, 256] inb_S128x15360_S128x256_0_5888)) (View.ld x2 (Rect.unit (s := S128x15360) ![0, 4864] ![128, 256] inb_S128x15360_S128x256_0_4864)) (View.ld x2 (Rect.unit (s := S128x15360) ![0, 3840] ![128, 256] inb_S128x15360_S128x256_0_3840)) (View.ld x2 (Rect.unit (s := S128x15360) ![0, 2816] ![128, 256] inb_S128x15360_S128x256_0_2816)) (View.ld x2 (Rect.unit (s := S128x15360) ![0, 1792] ![128, 256] inb_S128x15360_S128x256_0_1792)) (View.ld x2 (Rect.unit (s := S128x15360) ![0, 768] ![128, 256] inb_S128x15360_S128x256_0_768)) (View.ld x6 (Rect.unit (s := S4x256x256) ![0, 0, 0] ![1, 256, 256] inb_S4x256x256_S1x256x256_0_0_0)))
    (k0_pay31 (sQ0 x0 x2 x3 x12) (sQ1 x0 x2 x3 x12) (sQ2 x0 x2 x3 x12) (k0_pay25 (sXb x0 x3 x12)) (sS x0 x2 x3 x12) (k0_pay27 (View.ld x2 (Rect.unit (s := S128x15360) ![0, 6912] ![128, 256] inb_S128x15360_S128x256_0_6912))) (View.ld x2 (Rect.unit (s := S128x15360) ![0, 5888] ![128, 256] inb_S128x15360_S128x256_0_5888)) (View.ld x2 (Rect.unit (s := S128x15360) ![0, 4864] ![128, 256] inb_S128x15360_S128x256_0_4864)) (View.ld x2 (Rect.unit (s := S128x15360) ![0, 3840] ![128, 256] inb_S128x15360_S128x256_0_3840)) (View.ld x2 (Rect.unit (s := S128x15360) ![0, 2816] ![128, 256] inb_S128x15360_S128x256_0_2816)) (View.ld x2 (Rect.unit (s := S128x15360) ![0, 1792] ![128, 256] inb_S128x15360_S128x256_0_1792)) (View.ld x2 (Rect.unit (s := S128x15360) ![0, 768] ![128, 256] inb_S128x15360_S128x256_0_768)))
    (View.ld x6 (Rect.unit (s := S4x256x256) ![1, 0, 0] ![1, 256, 256] inb_S4x256x256_S1x256x256_1_0_0)) (View.ld x6 (Rect.unit (s := S4x256x256) ![2, 0, 0] ![1, 256, 256] inb_S4x256x256_S1x256x256_2_0_0)) (View.ld x6 (Rect.unit (s := S4x256x256) ![3, 0, 0] ![1, 256, 256] inb_S4x256x256_S1x256x256_3_0_0)) (View.ld x12 (Rect.unit (s := S8x1024) ![3, 0] ![1, 1024] inb_S8x1024_S1x1024_3_0)) (View.ld x3 (Rect.unit (s := S1024x7168) ![0, 4096] ![1024, 1024] inb_S1024x7168_S1024x1024_0_4096))

/-- The merged branches, projected. -/
def sO (x0 : Vec Ideal S128x1024 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x12 : Vec Ideal S8x1024 .f32) :
    FVec Ideal S128x1024 .f32 :=
  k0_pay35 (sXn x0 x12) (sYa x0 x3 x4 x5 x12) (sYb x0 x2 x3 x6 x12) (k0_pay34 (sXn x0 x12) (View.ld x3 (Rect.unit (s := S1024x7168) ![0, 5120] ![1024, 1024] inb_S1024x7168_S1024x1024_0_5120))) (View.ld x3 (Rect.unit (s := S1024x7168) ![0, 6144] ![1024, 1024] inb_S1024x7168_S1024x1024_0_6144)) (View.ld x7 (Rect.unit (s := S1024x1024) ![0, 0] ![1024, 1024] inb_S1024x1024_S1024x1024_0_0)) (View.ld x8 (Rect.unit (s := S1024x1024) ![0, 0] ![1024, 1024] inb_S1024x1024_S1024x1024_0_0)) (View.ld x9 (Rect.unit (s := S1024x1024) ![0, 0] ![1024, 1024] inb_S1024x1024_S1024x1024_0_0))

/-- The mean square of the projected row. -/
def sOm (x0 : Vec Ideal S128x1024 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x12 : Vec Ideal S8x1024 .f32) :
    FVec Ideal S128x1 .f32 :=
  k0_pay37 (sXn x0 x12) (sYa x0 x3 x4 x5 x12) (sYb x0 x2 x3 x6 x12) (k0_pay34 (sXn x0 x12) (View.ld x3 (Rect.unit (s := S1024x7168) ![0, 5120] ![1024, 1024] inb_S1024x7168_S1024x1024_0_5120))) (View.ld x3 (Rect.unit (s := S1024x7168) ![0, 6144] ![1024, 1024] inb_S1024x7168_S1024x1024_0_6144)) (View.ld x7 (Rect.unit (s := S1024x1024) ![0, 0] ![1024, 1024] inb_S1024x1024_S1024x1024_0_0)) (View.ld x8 (Rect.unit (s := S1024x1024) ![0, 0] ![1024, 1024] inb_S1024x1024_S1024x1024_0_0)) (View.ld x9 (Rect.unit (s := S1024x1024) ![0, 0] ![1024, 1024] inb_S1024x1024_S1024x1024_0_0))

/-- The rows before the embedding. -/
def sHid (x0 : Vec Ideal S128x1024 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x12 : Vec Ideal S8x1024 .f32) :
    FVec Ideal S128x1024 .f32 :=
  k0_pay38 (k0_pay2 (View.ld x0 (Rect.unit (s := S128x1024) ![0, 0] ![128, 1024] inb_S128x1024_S128x1024_0_0))) (sO x0 x2 x3 x4 x5 x6 x7 x8 x9 x12) (k0_pay36 (View.ld x12 (Rect.unit (s := S8x1024) ![4, 0] ![1, 1024] inb_S8x1024_S1x1024_4_0))) (sOm x0 x2 x3 x4 x5 x6 x7 x8 x9 x12)

/-- The output rows. -/
def sY (x0 : Vec Ideal S128x1024 .f32) (x1 : Vec Ideal S128x256 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x10 : Vec Ideal S256x1024 .bf16) (x11 : Vec Ideal S1024x1024 .bf16) (x12 : Vec Ideal S8x1024 .f32) :
    Vec Ideal S128x1024 .f32 :=
  k0_pay1 (sHid x0 x2 x3 x4 x5 x6 x7 x8 x9 x12)
    (k0_pay39 (k0_pay2 (View.ld x0 (Rect.unit (s := S128x1024) ![0, 0] ![128, 1024] inb_S128x1024_S128x1024_0_0))) (k0_pay33 (View.ld x1 (Rect.unit (s := S128x256) ![0, 0] ![128, 256] inb_S128x256_S128x256_0_0))) (sO x0 x2 x3 x4 x5 x6 x7 x8 x9 x12) (k0_pay36 (View.ld x12 (Rect.unit (s := S8x1024) ![4, 0] ![1, 1024] inb_S8x1024_S1x1024_4_0))) (sOm x0 x2 x3 x4 x5 x6 x7 x8 x9 x12) (View.ld x10 (Rect.unit (s := S256x1024) ![0, 0] ![256, 1024] inb_S256x1024_S256x1024_0_0)) (View.ld x12 (Rect.unit (s := S8x1024) ![5, 0] ![1, 1024] inb_S8x1024_S1x1024_5_0)) (View.ld x11 (Rect.unit (s := S1024x1024) ![0, 0] ![1024, 1024] inb_S1024x1024_S1024x1024_0_0)))
    (k0_pay40 (View.ld x12 (Rect.unit (s := S8x1024) ![6, 0] ![1, 1024] inb_S8x1024_S1x1024_6_0)))
    (k0_pay41 (k0_pay2 (View.ld x0 (Rect.unit (s := S128x1024) ![0, 0] ![128, 1024] inb_S128x1024_S128x1024_0_0))) (k0_pay33 (View.ld x1 (Rect.unit (s := S128x256) ![0, 0] ![128, 256] inb_S128x256_S128x256_0_0))) (sO x0 x2 x3 x4 x5 x6 x7 x8 x9 x12) (k0_pay36 (View.ld x12 (Rect.unit (s := S8x1024) ![4, 0] ![1, 1024] inb_S8x1024_S1x1024_4_0))) (sOm x0 x2 x3 x4 x5 x6 x7 x8 x9 x12) (View.ld x10 (Rect.unit (s := S256x1024) ![0, 0] ![256, 1024] inb_S256x1024_S256x1024_0_0)) (View.ld x12 (Rect.unit (s := S8x1024) ![5, 0] ![1, 1024] inb_S8x1024_S1x1024_5_0)) (View.ld x11 (Rect.unit (s := S1024x1024) ![0, 0] ![1024, 1024] inb_S1024x1024_S1024x1024_0_0)))

/-- The piece of the pool result the step adds. -/
def sLast (x0 : Vec Ideal S128x1024 .f32) (x3 : Vec Ideal S1024x7168 .bf16) (x12 : Vec Ideal S8x1024 .f32) :
    View.Piece (Elt Ideal) S128x15360 .f32 :=
  ⟨(Rect.unit (s := S128x15360) ![0, 14336] ![128, 1024] inb_S128x15360_S128x1024_0_14336), sXb x0 x3 x12⟩

/-- The piece of the pool result that is kept. -/
def sKept (x2 : Vec Ideal S128x15360 .f32) :
    View.Piece (Elt Ideal) S128x15360 .f32 :=
  ⟨(Rect.unit (s := S128x15360) ![0, 0] ![128, 14336] inb_S128x15360_S128x14336_0_0), k0_pay29 (View.ld x2 (Rect.unit (s := S128x15360) ![0, 1024] ![128, 14336] inb_S128x15360_S128x14336_0_1024))⟩

set_option maxHeartbeats 2000000 in
/-- The output rows the kernel leaves. -/
theorem out0_A_13_eq (c : Dev nD) (arg0 : Memref sig .tc .vmem S128x1024 .f32) (harg0 : arg0.IsWhole) (arg1 : Memref sig .tc .vmem S128x256 .f32) (harg1 : arg1.IsWhole) (arg2 : Memref sig .tc .vmem S128x15360 .f32) (harg2 : arg2.IsWhole) (arg3 : Memref sig .tc .vmem S1024x7168 .bf16) (harg3 : arg3.IsWhole) (arg4 : Memref sig .tc .vmem S8x128x128 .f32) (harg4 : arg4.IsWhole) (arg5 : Memref sig .tc .vmem S128x8 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x15360 .f32) (harg15 : arg15.IsWhole)
    (x0 : Vec Ideal S128x1024 .f32) (x1 : Vec Ideal S128x256 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x10 : Vec Ideal S256x1024 .bf16) (x11 : Vec Ideal S1024x1024 .bf16) (x12 : Vec Ideal S8x1024 .f32) :
    out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = sY x0 x1 x2 x3 x4 x5 x6 x7 x8 x9 x10 x11 x12 := by
  unfold out0_A_13
  rw [View.read_writes_junk_eq_canon]
  unfold kernelRun0_A
  dsimp only
  sl_unfold_words
  simp only [View.readAt_eq_ld, View.readCov_eq_canon', harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  exact View.canon_unit_zero (S := S128x1024) (by funext a; fin_cases a <;> rfl) _ _

set_option maxHeartbeats 2000000 in
/-- The value rows the kernel leaves. -/
theorem out0_A_14_eq (c : Dev nD) (arg0 : Memref sig .tc .vmem S128x1024 .f32) (harg0 : arg0.IsWhole) (arg1 : Memref sig .tc .vmem S128x256 .f32) (harg1 : arg1.IsWhole) (arg2 : Memref sig .tc .vmem S128x15360 .f32) (harg2 : arg2.IsWhole) (arg3 : Memref sig .tc .vmem S1024x7168 .bf16) (harg3 : arg3.IsWhole) (arg4 : Memref sig .tc .vmem S8x128x128 .f32) (harg4 : arg4.IsWhole) (arg5 : Memref sig .tc .vmem S128x8 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x15360 .f32) (harg15 : arg15.IsWhole)
    (x0 : Vec Ideal S128x1024 .f32) (x1 : Vec Ideal S128x256 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x10 : Vec Ideal S256x1024 .bf16) (x11 : Vec Ideal S1024x1024 .bf16) (x12 : Vec Ideal S8x1024 .f32) :
    out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = sV x0 x3 x12 := by
  unfold out0_A_14
  rw [View.read_writes_junk_eq_canon]
  unfold kernelRun0_A
  dsimp only
  sl_unfold_words
  simp only [View.readAt_eq_ld, View.readCov_eq_canon', harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  exact View.canon_unit_zero (S := S128x1024) (by funext a; fin_cases a <;> rfl) _ _

set_option maxHeartbeats 2000000 in
/-- The pool rows the kernel leaves. -/
theorem out0_A_15_eq (c : Dev nD) (arg0 : Memref sig .tc .vmem S128x1024 .f32) (harg0 : arg0.IsWhole) (arg1 : Memref sig .tc .vmem S128x256 .f32) (harg1 : arg1.IsWhole) (arg2 : Memref sig .tc .vmem S128x15360 .f32) (harg2 : arg2.IsWhole) (arg3 : Memref sig .tc .vmem S1024x7168 .bf16) (harg3 : arg3.IsWhole) (arg4 : Memref sig .tc .vmem S8x128x128 .f32) (harg4 : arg4.IsWhole) (arg5 : Memref sig .tc .vmem S128x8 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x15360 .f32) (harg15 : arg15.IsWhole)
    (x0 : Vec Ideal S128x1024 .f32) (x1 : Vec Ideal S128x256 .f32) (x2 : Vec Ideal S128x15360 .f32) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x10 : Vec Ideal S256x1024 .bf16) (x11 : Vec Ideal S1024x1024 .bf16) (x12 : Vec Ideal S8x1024 .f32) :
    out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = View.canon [sLast x0 x3 x12, sKept x2] := by
  unfold out0_A_15
  rw [View.read_writes_junk_eq_canon]
  unfold kernelRun0_A
  dsimp only
  sl_unfold_words
  simp only [View.readAt_eq_ld, View.readCov_eq_canon', harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

end Cert.SampleIdeal.Gen

end
-- ==== Proof.SampleLoads.lean ====
/-
  What the loads of the step kernel read.
-/
module

public import proofs.«01_k».proof.Proof.SampleTile

@[expose] public section

set_option maxRecDepth 16384

noncomputable section

namespace Cert.SampleIdeal.Gen

open Idealize.ShloMosaic Cert.Layer
open scoped BigOperators

/-- The blocks of the weights hold the layer's weights. -/
structure Holds (P : Par) (x3 : Vec Ideal S1024x7168 .bf16) (x4 : Vec Ideal S8x128x128 .f32) (x5 : Vec Ideal S128x8 .f32) (x6 : Vec Ideal S4x256x256 .bf16) (x7 : Vec Ideal S1024x1024 .bf16) (x8 : Vec Ideal S1024x1024 .bf16) (x9 : Vec Ideal S1024x1024 .bf16) (x10 : Vec Ideal S256x1024 .bf16) (x11 : Vec Ideal S1024x1024 .bf16) (x12 : Vec Ideal S8x1024 .f32) : Prop where
  w : ∀ k d, x3 (ix2 k d) = P.wIn k d
  s : ∀ h r t, x4 (ix3 h r t) = P.wS h r t
  b : ∀ r h, x5 (ix2 r h) = P.bS h r
  p : ∀ g k e, x6 (ix3 g k e) = P.wPool g k e
  pa : ∀ k d, x7 (ix2 k d) = P.wPa k d
  pb : ∀ k d, x8 (ix2 k d) = P.wPb k d
  o : ∀ k d, x9 (ix2 k d) = P.wOut k d
  ple : ∀ k d, x10 (ix2 k d) = P.wPle k d
  pg : ∀ k d, x11 (ix2 k d) = P.wPg k d
  g0 : ∀ d, x12 (ix2 0 d) = P.preG d
  g1 : ∀ d, x12 (ix2 1 d) = P.lnG d
  g2 : ∀ d, x12 (ix2 2 d) = P.lnB d
  g3 : ∀ d, x12 (ix2 3 d) = P.poolScale d
  g4 : ∀ d, x12 (ix2 4 d) = P.postG d
  g5 : ∀ d, x12 (ix2 5 d) = P.pleInG d
  g6 : ∀ d, x12 (ix2 6 d) = P.pleOutG d

/-- The loaded rows. -/
theorem ldX0 (x0 : Vec Ideal S128x1024 .f32) (i : Fin 128) (d : Fin 1024) : (View.ld x0 (Rect.unit (s := S128x1024) ![0, 0] ![128, 1024] inb_S128x1024_S128x1024_0_0)) (ix2 i d) = x0 (ix2 i d) := by
  rw [View.ld_unit]
  pointwise []

/-- The loaded embeddings. -/
theorem ldX1 (x1 : Vec Ideal S128x256 .f32) (i : Fin 128) (d : Fin 256) : (View.ld x1 (Rect.unit (s := S128x256) ![0, 0] ![128, 256] inb_S128x256_S128x256_0_0)) (ix2 i d) = x1 (ix2 i d) := by
  rw [View.ld_unit]
  pointwise []

/-- The kept rows that stay. -/
theorem ldKept (x2 : Vec Ideal S128x15360 .f32) (i : Fin 128) (d : Fin 14336) : (View.ld x2 (Rect.unit (s := S128x15360) ![0, 1024] ![128, 14336] inb_S128x15360_S128x14336_0_1024)) (ix2 i d) = x2 (ix2 i ⟨1024 + d.val, by omega⟩) := by
  rw [View.ld_unit]
  pointwise []

/-- The loaded columns 0 of the projection. -/
theorem ldW0 (x3 : Vec Ideal S1024x7168 .bf16) (k d : Fin 1024) : (View.ld x3 (Rect.unit (s := S1024x7168) ![0, 0] ![1024, 1024] inb_S1024x7168_S1024x1024_0_0)) (ix2 k d) = x3 (ix2 k ⟨0 + d.val, by omega⟩) := by
  rw [View.ld_unit]
  pointwise []

/-- The loaded columns 1 of the projection. -/
theorem ldW1 (x3 : Vec Ideal S1024x7168 .bf16) (k d : Fin 1024) : (View.ld x3 (Rect.unit (s := S1024x7168) ![0, 1024] ![1024, 1024] inb_S1024x7168_S1024x1024_0_1024)) (ix2 k d) = x3 (ix2 k ⟨1024 + d.val, by omega⟩) := by
  rw [View.ld_unit]
  pointwise []

/-- The loaded columns 2 of the projection. -/
theorem ldW2 (x3 : Vec Ideal S1024x7168 .bf16) (k d : Fin 1024) : (View.ld x3 (Rect.unit (s := S1024x7168) ![0, 2048] ![1024, 1024] inb_S1024x7168_S1024x1024_0_2048)) (ix2 k d) = x3 (ix2 k ⟨2048 + d.val, by omega⟩) := by
  rw [View.ld_unit]
  pointwise []

/-- The loaded columns 3 of the projection. -/
theorem ldW3 (x3 : Vec Ideal S1024x7168 .bf16) (k d : Fin 1024) : (View.ld x3 (Rect.unit (s := S1024x7168) ![0, 3072] ![1024, 1024] inb_S1024x7168_S1024x1024_0_3072)) (ix2 k d) = x3 (ix2 k ⟨3072 + d.val, by omega⟩) := by
  rw [View.ld_unit]
  pointwise []

/-- The loaded columns 4 of the projection. -/
theorem ldW4 (x3 : Vec Ideal S1024x7168 .bf16) (k d : Fin 1024) : (View.ld x3 (Rect.unit (s := S1024x7168) ![0, 4096] ![1024, 1024] inb_S1024x7168_S1024x1024_0_4096)) (ix2 k d) = x3 (ix2 k ⟨4096 + d.val, by omega⟩) := by
  rw [View.ld_unit]
  pointwise []

/-- The loaded columns 5 of the projection. -/
theorem ldW5 (x3 : Vec Ideal S1024x7168 .bf16) (k d : Fin 1024) : (View.ld x3 (Rect.unit (s := S1024x7168) ![0, 5120] ![1024, 1024] inb_S1024x7168_S1024x1024_0_5120)) (ix2 k d) = x3 (ix2 k ⟨5120 + d.val, by omega⟩) := by
  rw [View.ld_unit]
  pointwise []

/-- The loaded columns 6 of the projection. -/
theorem ldW6 (x3 : Vec Ideal S1024x7168 .bf16) (k d : Fin 1024) : (View.ld x3 (Rect.unit (s := S1024x7168) ![0, 6144] ![1024, 1024] inb_S1024x7168_S1024x1024_0_6144)) (ix2 k d) = x3 (ix2 k ⟨6144 + d.val, by omega⟩) := by
  rw [View.ld_unit]
  pointwise []

/-- The loaded scale row 0. -/
theorem ldG0 (x12 : Vec Ideal S8x1024 .f32) (d : Fin 1024) : (View.ld x12 (Rect.unit (s := S8x1024) ![0, 0] ![1, 1024] inb_S8x1024_S1x1024_0_0)) (ix2 0 d) = x12 (ix2 0 d) := by
  rw [View.ld_unit]
  pointwise []

/-- The loaded scale row 1. -/
theorem ldG1 (x12 : Vec Ideal S8x1024 .f32) (d : Fin 1024) : (View.ld x12 (Rect.unit (s := S8x1024) ![1, 0] ![1, 1024] inb_S8x1024_S1x1024_1_0)) (ix2 0 d) = x12 (ix2 1 d) := by
  rw [View.ld_unit]
  pointwise []

/-- The loaded scale row 2. -/
theorem ldG2 (x12 : Vec Ideal S8x1024 .f32) (d : Fin 1024) : (View.ld x12 (Rect.unit (s := S8x1024) ![2, 0] ![1, 1024] inb_S8x1024_S1x1024_2_0)) (ix2 0 d) = x12 (ix2 2 d) := by
  rw [View.ld_unit]
  pointwise []

/-- The loaded scale row 3. -/
theorem ldG3 (x12 : Vec Ideal S8x1024 .f32) (d : Fin 1024) : (View.ld x12 (Rect.unit (s := S8x1024) ![3, 0] ![1, 1024] inb_S8x1024_S1x1024_3_0)) (ix2 0 d) = x12 (ix2 3 d) := by
  rw [View.ld_unit]
  pointwise []

/-- The loaded scale row 4. -/
theorem ldG4 (x12 : Vec Ideal S8x1024 .f32) (d : Fin 1024) : (View.ld x12 (Rect.unit (s := S8x1024) ![4, 0] ![1, 1024] inb_S8x1024_S1x1024_4_0)) (ix2 0 d) = x12 (ix2 4 d) := by
  rw [View.ld_unit]
  pointwise []

/-- The loaded scale row 5. -/
theorem ldG5 (x12 : Vec Ideal S8x1024 .f32) (d : Fin 1024) : (View.ld x12 (Rect.unit (s := S8x1024) ![5, 0] ![1, 1024] inb_S8x1024_S1x1024_5_0)) (ix2 0 d) = x12 (ix2 5 d) := by
  rw [View.ld_unit]
  pointwise []

/-- The loaded scale row 6. -/
theorem ldG6 (x12 : Vec Ideal S8x1024 .f32) (d : Fin 1024) : (View.ld x12 (Rect.unit (s := S8x1024) ![6, 0] ![1, 1024] inb_S8x1024_S1x1024_6_0)) (ix2 0 d) = x12 (ix2 6 d) := by
  rw [View.ld_unit]
  pointwise []

/-- The loaded corner of head 0's weights. -/
theorem ldS0 (x4 : Vec Ideal S8x128x128 .f32)  : (View.ld x4 (Rect.unit (s := S8x128x128) ![0, 0, 0] ![1, 1, 1] inb_S8x128x128_S1x1x1_0_0_0)) (ix3 0 0 0) = x4 (ix3 0 0 0) := by
  rw [View.ld_unit]
  pointwise []

/-- The loaded shift of head 0. -/
theorem ldB0 (x5 : Vec Ideal S128x8 .f32)  : (View.ld x5 (Rect.unit (s := S128x8) ![0, 0] ![1, 1] inb_S128x8_S1x1_0_0)) (ix2 0 0) = x5 (ix2 0 0) := by
  rw [View.ld_unit]
  pointwise []

/-- The loaded corner of head 1's weights. -/
theorem ldS1 (x4 : Vec Ideal S8x128x128 .f32)  : (View.ld x4 (Rect.unit (s := S8x128x128) ![1, 0, 0] ![1, 1, 1] inb_S8x128x128_S1x1x1_1_0_0)) (ix3 0 0 0) = x4 (ix3 1 0 0) := by
  rw [View.ld_unit]
  pointwise []

/-- The loaded shift of head 1. -/
theorem ldB1 (x5 : Vec Ideal S128x8 .f32)  : (View.ld x5 (Rect.unit (s := S128x8) ![0, 1] ![1, 1] inb_S128x8_S1x1_0_1)) (ix2 0 0) = x5 (ix2 0 1) := by
  rw [View.ld_unit]
  pointwise []

/-- The loaded corner of head 2's weights. -/
theorem ldS2 (x4 : Vec Ideal S8x128x128 .f32)  : (View.ld x4 (Rect.unit (s := S8x128x128) ![2, 0, 0] ![1, 1, 1] inb_S8x128x128_S1x1x1_2_0_0)) (ix3 0 0 0) = x4 (ix3 2 0 0) := by
  rw [View.ld_unit]
  pointwise []

/-- The loaded shift of head 2. -/
theorem ldB2 (x5 : Vec Ideal S128x8 .f32)  : (View.ld x5 (Rect.unit (s := S128x8) ![0, 2] ![1, 1] inb_S128x8_S1x1_0_2)) (ix2 0 0) = x5 (ix2 0 2) := by
  rw [View.ld_unit]
  pointwise []

/-- The loaded corner of head 3's weights. -/
theorem ldS3 (x4 : Vec Ideal S8x128x128 .f32)  : (View.ld x4 (Rect.unit (s := S8x128x128) ![3, 0, 0] ![1, 1, 1] inb_S8x128x128_S1x1x1_3_0_0)) (ix3 0 0 0) = x4 (ix3 3 0 0) := by
  rw [View.ld_unit]
  pointwise []

/-- The loaded shift of head 3. -/
theorem ldB3 (x5 : Vec Ideal S128x8 .f32)  : (View.ld x5 (Rect.unit (s := S128x8) ![0, 3] ![1, 1] inb_S128x8_S1x1_0_3)) (ix2 0 0) = x5 (ix2 0 3) := by
  rw [View.ld_unit]
  pointwise []

/-- The loaded corner of head 4's weights. -/
theorem ldS4 (x4 : Vec Ideal S8x128x128 .f32)  : (View.ld x4 (Rect.unit (s := S8x128x128) ![4, 0, 0] ![1, 1, 1] inb_S8x128x128_S1x1x1_4_0_0)) (ix3 0 0 0) = x4 (ix3 4 0 0) := by
  rw [View.ld_unit]
  pointwise []

/-- The loaded shift of head 4. -/
theorem ldB4 (x5 : Vec Ideal S128x8 .f32)  : (View.ld x5 (Rect.unit (s := S128x8) ![0, 4] ![1, 1] inb_S128x8_S1x1_0_4)) (ix2 0 0) = x5 (ix2 0 4) := by
  rw [View.ld_unit]
  pointwise []

/-- The loaded corner of head 5's weights. -/
theorem ldS5 (x4 : Vec Ideal S8x128x128 .f32)  : (View.ld x4 (Rect.unit (s := S8x128x128) ![5, 0, 0] ![1, 1, 1] inb_S8x128x128_S1x1x1_5_0_0)) (ix3 0 0 0) = x4 (ix3 5 0 0) := by
  rw [View.ld_unit]
  pointwise []

/-- The loaded shift of head 5. -/
theorem ldB5 (x5 : Vec Ideal S128x8 .f32)  : (View.ld x5 (Rect.unit (s := S128x8) ![0, 5] ![1, 1] inb_S128x8_S1x1_0_5)) (ix2 0 0) = x5 (ix2 0 5) := by
  rw [View.ld_unit]
  pointwise []

/-- The loaded corner of head 6's weights. -/
theorem ldS6 (x4 : Vec Ideal S8x128x128 .f32)  : (View.ld x4 (Rect.unit (s := S8x128x128) ![6, 0, 0] ![1, 1, 1] inb_S8x128x128_S1x1x1_6_0_0)) (ix3 0 0 0) = x4 (ix3 6 0 0) := by
  rw [View.ld_unit]
  pointwise []

/-- The loaded shift of head 6. -/
theorem ldB6 (x5 : Vec Ideal S128x8 .f32)  : (View.ld x5 (Rect.unit (s := S128x8) ![0, 6] ![1, 1] inb_S128x8_S1x1_0_6)) (ix2 0 0) = x5 (ix2 0 6) := by
  rw [View.ld_unit]
  pointwise []

/-- The loaded corner of head 7's weights. -/
theorem ldS7 (x4 : Vec Ideal S8x128x128 .f32)  : (View.ld x4 (Rect.unit (s := S8x128x128) ![7, 0, 0] ![1, 1, 1] inb_S8x128x128_S1x1x1_7_0_0)) (ix3 0 0 0) = x4 (ix3 7 0 0) := by
  rw [View.ld_unit]
  pointwise []

/-- The loaded shift of head 7. -/
theorem ldB7 (x5 : Vec Ideal S128x8 .f32)  : (View.ld x5 (Rect.unit (s := S128x8) ![0, 7] ![1, 1] inb_S128x8_S1x1_0_7)) (ix2 0 0) = x5 (ix2 0 7) := by
  rw [View.ld_unit]
  pointwise []

/-- The loaded matrix of group 0. -/
theorem ldP0 (x6 : Vec Ideal S4x256x256 .bf16) (k e : Fin 256) : (View.ld x6 (Rect.unit (s := S4x256x256) ![0, 0, 0] ![1, 256, 256] inb_S4x256x256_S1x256x256_0_0_0)) (ix3 0 k e) = x6 (ix3 0 k e) := by
  rw [View.ld_unit]
  pointwise []

/-- The loaded matrix of group 1. -/
theorem ldP1 (x6 : Vec Ideal S4x256x256 .bf16) (k e : Fin 256) : (View.ld x6 (Rect.unit (s := S4x256x256) ![1, 0, 0] ![1, 256, 256] inb_S4x256x256_S1x256x256_1_0_0)) (ix3 0 k e) = x6 (ix3 1 k e) := by
  rw [View.ld_unit]
  pointwise []

/-- The loaded matrix of group 2. -/
theorem ldP2 (x6 : Vec Ideal S4x256x256 .bf16) (k e : Fin 256) : (View.ld x6 (Rect.unit (s := S4x256x256) ![2, 0, 0] ![1, 256, 256] inb_S4x256x256_S1x256x256_2_0_0)) (ix3 0 k e) = x6 (ix3 2 k e) := by
  rw [View.ld_unit]
  pointwise []

/-- The loaded matrix of group 3. -/
theorem ldP3 (x6 : Vec Ideal S4x256x256 .bf16) (k e : Fin 256) : (View.ld x6 (Rect.unit (s := S4x256x256) ![3, 0, 0] ![1, 256, 256] inb_S4x256x256_S1x256x256_3_0_0)) (ix3 0 k e) = x6 (ix3 3 k e) := by
  rw [View.ld_unit]
  pointwise []

/-- A loaded square matrix. -/
theorem ldSq (x7 : Vec Ideal S1024x1024 .bf16) (k d : Fin 1024) : (View.ld x7 (Rect.unit (s := S1024x1024) ![0, 0] ![1024, 1024] inb_S1024x1024_S1024x1024_0_0)) (ix2 k d) = x7 (ix2 k d) := by
  rw [View.ld_unit]
  pointwise []

/-- The loaded embedding's projection. -/
theorem ldPle (x10 : Vec Ideal S256x1024 .bf16) (k : Fin 256) (d : Fin 1024) : (View.ld x10 (Rect.unit (s := S256x1024) ![0, 0] ![256, 1024] inb_S256x1024_S256x1024_0_0)) (ix2 k d) = x10 (ix2 k d) := by
  rw [View.ld_unit]
  pointwise []

/-- Group 0 of the row 1 back. -/
theorem ldE0_1 (x2 : Vec Ideal S128x15360 .f32) (i : Fin 128) (e : Fin 256) : (View.ld x2 (Rect.unit (s := S128x15360) ![0, 14336] ![128, 256] inb_S128x15360_S128x256_0_14336)) (ix2 i e) = x2 (ix2 i ⟨14336 + e.val, by omega⟩) := by
  rw [View.ld_unit]
  pointwise []

/-- Group 1 of the row 1 back. -/
theorem ldE1_1 (x2 : Vec Ideal S128x15360 .f32) (i : Fin 128) (e : Fin 256) : (View.ld x2 (Rect.unit (s := S128x15360) ![0, 14592] ![128, 256] inb_S128x15360_S128x256_0_14592)) (ix2 i e) = x2 (ix2 i ⟨14592 + e.val, by omega⟩) := by
  rw [View.ld_unit]
  pointwise []

/-- Group 1 of the row 2 back. -/
theorem ldE1_2 (x2 : Vec Ideal S128x15360 .f32) (i : Fin 128) (e : Fin 256) : (View.ld x2 (Rect.unit (s := S128x15360) ![0, 13568] ![128, 256] inb_S128x15360_S128x256_0_13568)) (ix2 i e) = x2 (ix2 i ⟨13568 + e.val, by omega⟩) := by
  rw [View.ld_unit]
  pointwise []

/-- Group 1 of the row 3 back. -/
theorem ldE1_3 (x2 : Vec Ideal S128x15360 .f32) (i : Fin 128) (e : Fin 256) : (View.ld x2 (Rect.unit (s := S128x15360) ![0, 12544] ![128, 256] inb_S128x15360_S128x256_0_12544)) (ix2 i e) = x2 (ix2 i ⟨12544 + e.val, by omega⟩) := by
  rw [View.ld_unit]
  pointwise []

/-- Group 2 of the row 1 back. -/
theorem ldE2_1 (x2 : Vec Ideal S128x15360 .f32) (i : Fin 128) (e : Fin 256) : (View.ld x2 (Rect.unit (s := S128x15360) ![0, 14848] ![128, 256] inb_S128x15360_S128x256_0_14848)) (ix2 i e) = x2 (ix2 i ⟨14848 + e.val, by omega⟩) := by
  rw [View.ld_unit]
  pointwise []

/-- Group 2 of the row 2 back. -/
theorem ldE2_2 (x2 : Vec Ideal S128x15360 .f32) (i : Fin 128) (e : Fin 256) : (View.ld x2 (Rect.unit (s := S128x15360) ![0, 13824] ![128, 256] inb_S128x15360_S128x256_0_13824)) (ix2 i e) = x2 (ix2 i ⟨13824 + e.val, by omega⟩) := by
  rw [View.ld_unit]
  pointwise []

/-- Group 2 of the row 3 back. -/
theorem ldE2_3 (x2 : Vec Ideal S128x15360 .f32) (i : Fin 128) (e : Fin 256) : (View.ld x2 (Rect.unit (s := S128x15360) ![0, 12800] ![128, 256] inb_S128x15360_S128x256_0_12800)) (ix2 i e) = x2 (ix2 i ⟨12800 + e.val, by omega⟩) := by
  rw [View.ld_unit]
  pointwise []

/-- Group 2 of the row 4 back. -/
theorem ldE2_4 (x2 : Vec Ideal S128x15360 .f32) (i : Fin 128) (e : Fin 256) : (View.ld x2 (Rect.unit (s := S128x15360) ![0, 11776] ![128, 256] inb_S128x15360_S128x256_0_11776)) (ix2 i e) = x2 (ix2 i ⟨11776 + e.val, by omega⟩) := by
  rw [View.ld_unit]
  pointwise []

/-- Group 2 of the row 5 back. -/
theorem ldE2_5 (x2 : Vec Ideal S128x15360 .f32) (i : Fin 128) (e : Fin 256) : (View.ld x2 (Rect.unit (s := S128x15360) ![0, 10752] ![128, 256] inb_S128x15360_S128x256_0_10752)) (ix2 i e) = x2 (ix2 i ⟨10752 + e.val, by omega⟩) := by
  rw [View.ld_unit]
  pointwise []

/-- Group 2 of the row 6 back. -/
theorem ldE2_6 (x2 : Vec Ideal S128x15360 .f32) (i : Fin 128) (e : Fin 256) : (View.ld x2 (Rect.unit (s := S128x15360) ![0, 9728] ![128, 256] inb_S128x15360_S128x256_0_9728)) (ix2 i e) = x2 (ix2 i ⟨9728 + e.val, by omega⟩) := by
  rw [View.ld_unit]
  pointwise []

/-- Group 2 of the row 7 back. -/
theorem ldE2_7 (x2 : Vec Ideal S128x15360 .f32) (i : Fin 128) (e : Fin 256) : (View.ld x2 (Rect.unit (s := S128x15360) ![0, 8704] ![128, 256] inb_S128x15360_S128x256_0_8704)) (ix2 i e) = x2 (ix2 i ⟨8704 + e.val, by omega⟩) := by
  rw [View.ld_unit]
  pointwise []

/-- Group 3 of the row 1 back. -/
theorem ldE3_1 (x2 : Vec Ideal S128x15360 .f32) (i : Fin 128) (e : Fin 256) : (View.ld x2 (Rect.unit (s := S128x15360) ![0, 15104] ![128, 256] inb_S128x15360_S128x256_0_15104)) (ix2 i e) = x2 (ix2 i ⟨15104 + e.val, by omega⟩) := by
  rw [View.ld_unit]
  pointwise []

/-- Group 3 of the row 2 back. -/
theorem ldE3_2 (x2 : Vec Ideal S128x15360 .f32) (i : Fin 128) (e : Fin 256) : (View.ld x2 (Rect.unit (s := S128x15360) ![0, 14080] ![128, 256] inb_S128x15360_S128x256_0_14080)) (ix2 i e) = x2 (ix2 i ⟨14080 + e.val, by omega⟩) := by
  rw [View.ld_unit]
  pointwise []

/-- Group 3 of the row 3 back. -/
theorem ldE3_3 (x2 : Vec Ideal S128x15360 .f32) (i : Fin 128) (e : Fin 256) : (View.ld x2 (Rect.unit (s := S128x15360) ![0, 13056] ![128, 256] inb_S128x15360_S128x256_0_13056)) (ix2 i e) = x2 (ix2 i ⟨13056 + e.val, by omega⟩) := by
  rw [View.ld_unit]
  pointwise []

/-- Group 3 of the row 4 back. -/
theorem ldE3_4 (x2 : Vec Ideal S128x15360 .f32) (i : Fin 128) (e : Fin 256) : (View.ld x2 (Rect.unit (s := S128x15360) ![0, 12032] ![128, 256] inb_S128x15360_S128x256_0_12032)) (ix2 i e) = x2 (ix2 i ⟨12032 + e.val, by omega⟩) := by
  rw [View.ld_unit]
  pointwise []

/-- Group 3 of the row 5 back. -/
theorem ldE3_5 (x2 : Vec Ideal S128x15360 .f32) (i : Fin 128) (e : Fin 256) : (View.ld x2 (Rect.unit (s := S128x15360) ![0, 11008] ![128, 256] inb_S128x15360_S128x256_0_11008)) (ix2 i e) = x2 (ix2 i ⟨11008 + e.val, by omega⟩) := by
  rw [View.ld_unit]
  pointwise []

/-- Group 3 of the row 6 back. -/
theorem ldE3_6 (x2 : Vec Ideal S128x15360 .f32) (i : Fin 128) (e : Fin 256) : (View.ld x2 (Rect.unit (s := S128x15360) ![0, 9984] ![128, 256] inb_S128x15360_S128x256_0_9984)) (ix2 i e) = x2 (ix2 i ⟨9984 + e.val, by omega⟩) := by
  rw [View.ld_unit]
  pointwise []

/-- Group 3 of the row 7 back. -/
theorem ldE3_7 (x2 : Vec Ideal S128x15360 .f32) (i : Fin 128) (e : Fin 256) : (View.ld x2 (Rect.unit (s := S128x15360) ![0, 8960] ![128, 256] inb_S128x15360_S128x256_0_8960)) (ix2 i e) = x2 (ix2 i ⟨8960 + e.val, by omega⟩) := by
  rw [View.ld_unit]
  pointwise []

/-- Group 3 of the row 8 back. -/
theorem ldE3_8 (x2 : Vec Ideal S128x15360 .f32) (i : Fin 128) (e : Fin 256) : (View.ld x2 (Rect.unit (s := S128x15360) ![0, 7936] ![128, 256] inb_S128x15360_S128x256_0_7936)) (ix2 i e) = x2 (ix2 i ⟨7936 + e.val, by omega⟩) := by
  rw [View.ld_unit]
  pointwise []

/-- Group 3 of the row 9 back. -/
theorem ldE3_9 (x2 : Vec Ideal S128x15360 .f32) (i : Fin 128) (e : Fin 256) : (View.ld x2 (Rect.unit (s := S128x15360) ![0, 6912] ![128, 256] inb_S128x15360_S128x256_0_6912)) (ix2 i e) = x2 (ix2 i ⟨6912 + e.val, by omega⟩) := by
  rw [View.ld_unit]
  pointwise []

/-- Group 3 of the row 10 back. -/
theorem ldE3_10 (x2 : Vec Ideal S128x15360 .f32) (i : Fin 128) (e : Fin 256) : (View.ld x2 (Rect.unit (s := S128x15360) ![0, 5888] ![128, 256] inb_S128x15360_S128x256_0_5888)) (ix2 i e) = x2 (ix2 i ⟨5888 + e.val, by omega⟩) := by
  rw [View.ld_unit]
  pointwise []

/-- Group 3 of the row 11 back. -/
theorem ldE3_11 (x2 : Vec Ideal S128x15360 .f32) (i : Fin 128) (e : Fin 256) : (View.ld x2 (Rect.unit (s := S128x15360) ![0, 4864] ![128, 256] inb_S128x15360_S128x256_0_4864)) (ix2 i e) = x2 (ix2 i ⟨4864 + e.val, by omega⟩) := by
  rw [View.ld_unit]
  pointwise []

/-- Group 3 of the row 12 back. -/
theorem ldE3_12 (x2 : Vec Ideal S128x15360 .f32) (i : Fin 128) (e : Fin 256) : (View.ld x2 (Rect.unit (s := S128x15360) ![0, 3840] ![128, 256] inb_S128x15360_S128x256_0_3840)) (ix2 i e) = x2 (ix2 i ⟨3840 + e.val, by omega⟩) := by
  rw [View.ld_unit]
  pointwise []

/-- Group 3 of the row 13 back. -/
theorem ldE3_13 (x2 : Vec Ideal S128x15360 .f32) (i : Fin 128) (e : Fin 256) : (View.ld x2 (Rect.unit (s := S128x15360) ![0, 2816] ![128, 256] inb_S128x15360_S128x256_0_2816)) (ix2 i e) = x2 (ix2 i ⟨2816 + e.val, by omega⟩) := by
  rw [View.ld_unit]
  pointwise []

/-- Group 3 of the row 14 back. -/
theorem ldE3_14 (x2 : Vec Ideal S128x15360 .f32) (i : Fin 128) (e : Fin 256) : (View.ld x2 (Rect.unit (s := S128x15360) ![0, 1792] ![128, 256] inb_S128x15360_S128x256_0_1792)) (ix2 i e) = x2 (ix2 i ⟨1792 + e.val, by omega⟩) := by
  rw [View.ld_unit]
  pointwise []

/-- Group 3 of the row 15 back. -/
theorem ldE3_15 (x2 : Vec Ideal S128x15360 .f32) (i : Fin 128) (e : Fin 256) : (View.ld x2 (Rect.unit (s := S128x15360) ![0, 768] ![128, 256] inb_S128x15360_S128x256_0_768)) (ix2 i e) = x2 (ix2 i ⟨768 + e.val, by omega⟩) := by
  rw [View.ld_unit]
  pointwise []

end Cert.SampleIdeal.Gen

end
-- ==== Proof.SampleRows.lean ====
/-
  Each row the step kernel stores is the layer's row function of one step.
-/
module

public import proofs.«01_k».proof.Proof.SampleLoads
public import proofs.«01_k».proof.Proof.Congr
public import Idealize.ShloMosaic.Lib.WritesUnit

@[expose] public section

set_option maxRecDepth 16384
set_option backward.proofsInPublic true

noncomputable section

namespace Cert.SampleIdeal.Gen

open Idealize.ShloMosaic Cert.Layer
open scoped BigOperators

section
variable {P : Par} {x0 : Vec Ideal S128x1024 .f32} {x1 : Vec Ideal S128x256 .f32} {x2 : Vec Ideal S128x15360 .f32} {x3 : Vec Ideal S1024x7168 .bf16} {x4 : Vec Ideal S8x128x128 .f32} {x5 : Vec Ideal S128x8 .f32} {x6 : Vec Ideal S4x256x256 .bf16} {x7 : Vec Ideal S1024x1024 .bf16} {x8 : Vec Ideal S1024x1024 .bf16} {x9 : Vec Ideal S1024x1024 .bf16} {x10 : Vec Ideal S256x1024 .bf16} {x11 : Vec Ideal S1024x1024 .bf16} {x12 : Vec Ideal S8x1024 .f32}
variable (H : Holds P x3 x4 x5 x6 x7 x8 x9 x10 x11 x12)
include H

/-- The normed row. -/
theorem sXn_apply (i : Fin 128) (d : Fin 1024) : sXn x0 x12 (ix2 i d) = rms (fun k => x0 (ix2 i k)) P.preG d := by
  unfold sXn
  exact (pay3_apply _ _ i d).trans (rms_congr (fun k => ldX0 x0 i k) (fun k => (ldG0 x12 k).trans (H.g0 k)) d)

/-- One part of the projection of the normed row. -/
theorem part_of (o : ℕ) (ho : o + 1024 ≤ 7168) (i : Fin 128) {w : Fin 1024 → Fin 1024 → EReal}
    (hw : ∀ k d, w k d = x3 (ix2 k ⟨o + d.val, by omega⟩)) (d : Fin 1024) :
    lin (fun k => sXn x0 x12 (ix2 i k)) w d = P.part o ho (fun k => x0 (ix2 i k)) d :=
  lin_congr (fun k => sXn_apply H i k) (fun k d => (hw k d).trans (H.w k _)) d

/-- The value row. -/
theorem sV_apply (i : Fin 128) (d : Fin 1024) : sV x0 x3 x12 (ix2 i d) = P.vn (fun k => x0 (ix2 i k)) d := by
  unfold sV
  exact (pay9_apply _ _ _ _ _ i d).trans (lnorm_congr
    (fun k => congrArg gelu (part_of H 1024 (by norm_num) i (fun k d => ldW1 x3 k d) k))
    (fun k => (ldG1 x12 k).trans (H.g1 k)) (fun k => (ldG2 x12 k).trans (H.g2 k)) d)

/-- The pooling input. -/
theorem sXb_apply (i : Fin 128) (d : Fin 1024) : sXb x0 x3 x12 (ix2 i d) = P.xb (fun k => x0 (ix2 i k)) d := by
  unfold sXb
  exact (pay18_apply _ _ i d).trans (part_of H 3072 (by norm_num) i (fun k d => ldW3 x3 k d) d)

/-- The first branch's row. -/
theorem sYa_apply (i : Fin 128) (d : Fin 1024) :
    sYa x0 x3 x4 x5 x12 (ix2 i d) = P.ya (fun k => x0 (ix2 i k)) (stepMix P (fun k => x0 (ix2 i k))) d := by
  unfold sYa
  rw [pay17_apply P (P.vn (fun k => x0 (ix2 i k))) (i := i)
    (hV := fun d => sV_apply H i d)
    (h0 := fun e => by
      rw [pay12_apply, ldS0, ldB0, H.s, H.b]
      exact congrArg (· * _ + _) (sV_apply H i ⟨e.val, by omega⟩))
    (h1 := fun e => by rw [pay13_apply, ldS1, ldB1, H.s, H.b, sV_apply H])
    (h2 := fun e => by rw [pay14_apply, ldS2, ldB2, H.s, H.b, sV_apply H])
    (h3 := fun e => by rw [pay15_apply, ldS3, ldB3, H.s, H.b, sV_apply H])
    (h4 := fun e => by rw [pay16_apply, ldS4, ldB4, H.s, H.b, sV_apply H])
    (hs5 := by rw [ldS5, H.s]) (hb5 := by rw [ldB5, H.b])
    (hs6 := by rw [ldS6, H.s]) (hb6 := by rw [ldB6, H.b])
    (hs7 := by rw [ldS7, H.s]) (hb7 := by rw [ldB7, H.b])]
  exact congrArg₂ (· * ·) (congrArg (· * _) ((pay4_apply _ _ _ i d).trans
      (congrArg gelu (part_of H 0 (by norm_num) i (fun k d => ldW0 x3 k d) d))))
    (congrArg silu (part_of H 2048 (by norm_num) i (fun k d => ldW2 x3 k d) d))

section
variable (i : Fin 128) (prev : Fin 15 → Fin 1024 → EReal)
  (hK : ∀ (r : Fin 15) (d : Fin 1024), x2 (ix2 i ⟨1024 * r.val + d.val, by omega⟩) = prev r d)
include hK

omit H in
/-- A kept row, counted back from the step's own. -/
theorem kept_of (x : Fin 1024 → EReal) (r : Fin 15) (n : ℕ) (hn : n = r.val + 1) (d : Fin 1024) (c : Fin 15360) (hc : c.val = 1024 * r.val + d.val) :
    x2 (ix2 i c) = stepE P x prev n d := by
  rw [stepE_prev P x prev r hn, ← hK]
  exact congrArg (fun q => x2 (ix2 i q)) (Fin.ext hc)

/-- The step's own pooling input is the last row. -/
theorem own_row (d : Fin 1024) : sXb x0 x3 x12 (ix2 i d) = stepE P (fun k => x0 (ix2 i k)) prev 16 d :=
  (sXb_apply H i d).trans (stepE_row P _ prev d).symm

/-- The group of windows of 2. -/
theorem sQ0_apply (e : Fin 256) :
    sQ0 x0 x2 x3 x12 (ix2 i e) = stepPooled P (fun k => x0 (ix2 i k)) prev ⟨e.val, by omega⟩ :=
  pay19_apply (stepE P (fun k => x0 (ix2 i k)) prev) i _ _ _ e (fun j => own_row H i prev hK j)
    ((ldE0_1 x2 i e).trans (kept_of i prev hK _ 14 15 rfl _ _ (by show 14336 + e.val = 1024 * 14 + _; simp only [] <;> omega)))

/-- The group of windows of 4. -/
theorem sQ1_apply (e : Fin 256) :
    sQ1 x0 x2 x3 x12 (ix2 i e) = stepPooled P (fun k => x0 (ix2 i k)) prev ⟨256 + e.val, by omega⟩ :=
  pay20_apply (stepE P (fun k => x0 (ix2 i k)) prev) i _ _ _ _ _ e (fun j => own_row H i prev hK j)
    ((ldE1_1 x2 i e).trans (kept_of i prev hK _ 14 15 rfl _ _ (by show 14592 + e.val = 1024 * 14 + _; simp only [] <;> omega)))
    ((ldE1_2 x2 i e).trans (kept_of i prev hK _ 13 14 rfl _ _ (by show 13568 + e.val = 1024 * 13 + _; simp only [] <;> omega)))
    ((ldE1_3 x2 i e).trans (kept_of i prev hK _ 12 13 rfl _ _ (by show 12544 + e.val = 1024 * 12 + _; simp only [] <;> omega)))

/-- The group of windows of 8. -/
theorem sQ2_apply (e : Fin 256) :
    sQ2 x0 x2 x3 x12 (ix2 i e) = stepPooled P (fun k => x0 (ix2 i k)) prev ⟨512 + e.val, by omega⟩ :=
  pay24_apply (stepE P (fun k => x0 (ix2 i k)) prev) i _ _ _ _ _ _ _ _ _ e (fun j => own_row H i prev hK j)
    ((ldE2_1 x2 i e).trans (kept_of i prev hK _ 14 15 rfl _ _ (by show 14848 + e.val = 1024 * 14 + _; simp only [] <;> omega)))
    ((ldE2_2 x2 i e).trans (kept_of i prev hK _ 13 14 rfl _ _ (by show 13824 + e.val = 1024 * 13 + _; simp only [] <;> omega)))
    ((ldE2_3 x2 i e).trans (kept_of i prev hK _ 12 13 rfl _ _ (by show 12800 + e.val = 1024 * 12 + _; simp only [] <;> omega)))
    ((ldE2_4 x2 i e).trans (kept_of i prev hK _ 11 12 rfl _ _ (by show 11776 + e.val = 1024 * 11 + _; simp only [] <;> omega)))
    ((ldE2_5 x2 i e).trans (kept_of i prev hK _ 10 11 rfl _ _ (by show 10752 + e.val = 1024 * 10 + _; simp only [] <;> omega)))
    ((ldE2_6 x2 i e).trans (kept_of i prev hK _ 9 10 rfl _ _ (by show 9728 + e.val = 1024 * 9 + _; simp only [] <;> omega)))
    ((ldE2_7 x2 i e).trans (kept_of i prev hK _ 8 9 rfl _ _ (by show 8704 + e.val = 1024 * 8 + _; simp only [] <;> omega)))

/-- The second branch's row. -/
theorem sYb_apply (d : Fin 1024) :
    sYb x0 x2 x3 x6 x12 (ix2 i d) = P.yb (fun k => x0 (ix2 i k)) (stepPooled P (fun k => x0 (ix2 i k)) prev) d := by
  unfold sYb sS
  rw [pay32_apply _ _ _ _ _ _ _ _ _ _ _ _ P _ _ _ _ _ _ _ i (stepPooled P (fun k => x0 (ix2 i k)) prev)
    (hq := fun j => pay28_apply (stepE P (fun k => x0 (ix2 i k)) prev) i _ _ _ _ _ _ _ _ _ _ _ _ _ _ _ _ _ _ _ (fun j => own_row H i prev hK j)
      (sQ0_apply H i prev hK) (sQ1_apply H i prev hK) (sQ2_apply H i prev hK)
      (fun e => ((ldE3_1 x2 i e).trans (kept_of i prev hK _ 14 15 rfl _ _ (by show 15104 + e.val = 1024 * 14 + _; simp only [] <;> omega))))
      (fun e => ((ldE3_2 x2 i e).trans (kept_of i prev hK _ 13 14 rfl _ _ (by show 14080 + e.val = 1024 * 13 + _; simp only [] <;> omega))))
      (fun e => ((ldE3_3 x2 i e).trans (kept_of i prev hK _ 12 13 rfl _ _ (by show 13056 + e.val = 1024 * 12 + _; simp only [] <;> omega))))
      (fun e => ((ldE3_4 x2 i e).trans (kept_of i prev hK _ 11 12 rfl _ _ (by show 12032 + e.val = 1024 * 11 + _; simp only [] <;> omega))))
      (fun e => ((ldE3_5 x2 i e).trans (kept_of i prev hK _ 10 11 rfl _ _ (by show 11008 + e.val = 1024 * 10 + _; simp only [] <;> omega))))
      (fun e => ((ldE3_6 x2 i e).trans (kept_of i prev hK _ 9 10 rfl _ _ (by show 9984 + e.val = 1024 * 9 + _; simp only [] <;> omega))))
      (fun e => ((ldE3_7 x2 i e).trans (kept_of i prev hK _ 8 9 rfl _ _ (by show 8960 + e.val = 1024 * 8 + _; simp only [] <;> omega))))
      (fun e => ((ldE3_8 x2 i e).trans (kept_of i prev hK _ 7 8 rfl _ _ (by show 7936 + e.val = 1024 * 7 + _; simp only [] <;> omega))))
      (fun e => ((ldE3_9 x2 i e).trans (kept_of i prev hK _ 6 7 rfl _ _ (by show 6912 + e.val = 1024 * 6 + _; simp only [] <;> omega))))
      (fun e => ((ldE3_10 x2 i e).trans (kept_of i prev hK _ 5 6 rfl _ _ (by show 5888 + e.val = 1024 * 5 + _; simp only [] <;> omega))))
      (fun e => ((ldE3_11 x2 i e).trans (kept_of i prev hK _ 4 5 rfl _ _ (by show 4864 + e.val = 1024 * 4 + _; simp only [] <;> omega))))
      (fun e => ((ldE3_12 x2 i e).trans (kept_of i prev hK _ 3 4 rfl _ _ (by show 3840 + e.val = 1024 * 3 + _; simp only [] <;> omega))))
      (fun e => ((ldE3_13 x2 i e).trans (kept_of i prev hK _ 2 3 rfl _ _ (by show 2816 + e.val = 1024 * 2 + _; simp only [] <;> omega))))
      (fun e => ((ldE3_14 x2 i e).trans (kept_of i prev hK _ 1 2 rfl _ _ (by show 1792 + e.val = 1024 * 1 + _; simp only [] <;> omega))))
      (fun e => ((ldE3_15 x2 i e).trans (kept_of i prev hK _ 0 1 rfl _ _ (by show 768 + e.val = 1024 * 0 + _; simp only [] <;> omega)))) j)
    (hw0 := fun k e => by rw [ldP0, H.p]) (hw1 := fun k e => by rw [ldP1, H.p]) (hw2 := fun k e => by rw [ldP2, H.p])
    (hw3 := fun k e => by rw [ldP3, H.p]) (hsc := fun j => by rw [ldG3, H.g3])]
  exact congrArg (_ * silu ·) (part_of H 4096 (by norm_num) i (fun k d => ldW4 x3 k d) d)

/-- The row before the embedding. -/
theorem sHid_apply (d : Fin 1024) :
    sHid x0 x2 x3 x4 x5 x6 x7 x8 x9 x12 (ix2 i d)
      = P.hid (fun k => x0 (ix2 i k)) (stepMix P (fun k => x0 (ix2 i k))) (stepPooled P (fun k => x0 (ix2 i k)) prev) d := by
  unfold sHid sO sOm
  exact (pay38_apply _ _ _ _ _ _ _ _ _ _ i d).trans (congrArg₂ (· + ·) ((pay2_apply _ i d).trans (ldX0 x0 i d)) (rms_congr
    (fun k => lin_congr (fun k => congrArg₂ (· + ·)
        (congrArg₂ (· * ·) (congrArg Layer.sig (part_of H 5120 (by norm_num) i (fun k d => ldW5 x3 k d) k))
          (lin_congr (fun k => sYa_apply H i k) (fun k d => (ldSq x7 k d).trans (H.pa k d)) k))
        (congrArg₂ (· * ·) (congrArg Layer.sig (part_of H 6144 (by norm_num) i (fun k d => ldW6 x3 k d) k))
          (lin_congr (fun k => sYb_apply H i prev hK k) (fun k d => (ldSq x8 k d).trans (H.pb k d)) k)))
      (fun k d => (ldSq x9 k d).trans (H.o k d)) k)
    (fun k => (ldG4 x12 k).trans (H.g4 k)) d))

/-- The output row. -/
theorem sY_apply (d : Fin 1024) :
    sY x0 x1 x2 x3 x4 x5 x6 x7 x8 x9 x10 x11 x12 (ix2 i d)
      = stepOut P (fun k => x0 (ix2 i k)) prev (fun k => x1 (ix2 i k)) d := by
  have hh := sHid_apply H i prev hK (x0 := x0)
  unfold sHid at hh
  unfold sY sHid
  exact (pay1_apply _ _ _ _ _ _ _ _ _ i d).trans (congrArg₂ (· + ·) (hh d) (rms_congr
    (fun k => congrArg₂ (· * ·)
      (congrArg Layer.sig (lin_congr (fun k => rms_congr (fun k => hh k) (fun k => (ldG5 x12 k).trans (H.g5 k)) k)
        (fun k d => (ldSq x11 k d).trans (H.pg k d)) k))
      (lin_congr (fun k => ldX1 x1 i k) (fun k d => (ldPle x10 k d).trans (H.ple k d)) k))
    (fun k => (ldG6 x12 k).trans (H.g6 k)) d))

/-- The pool's result: the rows kept but the oldest, then the step's own. -/
theorem sPool_apply (c : Fin 15360) :
    View.canon [sLast x0 x3 x12, sKept x2] (ix2 i c)
      = stepE P (fun k => x0 (ix2 i k)) prev (c.val / 1024 + 2) ⟨c.val % 1024, by omega⟩ := by
  rw [← View.read_writes_junk_eq_canon VO0_15]
  by_cases hc : c.val < 14336
  · refine (View.read_writes_cons_unit_of_not_mem _ _ _ _ _ (ix2 i c) rfl (1 : Fin 2) (Or.inl hc)).trans ?_
    refine (View.read_writes_cons_unit_of_mem _ _ _ _ _ (ix2 i c) (ix2 i (⟨c.val, hc⟩ : Fin 14336)) rfl
      (fun a => by fin_cases a <;> simp)).trans ?_
    refine (pay29_apply _ i _).trans ((ldKept x2 i _).trans ?_)
    exact kept_of i prev hK _ ⟨c.val / 1024 + 1, by omega⟩ _ rfl _ _
      (by show 1024 + c.val = 1024 * (c.val / 1024 + 1) + c.val % 1024; omega)
  · have hd : c.val / 1024 = 14 := by omega
    refine (View.read_writes_cons_unit_of_mem _ _ _ _ _ (ix2 i c) (ix2 i (⟨c.val - 14336, by omega⟩ : Fin 1024)) rfl
      (fun a => by fin_cases a <;> simp <;> omega)).trans ?_
    refine (own_row H i prev hK _).trans ?_
    rw [hd]
    exact congrArg _ (Fin.ext (by show c.val - 14336 = c.val % 1024; omega))
end
end

end Cert.SampleIdeal.Gen

end
-- ==== Proof.SampleEntry.lean ====
/-
  What the step kernel's blocks hold: the layer's weights, and all the rows, embeddings and kept pooling inputs.
-/
module

public import proofs.«01_k».proof.Proof.SampleRows
public import proofs.«01_k».proof.Proof.Gen.SampleIdeal.Value
public import Idealize.ShloMosaic.Lib.Claim
public import Idealize.ShloMosaic.Lib.Pipeline.ValueKit

@[expose] public section

set_option maxRecDepth 16384
set_option backward.proofsInPublic true

noncomputable section

namespace Cert.SampleIdeal.Gen

open Idealize.ShloMosaic Idealize.ShloMosaic.TcCoe Idealize.ShloMosaic.Tactic Idealize.SL.Sem Cert.Layer
open scoped BigOperators

variable (m : (ℓ : Loc nD τ sig) → Buf (Elt Ideal) ℓ) (c : Dev nD)

/-- The layer's weights, as the launch finds them in the arguments. -/
def kpar : Par where
  preG := fun d => m ((c : Thread nD τ).loc main_arg3) (ix2 0 d)
  wIn := fun k d => m ((c : Thread nD τ).loc main_arg4) (ix3 0 k d)
  lnG := fun d => m ((c : Thread nD τ).loc main_arg5) (ix2 0 d)
  lnB := fun d => m ((c : Thread nD τ).loc main_arg6) (ix2 0 d)
  wS := fun h r t => m ((c : Thread nD τ).loc main_arg7) (ix4 0 h r t)
  bS := fun h r => m ((c : Thread nD τ).loc main_arg8) (ix3 0 h r)
  wPool := fun g k e => m ((c : Thread nD τ).loc main_arg9) (ix4 0 g k e)
  poolScale := fun d => m ((c : Thread nD τ).loc main_arg10) (ix2 0 d)
  wPa := fun k d => m ((c : Thread nD τ).loc main_arg11) (ix3 0 k d)
  wPb := fun k d => m ((c : Thread nD τ).loc main_arg12) (ix3 0 k d)
  wOut := fun k d => m ((c : Thread nD τ).loc main_arg13) (ix3 0 k d)
  postG := fun d => m ((c : Thread nD τ).loc main_arg14) (ix2 0 d)
  wPle := fun k d => m ((c : Thread nD τ).loc main_arg15) (ix3 0 k d)
  wPg := fun k d => m ((c : Thread nD τ).loc main_arg16) (ix3 0 k d)
  pleInG := fun d => m ((c : Thread nD τ).loc main_arg17) (ix2 0 d)
  pleOutG := fun d => m ((c : Thread nD τ).loc main_arg18) (ix2 0 d)

/-- The row of sequence `b`. -/
def kx (b : Fin 128) : Fin 1024 → EReal := fun d => m ((c : Thread nD τ).loc main_arg0) (ix3 b 0 d)

/-- The kept pooling inputs of sequence `b`. -/
def kprev (b : Fin 128) : Fin 15 → Fin 1024 → EReal := fun r d => m ((c : Thread nD τ).loc main_arg1) (ix4 0 b r d)

/-- The embedding of sequence `b`. -/
def kp (b : Fin 128) : Fin 256 → EReal := fun k => m ((c : Thread nD τ).loc main_arg2) (ix4 0 b 0 k)

/-- The projection as the call takes it. -/
theorem V_wIn (k : Fin 1024) (d : Fin 7168) : V m c main_v19 (ix2 k d) = (kpar m c).wIn k d := by
  unfold kpar
  entry_read
  pointwise []

/-- The spatial mix as the call takes it. -/
theorem V_wS (h : Fin 8) (r t : Fin 128) : V m c main_v20 (ix3 h r t) = (kpar m c).wS h r t := by
  unfold kpar
  entry_read
  pointwise []

/-- The spatial shift as the call takes it. -/
theorem V_bS (r : Fin 128) (h : Fin 8) : V m c main_v22 (ix2 r h) = (kpar m c).bS h r := by
  unfold kpar
  entry_read
  pointwise []

/-- The pooled mix as the call takes it. -/
theorem V_wPool (g : Fin 4) (k e : Fin 256) : V m c main_v24 (ix3 g k e) = (kpar m c).wPool g k e := by
  unfold kpar
  entry_read
  pointwise []

/-- The first merge as the call takes it. -/
theorem V_wPa (k d : Fin 1024) : V m c main_v26 (ix2 k d) = (kpar m c).wPa k d := by
  unfold kpar
  entry_read
  pointwise []

/-- The second merge as the call takes it. -/
theorem V_wPb (k d : Fin 1024) : V m c main_v28 (ix2 k d) = (kpar m c).wPb k d := by
  unfold kpar
  entry_read
  pointwise []

/-- The output projection as the call takes it. -/
theorem V_wOut (k d : Fin 1024) : V m c main_v30 (ix2 k d) = (kpar m c).wOut k d := by
  unfold kpar
  entry_read
  pointwise []

/-- The embedding's gate as the call takes it. -/
theorem V_wPg (k d : Fin 1024) : V m c main_v34 (ix2 k d) = (kpar m c).wPg k d := by
  unfold kpar
  entry_read
  pointwise []

/-- The embedding's projection as the call takes it. -/
theorem V_wPle (k : Fin 256) (d : Fin 1024) : V m c main_v32 (ix2 k d) = (kpar m c).wPle k d := by
  unfold kpar
  entry_read
  pointwise []

/-- The rows as the call takes them. -/
theorem V_x (b : Fin 128) (d : Fin 1024) : V m c main_v35 (ix2 b d) = kx m c b d := by
  unfold kx
  entry_read
  pointwise []

/-- The embeddings as the call takes them. -/
theorem V_p (b : Fin 128) (k : Fin 256) : V m c main_v37 (ix2 b k) = kp m c b k := by
  unfold kp
  entry_read
  pointwise []

/-- The kept pooling inputs as the call takes them. -/
theorem V_prev (b : Fin 128) (r : Fin 15) (d : Fin 1024) : V m c main_v39 (ix2 b ⟨1024 * r.val + d.val, by omega⟩) = kprev m c b r d := by
  unfold kprev
  entry_read
  pointwise []

/-- Row 0 of the stacked scales. -/
theorem V_g0 (d : Fin 1024) : V m c main_v17 (ix2 0 d) = (kpar m c).preG d := by
  unfold kpar
  show StableHlo.after hostOps0 _ (Proc.devRef .tc main_v17) _ = _
  after_results
  pointwise []
  after_results_simp
  pointwise []

/-- Row 1 of the stacked scales. -/
theorem V_g1 (d : Fin 1024) : V m c main_v17 (ix2 1 d) = (kpar m c).lnG d := by
  unfold kpar
  show StableHlo.after hostOps0 _ (Proc.devRef .tc main_v17) _ = _
  after_results
  pointwise []
  after_results_simp
  pointwise []

/-- Row 2 of the stacked scales. -/
theorem V_g2 (d : Fin 1024) : V m c main_v17 (ix2 2 d) = (kpar m c).lnB d := by
  unfold kpar
  show StableHlo.after hostOps0 _ (Proc.devRef .tc main_v17) _ = _
  after_results
  pointwise []
  after_results_simp
  pointwise []

/-- Row 3 of the stacked scales. -/
theorem V_g3 (d : Fin 1024) : V m c main_v17 (ix2 3 d) = (kpar m c).poolScale d := by
  unfold kpar
  show StableHlo.after hostOps0 _ (Proc.devRef .tc main_v17) _ = _
  after_results
  pointwise []
  after_results_simp
  pointwise []

/-- Row 4 of the stacked scales. -/
theorem V_g4 (d : Fin 1024) : V m c main_v17 (ix2 4 d) = (kpar m c).postG d := by
  unfold kpar
  show StableHlo.after hostOps0 _ (Proc.devRef .tc main_v17) _ = _
  after_results
  pointwise []
  after_results_simp
  pointwise []

/-- Row 5 of the stacked scales. -/
theorem V_g5 (d : Fin 1024) : V m c main_v17 (ix2 5 d) = (kpar m c).pleInG d := by
  unfold kpar
  show StableHlo.after hostOps0 _ (Proc.devRef .tc main_v17) _ = _
  after_results
  pointwise []
  after_results_simp
  pointwise []

/-- Row 6 of the stacked scales. -/
theorem V_g6 (d : Fin 1024) : V m c main_v17 (ix2 6 d) = (kpar m c).pleOutG d := by
  unfold kpar
  show StableHlo.after hostOps0 _ (Proc.devRef .tc main_v17) _ = _
  after_results
  pointwise []
  after_results_simp
  pointwise []

/-- Window 0's block is its whole array. -/
theorem blk0 (t : Fin cfg0.N) (i : Fin 128) (d : Fin 1024) : iblk m c 0 t (ix2 i d) = V m c main_v35 (ix2 i d) := by
  have e : ∀ t : Fin cfg0.N, win0_0.index t = ![0, 0] := by decide +kernel
  blk_ext [iblk, e t]

/-- Window 1's block is its whole array. -/
theorem blk1 (t : Fin cfg0.N) (i : Fin 128) (d : Fin 256) : iblk m c 1 t (ix2 i d) = V m c main_v37 (ix2 i d) := by
  have e : ∀ t : Fin cfg0.N, win0_1.index t = ![0, 0] := by decide +kernel
  blk_ext [iblk, e t]

/-- Window 2's block is its whole array. -/
theorem blk2 (t : Fin cfg0.N) (i : Fin 128) (d : Fin 15360) : iblk m c 2 t (ix2 i d) = V m c main_v39 (ix2 i d) := by
  have e : ∀ t : Fin cfg0.N, win0_2.index t = ![0, 0] := by decide +kernel
  blk_ext [iblk, e t]

/-- Window 3's block is its whole array. -/
theorem blk3 (t : Fin cfg0.N) (k : Fin 1024) (d : Fin 7168) : iblk m c 3 t (ix2 k d) = V m c main_v19 (ix2 k d) := by
  have e : ∀ t : Fin cfg0.N, win0_3.index t = ![0, 0] := by decide +kernel
  blk_ext [iblk, e t]

/-- Window 4's block is its whole array. -/
theorem blk4 (t : Fin cfg0.N) (h : Fin 8) (r s : Fin 128) : iblk m c 4 t (ix3 h r s) = V m c main_v20 (ix3 h r s) := by
  have e : ∀ t : Fin cfg0.N, win0_4.index t = ![0, 0, 0] := by decide +kernel
  blk_ext [iblk, e t]

/-- Window 5's block is its whole array. -/
theorem blk5 (t : Fin cfg0.N) (r : Fin 128) (h : Fin 8) : iblk m c 5 t (ix2 r h) = V m c main_v22 (ix2 r h) := by
  have e : ∀ t : Fin cfg0.N, win0_5.index t = ![0, 0] := by decide +kernel
  blk_ext [iblk, e t]

/-- Window 6's block is its whole array. -/
theorem blk6 (t : Fin cfg0.N) (g : Fin 4) (k e : Fin 256) : iblk m c 6 t (ix3 g k e) = V m c main_v24 (ix3 g k e) := by
  have e : ∀ t : Fin cfg0.N, win0_6.index t = ![0, 0, 0] := by decide +kernel
  blk_ext [iblk, e t]

/-- Window 7's block is its whole array. -/
theorem blk7 (t : Fin cfg0.N) (k d : Fin 1024) : iblk m c 7 t (ix2 k d) = V m c main_v26 (ix2 k d) := by
  have e : ∀ t : Fin cfg0.N, win0_7.index t = ![0, 0] := by decide +kernel
  blk_ext [iblk, e t]

/-- Window 8's block is its whole array. -/
theorem blk8 (t : Fin cfg0.N) (k d : Fin 1024) : iblk m c 8 t (ix2 k d) = V m c main_v28 (ix2 k d) := by
  have e : ∀ t : Fin cfg0.N, win0_8.index t = ![0, 0] := by decide +kernel
  blk_ext [iblk, e t]

/-- Window 9's block is its whole array. -/
theorem blk9 (t : Fin cfg0.N) (k d : Fin 1024) : iblk m c 9 t (ix2 k d) = V m c main_v30 (ix2 k d) := by
  have e : ∀ t : Fin cfg0.N, win0_9.index t = ![0, 0] := by decide +kernel
  blk_ext [iblk, e t]

/-- Window 10's block is its whole array. -/
theorem blk10 (t : Fin cfg0.N) (k : Fin 256) (d : Fin 1024) : iblk m c 10 t (ix2 k d) = V m c main_v32 (ix2 k d) := by
  have e : ∀ t : Fin cfg0.N, win0_10.index t = ![0, 0] := by decide +kernel
  blk_ext [iblk, e t]

/-- Window 11's block is its whole array. -/
theorem blk11 (t : Fin cfg0.N) (k d : Fin 1024) : iblk m c 11 t (ix2 k d) = V m c main_v34 (ix2 k d) := by
  have e : ∀ t : Fin cfg0.N, win0_11.index t = ![0, 0] := by decide +kernel
  blk_ext [iblk, e t]

/-- Window 12's block is its whole array. -/
theorem blk12 (t : Fin cfg0.N) (r : Fin 8) (d : Fin 1024) : iblk m c 12 t (ix2 r d) = V m c main_v17 (ix2 r d) := by
  have e : ∀ t : Fin cfg0.N, win0_12.index t = ![0, 0] := by decide +kernel
  blk_ext [iblk, e t]

/-- The blocks of the weights hold the layer's weights. -/
theorem holds (t : Fin cfg0.N) : Holds (kpar m c) (iblk m c 3 t) (iblk m c 4 t) (iblk m c 5 t) (iblk m c 6 t) (iblk m c 7 t)
    (iblk m c 8 t) (iblk m c 9 t) (iblk m c 10 t) (iblk m c 11 t) (iblk m c 12 t) where
  w k d := (blk3 m c t k d).trans (V_wIn m c k d)
  s h r s := (blk4 m c t h r s).trans (V_wS m c h r s)
  b r h := (blk5 m c t r h).trans (V_bS m c r h)
  p g k e := (blk6 m c t g k e).trans (V_wPool m c g k e)
  pa k d := (blk7 m c t k d).trans (V_wPa m c k d)
  pb k d := (blk8 m c t k d).trans (V_wPb m c k d)
  o k d := (blk9 m c t k d).trans (V_wOut m c k d)
  ple k d := (blk10 m c t k d).trans (V_wPle m c k d)
  pg k d := (blk11 m c t k d).trans (V_wPg m c k d)
  g0 d := (blk12 m c t 0 d).trans (V_g0 m c d)
  g1 d := (blk12 m c t 1 d).trans (V_g1 m c d)
  g2 d := (blk12 m c t 2 d).trans (V_g2 m c d)
  g3 d := (blk12 m c t 3 d).trans (V_g3 m c d)
  g4 d := (blk12 m c t 4 d).trans (V_g4 m c d)
  g5 d := (blk12 m c t 5 d).trans (V_g5 m c d)
  g6 d := (blk12 m c t 6 d).trans (V_g6 m c d)

theorem row_x (t : Fin cfg0.N) (i : Fin 128) : (fun k => iblk m c 0 t (ix2 i k)) = kx m c i :=
  funext fun k => (blk0 m c t i k).trans (V_x m c i k)

theorem row_p (t : Fin cfg0.N) (i : Fin 128) : (fun k => iblk m c 1 t (ix2 i k)) = kp m c i :=
  funext fun k => (blk1 m c t i k).trans (V_p m c i k)

theorem row_prev (t : Fin cfg0.N) (i : Fin 128) (r : Fin 15) (d : Fin 1024) :
    iblk m c 2 t (ix2 i ⟨1024 * r.val + d.val, by omega⟩) = kprev m c i r d :=
  (blk2 m c t i _).trans (V_prev m c i r d)

end Cert.SampleIdeal.Gen

end
-- ==== Proof.SampleResults.lean ====
/-
  The step kernel's three results, as functions of the launch's arguments.
-/
module

public import proofs.«01_k».proof.Proof.SampleEntry

@[expose] public section

set_option maxRecDepth 16384
set_option backward.proofsInPublic true

noncomputable section

namespace Cert.SampleIdeal.Gen

open Idealize.ShloMosaic Idealize.ShloMosaic.TcCoe Idealize.ShloMosaic.Tactic Idealize.SL.Sem Cert.Layer
open Idealize.ShloMosaic.Pipeline
open scoped BigOperators

variable (m : (ℓ : Loc nD τ sig) → Buf (Elt Ideal) ℓ) (c : Dev nD)

/-- The call's the layer's output, at an entry. -/
theorem tile13 (t : Fin cfg0.N) (i : Fin 128) (d : Fin 1024) : (outsAt0 m c t).1 (ix2 i d) = stepOut (kpar m c) (kx m c i) (kprev m c i) (kp m c i) d := by
  unfold outsAt0
  dsimp only
  rw [out0_A_13_eq]
  rw [sY_apply (holds m c t) i (kprev m c i) (row_prev m c t i) d, row_x, row_p]

/-- The values of the layer's output, as an array. -/
def R13 : S128x1024.Idx → EReal := fun i => let b : Fin 128 := i 0; let d : Fin 1024 := i 1; stepOut (kpar m c) (kx m c b) (kprev m c b) (kp m c b) d

/-- The array of the layer's output after the run. -/
theorem final13 : (dats m 0 c).arrAt 13 cfg0.N = R13 m c := by
  refine (dats m 0 c).arrAt_eq_of_covers 13 (R13 m c) (by decide +kernel) fun t hf y => ?_
  have e : ∀ t : Fin cfg0.N, win0_13.index t = ![0, 0] := by decide +kernel
  have h0 : (((cfg0.win 13).blk t).view.emb y 0).val = win0_13.index t (0 : Fin 2) * 128 + 1 * (y 0).val := rfl
  have h1 : (((cfg0.win 13).blk t).view.emb y 1).val = win0_13.index t (1 : Fin 2) * 1024 + 1 * (y 1).val := rfl
  have y0 : (y 0).val < 128 := (y 0).isLt
  have y1 : (y 1).val < 1024 := (y 1).isLt
  rw [e t] at h0 h1
  have hi : ((cfg0.win 13).blk t).view.emb y = ix2 (⟨(y 0).val, y0⟩ : Fin 128) (⟨(y 1).val, y1⟩ : Fin 1024) := by
    funext a
    fin_cases a
    · exact Fin.ext (h0.trans (by simp))
    · exact Fin.ext (h1.trans (by simp))
  rw [hi]
  have hy : (cfg0.win 13).xinj (cfg0.grid.coords t) y = ix2 (⟨(y 0).val, y0⟩ : Fin 128) (⟨(y 1).val, y1⟩ : Fin 1024) := by
    funext a
    fin_cases a <;> rfl
  rw [hy]
  show (dats m 0 c).after 13 t (ix2 (⟨(y 0).val, y0⟩ : Fin 128) (⟨(y 1).val, y1⟩ : Fin 1024)) = _
  rw [after0_13]
  exact tile13 m c t _ _

/-- The call's the rows' values, at an entry. -/
theorem tile14 (t : Fin cfg0.N) (i : Fin 128) (d : Fin 1024) : (outsAt0 m c t).2.1 (ix2 i d) = (kpar m c).vn (kx m c i) d := by
  unfold outsAt0
  dsimp only
  rw [out0_A_14_eq]
  rw [sV_apply (holds m c t) i d, row_x]

/-- The values of the rows' values, as an array. -/
def R14 : S128x1024.Idx → EReal := fun i => let b : Fin 128 := i 0; let d : Fin 1024 := i 1; (kpar m c).vn (kx m c b) d

/-- The array of the rows' values after the run. -/
theorem final14 : (dats m 0 c).arrAt 14 cfg0.N = R14 m c := by
  refine (dats m 0 c).arrAt_eq_of_covers 14 (R14 m c) (by decide +kernel) fun t hf y => ?_
  have e : ∀ t : Fin cfg0.N, win0_14.index t = ![0, 0] := by decide +kernel
  have h0 : (((cfg0.win 14).blk t).view.emb y 0).val = win0_14.index t (0 : Fin 2) * 128 + 1 * (y 0).val := rfl
  have h1 : (((cfg0.win 14).blk t).view.emb y 1).val = win0_14.index t (1 : Fin 2) * 1024 + 1 * (y 1).val := rfl
  have y0 : (y 0).val < 128 := (y 0).isLt
  have y1 : (y 1).val < 1024 := (y 1).isLt
  rw [e t] at h0 h1
  have hi : ((cfg0.win 14).blk t).view.emb y = ix2 (⟨(y 0).val, y0⟩ : Fin 128) (⟨(y 1).val, y1⟩ : Fin 1024) := by
    funext a
    fin_cases a
    · exact Fin.ext (h0.trans (by simp))
    · exact Fin.ext (h1.trans (by simp))
  rw [hi]
  have hy : (cfg0.win 14).xinj (cfg0.grid.coords t) y = ix2 (⟨(y 0).val, y0⟩ : Fin 128) (⟨(y 1).val, y1⟩ : Fin 1024) := by
    funext a
    fin_cases a <;> rfl
  rw [hy]
  show (dats m 0 c).after 14 t (ix2 (⟨(y 0).val, y0⟩ : Fin 128) (⟨(y 1).val, y1⟩ : Fin 1024)) = _
  rw [after0_14]
  exact tile14 m c t _ _

/-- The call's the kept pooling inputs, at an entry. -/
theorem tile15 (t : Fin cfg0.N) (i : Fin 128) (d : Fin 15360) : (outsAt0 m c t).2.2 (ix2 i d) = stepE (kpar m c) (kx m c i) (kprev m c i) (d.val / 1024 + 2) ⟨d.val % 1024, by omega⟩ := by
  unfold outsAt0
  dsimp only
  rw [out0_A_15_eq]
  rw [sPool_apply (holds m c t) i (kprev m c i) (row_prev m c t i) d, row_x]

/-- The values of the kept pooling inputs, as an array. -/
def R15 : S128x15360.Idx → EReal := fun i => let b : Fin 128 := i 0; let d : Fin 15360 := i 1; stepE (kpar m c) (kx m c b) (kprev m c b) (d.val / 1024 + 2) ⟨d.val % 1024, by omega⟩

/-- The array of the kept pooling inputs after the run. -/
theorem final15 : (dats m 0 c).arrAt 15 cfg0.N = R15 m c := by
  refine (dats m 0 c).arrAt_eq_of_covers 15 (R15 m c) (by decide +kernel) fun t hf y => ?_
  have e : ∀ t : Fin cfg0.N, win0_15.index t = ![0, 0] := by decide +kernel
  have h0 : (((cfg0.win 15).blk t).view.emb y 0).val = win0_15.index t (0 : Fin 2) * 128 + 1 * (y 0).val := rfl
  have h1 : (((cfg0.win 15).blk t).view.emb y 1).val = win0_15.index t (1 : Fin 2) * 15360 + 1 * (y 1).val := rfl
  have y0 : (y 0).val < 128 := (y 0).isLt
  have y1 : (y 1).val < 15360 := (y 1).isLt
  rw [e t] at h0 h1
  have hi : ((cfg0.win 15).blk t).view.emb y = ix2 (⟨(y 0).val, y0⟩ : Fin 128) (⟨(y 1).val, y1⟩ : Fin 15360) := by
    funext a
    fin_cases a
    · exact Fin.ext (h0.trans (by simp))
    · exact Fin.ext (h1.trans (by simp))
  rw [hi]
  have hy : (cfg0.win 15).xinj (cfg0.grid.coords t) y = ix2 (⟨(y 0).val, y0⟩ : Fin 128) (⟨(y 1).val, y1⟩ : Fin 15360) := by
    funext a
    fin_cases a <;> rfl
  rw [hy]
  show (dats m 0 c).after 15 t (ix2 (⟨(y 0).val, y0⟩ : Fin 128) (⟨(y 1).val, y1⟩ : Fin 15360)) = _
  rw [after0_15]
  exact tile15 m c t _ _

end Cert.SampleIdeal.Gen

end
-- ==== Proof.StepRows.lean ====
/-
  The step's reference: its operations read as row functions of the layer.
-/
module

public import proofs.«01_k».proof.Proof.Step
public import proofs.«01_k».proof.Proof.Congr
public import proofs.«01_k».proof.Proof.Gen.SampleReferenceIdeal.Read

@[expose] public section

set_option maxRecDepth 16384
set_option maxHeartbeats 1000000

noncomputable section

namespace Cert.SampleReferenceIdeal.Read

open Cert.SampleReferenceIdeal Cert.SampleReferenceIdeal.Gen Idealize.ShloMosaic Idealize.ShloMosaic.TcCoe Idealize.ShloMosaic.Tactic Idealize.SL.Sem Cert.Layer
open scoped BigOperators

/-- The layer's weights, out of the reference's arguments. -/
def spar (x3 : (⟨S1x1024, .f32⟩ : BufTy).Contents (Elt Ideal)) (x4 : (⟨S1x1024x7168, .f32⟩ : BufTy).Contents (Elt Ideal)) (x5 : (⟨S1x1024, .f32⟩ : BufTy).Contents (Elt Ideal)) (x6 : (⟨S1x1024, .f32⟩ : BufTy).Contents (Elt Ideal)) (x7 : (⟨S1x8x128x128, .f32⟩ : BufTy).Contents (Elt Ideal)) (x8 : (⟨S1x8x128, .f32⟩ : BufTy).Contents (Elt Ideal)) (x9 : (⟨S1x4x256x256, .f32⟩ : BufTy).Contents (Elt Ideal)) (x10 : (⟨S1x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024x1024, .f32⟩ : BufTy).Contents (Elt Ideal)) (x14 : (⟨S1x1024, .f32⟩ : BufTy).Contents (Elt Ideal)) (x15 : (⟨S1x256x1024, .f32⟩ : BufTy).Contents (Elt Ideal)) (x16 : (⟨S1x1024x1024, .f32⟩ : BufTy).Contents (Elt Ideal)) (x17 : (⟨S1x1024, .f32⟩ : BufTy).Contents (Elt Ideal)) (x18 : (⟨S1x1024, .f32⟩ : BufTy).Contents (Elt Ideal)) : Par where
  preG := fun d => x3 (ix2 0 d)
  wIn := fun k d => x4 (ix3 0 k d)
  lnG := fun d => x5 (ix2 0 d)
  lnB := fun d => x6 (ix2 0 d)
  wS := fun h r t => x7 (ix4 0 h r t)
  bS := fun h r => x8 (ix3 0 h r)
  wPool := fun g k e => x9 (ix4 0 g k e)
  poolScale := fun d => x10 (ix2 0 d)
  wPa := fun k d => x11 (ix3 0 k d)
  wPb := fun k d => x12 (ix3 0 k d)
  wOut := fun k d => x13 (ix3 0 k d)
  postG := fun d => x14 (ix2 0 d)
  wPle := fun k d => x15 (ix3 0 k d)
  wPg := fun k d => x16 (ix3 0 k d)
  pleInG := fun d => x17 (ix2 0 d)
  pleOutG := fun d => x18 (ix2 0 d)

/-- The step's row of sequence `b`. -/
def sx (x0 : (⟨S128x1x1024, .f32⟩ : BufTy).Contents (Elt Ideal)) (b : Fin 128) : Fin 1024 → EReal := fun d => x0 (ix3 b 0 d)

/-- The kept pooling inputs of sequence `b`. -/
def sprev (x1 : (⟨S1x128x15x1024, .f32⟩ : BufTy).Contents (Elt Ideal)) (b : Fin 128) (r : Fin 15) : Fin 1024 → EReal := fun d => x1 (ix4 0 b r d)

/-- The step's embedding of sequence `b`. -/
def sp (x2 : (⟨S1x128x1x256, .f32⟩ : BufTy).Contents (Elt Ideal)) (b : Fin 128) : Fin 256 → EReal := fun k => x2 (ix4 0 b 0 k)

variable (x0 : (⟨S128x1x1024, .f32⟩ : BufTy).Contents (Elt Ideal)) (x1 : (⟨S1x128x15x1024, .f32⟩ : BufTy).Contents (Elt Ideal)) (x2 : (⟨S1x128x1x256, .f32⟩ : BufTy).Contents (Elt Ideal)) (x3 : (⟨S1x1024, .f32⟩ : BufTy).Contents (Elt Ideal)) (x4 : (⟨S1x1024x7168, .f32⟩ : BufTy).Contents (Elt Ideal)) (x5 : (⟨S1x1024, .f32⟩ : BufTy).Contents (Elt Ideal)) (x6 : (⟨S1x1024, .f32⟩ : BufTy).Contents (Elt Ideal)) (x7 : (⟨S1x8x128x128, .f32⟩ : BufTy).Contents (Elt Ideal)) (x8 : (⟨S1x8x128, .f32⟩ : BufTy).Contents (Elt Ideal)) (x9 : (⟨S1x4x256x256, .f32⟩ : BufTy).Contents (Elt Ideal)) (x10 : (⟨S1x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024x1024, .f32⟩ : BufTy).Contents (Elt Ideal)) (x14 : (⟨S1x1024, .f32⟩ : BufTy).Contents (Elt Ideal)) (x15 : (⟨S1x256x1024, .f32⟩ : BufTy).Contents (Elt Ideal)) (x16 : (⟨S1x1024x1024, .f32⟩ : BufTy).Contents (Elt Ideal)) (x17 : (⟨S1x1024, .f32⟩ : BufTy).Contents (Elt Ideal)) (x18 : (⟨S1x1024, .f32⟩ : BufTy).Contents (Elt Ideal))

/-- The first norm. -/
theorem row_v30 (b : Fin 128) (d : Fin 1024) :
    val_main_v30 (F := Ideal) x0 x3 (ix3 b 0 d) = rms (sx x0 b) (spar x3 x4 x5 x6 x7 x8 x9 x10 x11 x12 x13 x14 x15 x16 x17 x18).preG d := by
  pointwise [val_main_v18, val_main_v19, val_main_v20, val_main_v21, val_main_v22, val_main_v23, val_main_v24, val_main_v25, val_main_v26, val_main_v27, val_main_v28, val_main_v29, val_main_v30, val_main_v0, val_main_cst, val_main_cst_0, val_main_cst_1]
  rfl

/-- The projection, at any of its columns. -/
theorem row_v31 (b : Fin 128) (c : Fin 7168) :
    val_main_v31 (F := Ideal) x0 x3 x4 (ix3 b 0 c) = lin (rms (sx x0 b) (spar x3 x4 x5 x6 x7 x8 x9 x10 x11 x12 x13 x14 x15 x16 x17 x18).preG) (spar x3 x4 x5 x6 x7 x8 x9 x10 x11 x12 x13 x14 x15 x16 x17 x18).wIn c := by
  pointwise [val_main_v31, val_main_v1]
  exact lin_congr (w := fun k d => x4 (ix3 0 k d)) (fun k => row_v30 x0 x3 x4 x5 x6 x7 x8 x9 x10 x11 x12 x13 x14 x15 x16 x17 x18 b k) (fun _ _ => rfl) c

/-- A part of the projection: its columns from 0 on. -/
theorem row_v32 (b : Fin 128) (d : Fin 1024) :
    val_main_v32 (F := Ideal) x0 x3 x4 (ix3 b 0 d) = (spar x3 x4 x5 x6 x7 x8 x9 x10 x11 x12 x13 x14 x15 x16 x17 x18).part 0 (by norm_num) (sx x0 b) d := by
  have h : val_main_v32 (F := Ideal) x0 x3 x4 (ix3 b 0 d) = val_main_v31 (F := Ideal) x0 x3 x4 (ix3 b 0 ⟨0 + d.val, by omega⟩) := by
    pointwise [val_main_v32]
  exact h.trans (row_v31 x0 x3 x4 x5 x6 x7 x8 x9 x10 x11 x12 x13 x14 x15 x16 x17 x18 b _)

/-- A part of the projection: its columns from 1024 on. -/
theorem row_v33 (b : Fin 128) (d : Fin 1024) :
    val_main_v33 (F := Ideal) x0 x3 x4 (ix3 b 0 d) = (spar x3 x4 x5 x6 x7 x8 x9 x10 x11 x12 x13 x14 x15 x16 x17 x18).part 1024 (by norm_num) (sx x0 b) d := by
  have h : val_main_v33 (F := Ideal) x0 x3 x4 (ix3 b 0 d) = val_main_v31 (F := Ideal) x0 x3 x4 (ix3 b 0 ⟨1024 + d.val, by omega⟩) := by
    pointwise [val_main_v33]
  exact h.trans (row_v31 x0 x3 x4 x5 x6 x7 x8 x9 x10 x11 x12 x13 x14 x15 x16 x17 x18 b _)

/-- A part of the projection: its columns from 2048 on. -/
theorem row_v34 (b : Fin 128) (d : Fin 1024) :
    val_main_v34 (F := Ideal) x0 x3 x4 (ix3 b 0 d) = (spar x3 x4 x5 x6 x7 x8 x9 x10 x11 x12 x13 x14 x15 x16 x17 x18).part 2048 (by norm_num) (sx x0 b) d := by
  have h : val_main_v34 (F := Ideal) x0 x3 x4 (ix3 b 0 d) = val_main_v31 (F := Ideal) x0 x3 x4 (ix3 b 0 ⟨2048 + d.val, by omega⟩) := by
    pointwise [val_main_v34]
  exact h.trans (row_v31 x0 x3 x4 x5 x6 x7 x8 x9 x10 x11 x12 x13 x14 x15 x16 x17 x18 b _)

/-- A part of the projection: its columns from 3072 on. -/
theorem row_v35 (b : Fin 128) (d : Fin 1024) :
    val_main_v35 (F := Ideal) x0 x3 x4 (ix3 b 0 d) = (spar x3 x4 x5 x6 x7 x8 x9 x10 x11 x12 x13 x14 x15 x16 x17 x18).part 3072 (by norm_num) (sx x0 b) d := by
  have h : val_main_v35 (F := Ideal) x0 x3 x4 (ix3 b 0 d) = val_main_v31 (F := Ideal) x0 x3 x4 (ix3 b 0 ⟨3072 + d.val, by omega⟩) := by
    pointwise [val_main_v35]
  exact h.trans (row_v31 x0 x3 x4 x5 x6 x7 x8 x9 x10 x11 x12 x13 x14 x15 x16 x17 x18 b _)

/-- A part of the projection: its columns from 4096 on. -/
theorem row_v36 (b : Fin 128) (d : Fin 1024) :
    val_main_v36 (F := Ideal) x0 x3 x4 (ix3 b 0 d) = (spar x3 x4 x5 x6 x7 x8 x9 x10 x11 x12 x13 x14 x15 x16 x17 x18).part 4096 (by norm_num) (sx x0 b) d := by
  have h : val_main_v36 (F := Ideal) x0 x3 x4 (ix3 b 0 d) = val_main_v31 (F := Ideal) x0 x3 x4 (ix3 b 0 ⟨4096 + d.val, by omega⟩) := by
    pointwise [val_main_v36]
  exact h.trans (row_v31 x0 x3 x4 x5 x6 x7 x8 x9 x10 x11 x12 x13 x14 x15 x16 x17 x18 b _)

/-- A part of the projection: its columns from 5120 on. -/
theorem row_v37 (b : Fin 128) (d : Fin 1024) :
    val_main_v37 (F := Ideal) x0 x3 x4 (ix3 b 0 d) = (spar x3 x4 x5 x6 x7 x8 x9 x10 x11 x12 x13 x14 x15 x16 x17 x18).part 5120 (by norm_num) (sx x0 b) d := by
  have h : val_main_v37 (F := Ideal) x0 x3 x4 (ix3 b 0 d) = val_main_v31 (F := Ideal) x0 x3 x4 (ix3 b 0 ⟨5120 + d.val, by omega⟩) := by
    pointwise [val_main_v37]
  exact h.trans (row_v31 x0 x3 x4 x5 x6 x7 x8 x9 x10 x11 x12 x13 x14 x15 x16 x17 x18 b _)

/-- A part of the projection: its columns from 6144 on. -/
theorem row_v38 (b : Fin 128) (d : Fin 1024) :
    val_main_v38 (F := Ideal) x0 x3 x4 (ix3 b 0 d) = (spar x3 x4 x5 x6 x7 x8 x9 x10 x11 x12 x13 x14 x15 x16 x17 x18).part 6144 (by norm_num) (sx x0 b) d := by
  have h : val_main_v38 (F := Ideal) x0 x3 x4 (ix3 b 0 d) = val_main_v31 (F := Ideal) x0 x3 x4 (ix3 b 0 ⟨6144 + d.val, by omega⟩) := by
    pointwise [val_main_v38]
  exact h.trans (row_v31 x0 x3 x4 x5 x6 x7 x8 x9 x10 x11 x12 x13 x14 x15 x16 x17 x18 b _)

/-- The activated part from column 0 on. -/
theorem row_v51 (b : Fin 128) (d : Fin 1024) :
    val_main_v51 (F := Ideal) x0 x3 x4 (ix3 b 0 d) = gelu ((spar x3 x4 x5 x6 x7 x8 x9 x10 x11 x12 x13 x14 x15 x16 x17 x18).part 0 (by norm_num) (sx x0 b) d) := by
  rw [← row_v32]
  generalize h : val_main_v32 (F := Ideal) x0 x3 x4 (ix3 b 0 d) = e
  pointwise [val_main_v39, val_main_v40, val_main_v41, val_main_v42, val_main_v43, val_main_v44, val_main_v45, val_main_v46, val_main_v47, val_main_v48, val_main_v49, val_main_v50, val_main_v51, val_main_cst_2, val_main_cst_3, val_main_cst_4, val_main_cst_5]
  rw [h]
  rfl

/-- The activated part from column 1024 on. -/
theorem row_v64 (b : Fin 128) (d : Fin 1024) :
    val_main_v64 (F := Ideal) x0 x3 x4 (ix3 b 0 d) = gelu ((spar x3 x4 x5 x6 x7 x8 x9 x10 x11 x12 x13 x14 x15 x16 x17 x18).part 1024 (by norm_num) (sx x0 b) d) := by
  rw [← row_v33]
  generalize h : val_main_v33 (F := Ideal) x0 x3 x4 (ix3 b 0 d) = e
  pointwise [val_main_v52, val_main_v53, val_main_v54, val_main_v55, val_main_v56, val_main_v57, val_main_v58, val_main_v59, val_main_v60, val_main_v61, val_main_v62, val_main_v63, val_main_v64, val_main_cst_6, val_main_cst_7, val_main_cst_8, val_main_cst_9]
  rw [h]
  rfl

/-- The value rows. -/
theorem row_v86 (b : Fin 128) (d : Fin 1024) :
    val_main_v86 (F := Ideal) x0 x3 x4 x5 x6 (ix3 b 0 d) = (spar x3 x4 x5 x6 x7 x8 x9 x10 x11 x12 x13 x14 x15 x16 x17 x18).vn (sx x0 b) d := by
  pointwise [val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v2, val_main_v3, val_main_cst_10, val_main_cst_11, val_main_cst_12, val_main_cst_13, val_main_cst_14]
  exact lnorm_congr (g := fun d => x5 (ix2 0 d)) (b := fun d => x6 (ix2 0 d)) (fun k => row_v64 x0 x3 x4 x5 x6 x7 x8 x9 x10 x11 x12 x13 x14 x15 x16 x17 x18 b k) (fun _ => rfl) (fun _ => rfl) d

/-- The part from column 2048 on times its logistic. -/
theorem row_v99 (b : Fin 128) (d : Fin 1024) :
    val_main_v99 (F := Ideal) x0 x3 x4 (ix3 b 0 d) = silu ((spar x3 x4 x5 x6 x7 x8 x9 x10 x11 x12 x13 x14 x15 x16 x17 x18).part 2048 (by norm_num) (sx x0 b) d) := by
  rw [← row_v34]
  generalize h : val_main_v34 (F := Ideal) x0 x3 x4 (ix3 b 0 d) = e
  pointwise [val_main_v99, val_main_call2_v0, val_main_call2_v1, val_main_call2_v2, val_main_call2_v3, val_main_call2_v4, val_main_call2_v5, val_main_call2_cst, val_main_call2_cst_0]
  rw [h]
  rfl

/-- The part from column 4096 on times its logistic. -/
theorem row_v173 (b : Fin 128) (d : Fin 1024) :
    val_main_v173 (F := Ideal) x0 x3 x4 (ix3 b 0 d) = silu ((spar x3 x4 x5 x6 x7 x8 x9 x10 x11 x12 x13 x14 x15 x16 x17 x18).part 4096 (by norm_num) (sx x0 b) d) := by
  rw [← row_v36]
  generalize h : val_main_v36 (F := Ideal) x0 x3 x4 (ix3 b 0 d) = e
  pointwise [val_main_v173, val_main_call4_v0, val_main_call4_v1, val_main_call4_v2, val_main_call4_v3, val_main_call4_v4, val_main_call4_v5, val_main_call4_cst, val_main_call4_cst_0]
  rw [h]
  rfl

/-- The logistic of the part from column 5120 on. -/
theorem row_v180 (b : Fin 128) (d : Fin 1024) :
    val_main_v180 (F := Ideal) x0 x3 x4 (ix3 b 0 d) = Layer.sig ((spar x3 x4 x5 x6 x7 x8 x9 x10 x11 x12 x13 x14 x15 x16 x17 x18).part 5120 (by norm_num) (sx x0 b) d) := by
  rw [← row_v37]
  generalize h : val_main_v37 (F := Ideal) x0 x3 x4 (ix3 b 0 d) = e
  pointwise [val_main_v175, val_main_v176, val_main_v177, val_main_v178, val_main_v179, val_main_v180, val_main_cst_25, val_main_cst_26]
  rw [h]
  rfl

/-- The logistic of the part from column 6144 on. -/
theorem row_v188 (b : Fin 128) (d : Fin 1024) :
    val_main_v188 (F := Ideal) x0 x3 x4 (ix3 b 0 d) = Layer.sig ((spar x3 x4 x5 x6 x7 x8 x9 x10 x11 x12 x13 x14 x15 x16 x17 x18).part 6144 (by norm_num) (sx x0 b) d) := by
  rw [← row_v38]
  generalize h : val_main_v38 (F := Ideal) x0 x3 x4 (ix3 b 0 d) = e
  pointwise [val_main_v183, val_main_v184, val_main_v185, val_main_v186, val_main_v187, val_main_v188, val_main_cst_27, val_main_cst_28]
  rw [h]
  rfl

end Cert.SampleReferenceIdeal.Read

end
-- ==== Proof.StepPool.lean ====
/-
  The step's reference: its pooling read as row functions of the layer.
-/
module

public import proofs.«01_k».proof.Proof.StepRows
public import proofs.«01_k».proof.Proof.Cumsum

@[expose] public section

set_option maxRecDepth 16384
set_option maxHeartbeats 1000000

noncomputable section

namespace Cert.SampleReferenceIdeal.Read

open Cert.SampleReferenceIdeal Cert.SampleReferenceIdeal.Gen Idealize.ShloMosaic Idealize.ShloMosaic.TcCoe Idealize.ShloMosaic.Tactic Idealize.SL.Sem Cert.Layer
open scoped BigOperators

/-- The count of a window as the reference writes it. -/
theorem cnt_read (w : BitVec 32) : FloatOps.sitofp (F := Ideal) .f32 (IntOp.minsi (IntOp.addi (IntOp.addi 16384#32 0#32) 1#32) w) = cnt 16384#32 w := rfl

variable (x0 : (⟨S128x1x1024, .f32⟩ : BufTy).Contents (Elt Ideal)) (x1 : (⟨S1x128x15x1024, .f32⟩ : BufTy).Contents (Elt Ideal)) (x2 : (⟨S1x128x1x256, .f32⟩ : BufTy).Contents (Elt Ideal)) (x3 : (⟨S1x1024, .f32⟩ : BufTy).Contents (Elt Ideal)) (x4 : (⟨S1x1024x7168, .f32⟩ : BufTy).Contents (Elt Ideal)) (x5 : (⟨S1x1024, .f32⟩ : BufTy).Contents (Elt Ideal)) (x6 : (⟨S1x1024, .f32⟩ : BufTy).Contents (Elt Ideal)) (x7 : (⟨S1x8x128x128, .f32⟩ : BufTy).Contents (Elt Ideal)) (x8 : (⟨S1x8x128, .f32⟩ : BufTy).Contents (Elt Ideal)) (x9 : (⟨S1x4x256x256, .f32⟩ : BufTy).Contents (Elt Ideal)) (x10 : (⟨S1x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024x1024, .f32⟩ : BufTy).Contents (Elt Ideal)) (x14 : (⟨S1x1024, .f32⟩ : BufTy).Contents (Elt Ideal)) (x15 : (⟨S1x256x1024, .f32⟩ : BufTy).Contents (Elt Ideal)) (x16 : (⟨S1x1024x1024, .f32⟩ : BufTy).Contents (Elt Ideal)) (x17 : (⟨S1x1024, .f32⟩ : BufTy).Contents (Elt Ideal)) (x18 : (⟨S1x1024, .f32⟩ : BufTy).Contents (Elt Ideal))

/-- The kept pooling inputs and the step's own. -/
theorem row_v101 (b : Fin 128) (i : Fin 16) (d : Fin 1024) :
    val_main_v101 (F := Ideal) x0 x1 x3 x4 (ix3 b i d) = stepE (spar x3 x4 x5 x6 x7 x8 x9 x10 x11 x12 x13 x14 x15 x16 x17 x18) (sx x0 b) (sprev x1 b) (i.val + 1) d := by
  have e := row_v35 x0 x3 x4 x5 x6 x7 x8 x9 x10 x11 x12 x13 x14 x15 x16 x17 x18 b d
  pointwise [val_main_v101, val_main_v17]
  by_cases h : i.val < 15
  · rw [stepE_prev _ _ _ ⟨i.val, h⟩ rfl, dif_pos h]
    rfl
  · rw [show i.val + 1 = 16 by omega, stepE_row, dif_neg h]
    exact (congrArg (fun q => val_main_v35 (F := Ideal) x0 x3 x4 (ix3 b q d)) (Subsingleton.elim _ _)).trans e

/-- Their running sum. -/
theorem row_v104 (b : Fin 128) (i : Fin 16) (d : Fin 1024) :
    val_main_v104 (F := Ideal) x0 x1 x3 x4 (ix3 b i d) = ∑ j ∈ Finset.range (i.val + 1), stepE (spar x3 x4 x5 x6 x7 x8 x9 x10 x11 x12 x13 x14 x15 x16 x17 x18) (sx x0 b) (sprev x1 b) (j + 1) d := by
  have h0 : val_main_call3_call0_v0 (F := Ideal) (Shape.Idx.first h_S_) = 0 := by
    rw [val_main_call3_call0_v0_apply, val_main_call3_call0_cst_apply]
    exact Ideal.ofBits_zero_f32
  unfold val_main_v104 Host.reduceWindowAdd
  rw [Ideal.hostReduceWindowAdd_def, h0]
  exact cumsum_rows rfl _ _ (fun j => stepE (spar x3 x4 x5 x6 x7 x8 x9 x10 x11 x12 x13 x14 x15 x16 x17 x18) (sx x0 b) (sprev x1 b) (j + 1) d) b d (fun i => row_v101 x0 x1 x3 x4 x5 x6 x7 x8 x9 x10 x11 x12 x13 x14 x15 x16 x17 x18 b i d) i

/-- The running sum under one row of zeros. -/
theorem row_v105 (b : Fin 128) (i : Fin 17) (d : Fin 1024) :
    val_main_v105 (F := Ideal) x0 x1 x3 x4 (ix3 b i d) = ∑ j ∈ Finset.range i.val, stepE (spar x3 x4 x5 x6 x7 x8 x9 x10 x11 x12 x13 x14 x15 x16 x17 x18) (sx x0 b) (sprev x1 b) (j + 1) d := by
  pointwise [val_main_v105, val_main_v103, val_main_cst_15]
  by_cases h : i.val < 1
  · have h0 : i.val = 0 := by omega
    rw [dif_pos h, show Finset.range i.val = ∅ by rw [h0]; rfl, Finset.sum_empty]
  · have e := row_v104 x0 x1 x3 x4 x5 x6 x7 x8 x9 x10 x11 x12 x13 x14 x15 x16 x17 x18 b ⟨i.val - 1, by omega⟩ d
    rw [show i.val - 1 + 1 = i.val by omega] at e
    rw [dif_neg h]
    exact e

/-- The rows that a running sum subtracts are finite. -/
def KeptReal (x1 : (⟨S1x128x15x1024, .f32⟩ : BufTy).Contents (Elt Ideal)) : Prop :=
  ∀ (b : Fin 128) (r : Fin 15) (d : Fin 1024), r.val + wid d < 16 → IsReal (x1 (ix4 0 b r d))

section
variable (hK : KeptReal x1)
include hK

/-- The mean of 2 rows less the row, in the columns of group 0. -/
theorem row_v121 (b : Fin 128) (e : Fin 256) :
    val_main_v121 (F := Ideal) x0 x1 x3 x4 (ix3 b 0 e) = stepPooled (spar x3 x4 x5 x6 x7 x8 x9 x10 x11 x12 x13 x14 x15 x16 x17 x18) (sx x0 b) (sprev x1 b) ⟨e.val, by omega⟩ := by
  have h : val_main_v121 (F := Ideal) x0 x1 x3 x4 (ix3 b 0 e)
      = Ideal.div (val_main_v105 (F := Ideal) x0 x1 x3 x4 (ix3 b 16 ⟨e.val, by omega⟩) - val_main_v105 (F := Ideal) x0 x1 x3 x4 (ix3 b 14 ⟨e.val, by omega⟩))
          (cnt 16384#32 2#32) - val_main_v35 (F := Ideal) x0 x3 x4 (ix3 b 0 ⟨e.val, by omega⟩) := by
    pointwise [val_main_v109, val_main_v110, val_main_v111, val_main_v112, val_main_v113, val_main_v114, val_main_v115, val_main_v116, val_main_v117, val_main_v118, val_main_v119, val_main_v120, val_main_v121, val_main_v106, val_main_v107, val_main_v108, val_main_c_16, val_main_c_17, val_main_c_18]
    rfl
  have hw : wid ⟨e.val, by omega⟩ = 2 := by
    unfold wid
    rw [show e.val / 256 = 0 by omega]
    norm_num
  rw [h, row_v105 x0 x1 x3 x4 x5 x6 x7 x8 x9 x10 x11 x12 x13 x14 x15 x16 x17 x18 b _ _, row_v105 x0 x1 x3 x4 x5 x6 x7 x8 x9 x10 x11 x12 x13 x14 x15 x16 x17 x18 b _ _, row_v35 x0 x3 x4 x5 x6 x7 x8 x9 x10 x11 x12 x13 x14 x15 x16 x17 x18 b _]
  unfold stepPooled pooled
  rw [hw, stepE_row]
  have hd := win_sub (stepE (spar x3 x4 x5 x6 x7 x8 x9 x10 x11 x12 x13 x14 x15 x16 x17 x18) (sx x0 b) (sprev x1 b)) ⟨e.val, by omega⟩ 14 2 (fun n hn => by
    rw [stepE_prev _ _ _ ⟨n, by omega⟩ rfl]
    exact hK b _ _ (by rw [hw]; show n + 2 < 16; omega))
  exact congrArg (fun t => Ideal.div t (cnt 16384#32 2#32) - _) hd

/-- The mean of 4 rows less the row, in the columns of group 1. -/
theorem row_v134 (b : Fin 128) (e : Fin 256) :
    val_main_v134 (F := Ideal) x0 x1 x3 x4 (ix3 b 0 e) = stepPooled (spar x3 x4 x5 x6 x7 x8 x9 x10 x11 x12 x13 x14 x15 x16 x17 x18) (sx x0 b) (sprev x1 b) ⟨256 + e.val, by omega⟩ := by
  have h : val_main_v134 (F := Ideal) x0 x1 x3 x4 (ix3 b 0 e)
      = Ideal.div (val_main_v105 (F := Ideal) x0 x1 x3 x4 (ix3 b 16 ⟨256 + e.val, by omega⟩) - val_main_v105 (F := Ideal) x0 x1 x3 x4 (ix3 b 12 ⟨256 + e.val, by omega⟩))
          (cnt 16384#32 4#32) - val_main_v35 (F := Ideal) x0 x3 x4 (ix3 b 0 ⟨256 + e.val, by omega⟩) := by
    pointwise [val_main_v122, val_main_v123, val_main_v124, val_main_v125, val_main_v126, val_main_v127, val_main_v128, val_main_v129, val_main_v130, val_main_v131, val_main_v132, val_main_v133, val_main_v134, val_main_v106, val_main_v107, val_main_v108, val_main_c_16, val_main_c_19, val_main_c_20]
    rfl
  have hw : wid ⟨256 + e.val, by omega⟩ = 4 := by
    unfold wid
    rw [show (256 + e.val) / 256 = 1 by omega]
    norm_num
  rw [h, row_v105 x0 x1 x3 x4 x5 x6 x7 x8 x9 x10 x11 x12 x13 x14 x15 x16 x17 x18 b _ _, row_v105 x0 x1 x3 x4 x5 x6 x7 x8 x9 x10 x11 x12 x13 x14 x15 x16 x17 x18 b _ _, row_v35 x0 x3 x4 x5 x6 x7 x8 x9 x10 x11 x12 x13 x14 x15 x16 x17 x18 b _]
  unfold stepPooled pooled
  rw [hw, stepE_row]
  have hd := win_sub (stepE (spar x3 x4 x5 x6 x7 x8 x9 x10 x11 x12 x13 x14 x15 x16 x17 x18) (sx x0 b) (sprev x1 b)) ⟨256 + e.val, by omega⟩ 12 4 (fun n hn => by
    rw [stepE_prev _ _ _ ⟨n, by omega⟩ rfl]
    exact hK b _ _ (by rw [hw]; show n + 4 < 16; omega))
  exact congrArg (fun t => Ideal.div t (cnt 16384#32 4#32) - _) hd

/-- The mean of 8 rows less the row, in the columns of group 2. -/
theorem row_v147 (b : Fin 128) (e : Fin 256) :
    val_main_v147 (F := Ideal) x0 x1 x3 x4 (ix3 b 0 e) = stepPooled (spar x3 x4 x5 x6 x7 x8 x9 x10 x11 x12 x13 x14 x15 x16 x17 x18) (sx x0 b) (sprev x1 b) ⟨512 + e.val, by omega⟩ := by
  have h : val_main_v147 (F := Ideal) x0 x1 x3 x4 (ix3 b 0 e)
      = Ideal.div (val_main_v105 (F := Ideal) x0 x1 x3 x4 (ix3 b 16 ⟨512 + e.val, by omega⟩) - val_main_v105 (F := Ideal) x0 x1 x3 x4 (ix3 b 8 ⟨512 + e.val, by omega⟩))
          (cnt 16384#32 8#32) - val_main_v35 (F := Ideal) x0 x3 x4 (ix3 b 0 ⟨512 + e.val, by omega⟩) := by
    pointwise [val_main_v135, val_main_v136, val_main_v137, val_main_v138, val_main_v139, val_main_v140, val_main_v141, val_main_v142, val_main_v143, val_main_v144, val_main_v145, val_main_v146, val_main_v147, val_main_v106, val_main_v107, val_main_v108, val_main_c_16, val_main_c_21, val_main_c_22]
    rfl
  have hw : wid ⟨512 + e.val, by omega⟩ = 8 := by
    unfold wid
    rw [show (512 + e.val) / 256 = 2 by omega]
    norm_num
  rw [h, row_v105 x0 x1 x3 x4 x5 x6 x7 x8 x9 x10 x11 x12 x13 x14 x15 x16 x17 x18 b _ _, row_v105 x0 x1 x3 x4 x5 x6 x7 x8 x9 x10 x11 x12 x13 x14 x15 x16 x17 x18 b _ _, row_v35 x0 x3 x4 x5 x6 x7 x8 x9 x10 x11 x12 x13 x14 x15 x16 x17 x18 b _]
  unfold stepPooled pooled
  rw [hw, stepE_row]
  have hd := win_sub (stepE (spar x3 x4 x5 x6 x7 x8 x9 x10 x11 x12 x13 x14 x15 x16 x17 x18) (sx x0 b) (sprev x1 b)) ⟨512 + e.val, by omega⟩ 8 8 (fun n hn => by
    rw [stepE_prev _ _ _ ⟨n, by omega⟩ rfl]
    exact hK b _ _ (by rw [hw]; show n + 8 < 16; omega))
  exact congrArg (fun t => Ideal.div t (cnt 16384#32 8#32) - _) hd

/-- The mean of 16 rows less the row, in the columns of group 3. -/
theorem row_v160 (b : Fin 128) (e : Fin 256) :
    val_main_v160 (F := Ideal) x0 x1 x3 x4 (ix3 b 0 e) = stepPooled (spar x3 x4 x5 x6 x7 x8 x9 x10 x11 x12 x13 x14 x15 x16 x17 x18) (sx x0 b) (sprev x1 b) ⟨768 + e.val, by omega⟩ := by
  have h : val_main_v160 (F := Ideal) x0 x1 x3 x4 (ix3 b 0 e)
      = Ideal.div (val_main_v105 (F := Ideal) x0 x1 x3 x4 (ix3 b 16 ⟨768 + e.val, by omega⟩) - val_main_v105 (F := Ideal) x0 x1 x3 x4 (ix3 b 0 ⟨768 + e.val, by omega⟩))
          (cnt 16384#32 16#32) - val_main_v35 (F := Ideal) x0 x3 x4 (ix3 b 0 ⟨768 + e.val, by omega⟩) := by
    pointwise [val_main_v148, val_main_v149, val_main_v150, val_main_v151, val_main_v152, val_main_v153, val_main_v154, val_main_v155, val_main_v156, val_main_v157, val_main_v158, val_main_v159, val_main_v160, val_main_v106, val_main_v107, val_main_v108, val_main_c_16, val_main_c_23, val_main_c_24]
    rfl
  have hw : wid ⟨768 + e.val, by omega⟩ = 16 := by
    unfold wid
    rw [show (768 + e.val) / 256 = 3 by omega]
    norm_num
  rw [h, row_v105 x0 x1 x3 x4 x5 x6 x7 x8 x9 x10 x11 x12 x13 x14 x15 x16 x17 x18 b _ _, row_v105 x0 x1 x3 x4 x5 x6 x7 x8 x9 x10 x11 x12 x13 x14 x15 x16 x17 x18 b _ _, row_v35 x0 x3 x4 x5 x6 x7 x8 x9 x10 x11 x12 x13 x14 x15 x16 x17 x18 b _]
  unfold stepPooled pooled
  rw [hw, stepE_row]
  have hd := win_sub (stepE (spar x3 x4 x5 x6 x7 x8 x9 x10 x11 x12 x13 x14 x15 x16 x17 x18) (sx x0 b) (sprev x1 b)) ⟨768 + e.val, by omega⟩ 0 16 (fun n hn => by
    rw [stepE_prev _ _ _ ⟨n, by omega⟩ rfl]
    exact hK b _ _ (by rw [hw]; show n + 16 < 16; omega))
  exact congrArg (fun t => Ideal.div t (cnt 16384#32 16#32) - _) hd

/-- The four groups side by side. -/
theorem row_v165 (b : Fin 128) (g : Fin 4) (e : Fin 256) :
    val_main_v165 (F := Ideal) x0 x1 x3 x4 (ix4 b 0 g e) = stepPooled (spar x3 x4 x5 x6 x7 x8 x9 x10 x11 x12 x13 x14 x15 x16 x17 x18) (sx x0 b) (sprev x1 b) ⟨256 * g.val + e.val, by omega⟩ := by
  have h : val_main_v165 (F := Ideal) x0 x1 x3 x4 (ix4 b 0 g e)
      = if g.val < 1 then val_main_v121 (F := Ideal) x0 x1 x3 x4 (ix3 b 0 e) else if g.val < 2 then val_main_v134 (F := Ideal) x0 x1 x3 x4 (ix3 b 0 e)
        else if g.val < 3 then val_main_v147 (F := Ideal) x0 x1 x3 x4 (ix3 b 0 e) else val_main_v160 (F := Ideal) x0 x1 x3 x4 (ix3 b 0 e) := by
    pointwise [val_main_v165, val_main_v161, val_main_v162, val_main_v163, val_main_v164]
    obtain ⟨g, hg⟩ := g
    rcases (by omega : g = 0 ∨ g = 1 ∨ g = 2 ∨ g = 3) with rfl | rfl | rfl | rfl <;> simp
  rw [h]
  obtain ⟨g, hg⟩ := g
  rcases (by omega : g = 0 ∨ g = 1 ∨ g = 2 ∨ g = 3) with rfl | rfl | rfl | rfl
  · rw [show (⟨256 * 0 + e.val, by omega⟩ : Fin 1024) = ⟨e.val, by omega⟩ from Fin.ext (by simp)]
    exact row_v121 x0 x1 x3 x4 x5 x6 x7 x8 x9 x10 x11 x12 x13 x14 x15 x16 x17 x18 hK b e
  · exact row_v134 x0 x1 x3 x4 x5 x6 x7 x8 x9 x10 x11 x12 x13 x14 x15 x16 x17 x18 hK b e
  · exact row_v147 x0 x1 x3 x4 x5 x6 x7 x8 x9 x10 x11 x12 x13 x14 x15 x16 x17 x18 hK b e
  · exact row_v160 x0 x1 x3 x4 x5 x6 x7 x8 x9 x10 x11 x12 x13 x14 x15 x16 x17 x18 hK b e

/-- The groups mixed and scaled. -/
theorem row_v171 (b : Fin 128) (d : Fin 1024) :
    val_main_v171 (F := Ideal) x0 x1 x3 x4 x9 x10 (ix3 b 0 d) = (spar x3 x4 x5 x6 x7 x8 x9 x10 x11 x12 x13 x14 x15 x16 x17 x18).pmix (stepPooled (spar x3 x4 x5 x6 x7 x8 x9 x10 x11 x12 x13 x14 x15 x16 x17 x18) (sx x0 b) (sprev x1 b)) d * (spar x3 x4 x5 x6 x7 x8 x9 x10 x11 x12 x13 x14 x15 x16 x17 x18).poolScale d := by
  have h : val_main_v171 (F := Ideal) x0 x1 x3 x4 x9 x10 (ix3 b 0 d)
      = (∑ k : Fin 256, x9 (ix4 0 ⟨d.val / 256, by omega⟩ k ⟨d.val % 256, by omega⟩) * val_main_v165 (F := Ideal) x0 x1 x3 x4 (ix4 b 0 ⟨d.val / 256, by omega⟩ k)) * x10 (ix2 0 d) := by
    pointwise [val_main_v166, val_main_v167, val_main_v168, val_main_v169, val_main_v170, val_main_v171, val_main_v6, val_main_v7]
  rw [h]
  refine congrArg₂ (· * ·) (Finset.sum_congr rfl fun k _ => ?_) rfl
  rw [row_v165 x0 x1 x3 x4 x5 x6 x7 x8 x9 x10 x11 x12 x13 x14 x15 x16 x17 x18 hK, mul_comm]
  rfl
end

end Cert.SampleReferenceIdeal.Read

end
-- ==== Proof.StepMix.lean ====
/-
  The step's reference: its spatial mix read as a row function of the layer.
-/
module

public import proofs.«01_k».proof.Proof.StepRows

@[expose] public section

set_option maxRecDepth 16384
set_option maxHeartbeats 1000000

noncomputable section

namespace Cert.SampleReferenceIdeal.Read

open Cert.SampleReferenceIdeal Cert.SampleReferenceIdeal.Gen Idealize.ShloMosaic Idealize.ShloMosaic.TcCoe Idealize.ShloMosaic.Tactic Idealize.SL.Sem Cert.Layer
open scoped BigOperators

/-- The first row of the diagonal in words. -/
theorem sge_first : ∀ t : Fin 128, IntOp.cmpi .sge (IntOp.addi 0#32 0#32) (BitVec.ofNat 32 t.val) = if t.val = 0 then 1#1 else 0#1 := by
  decide +kernel

variable (x0 : (⟨S128x1x1024, .f32⟩ : BufTy).Contents (Elt Ideal)) (x1 : (⟨S1x128x15x1024, .f32⟩ : BufTy).Contents (Elt Ideal)) (x2 : (⟨S1x128x1x256, .f32⟩ : BufTy).Contents (Elt Ideal)) (x3 : (⟨S1x1024, .f32⟩ : BufTy).Contents (Elt Ideal)) (x4 : (⟨S1x1024x7168, .f32⟩ : BufTy).Contents (Elt Ideal)) (x5 : (⟨S1x1024, .f32⟩ : BufTy).Contents (Elt Ideal)) (x6 : (⟨S1x1024, .f32⟩ : BufTy).Contents (Elt Ideal)) (x7 : (⟨S1x8x128x128, .f32⟩ : BufTy).Contents (Elt Ideal)) (x8 : (⟨S1x8x128, .f32⟩ : BufTy).Contents (Elt Ideal)) (x9 : (⟨S1x4x256x256, .f32⟩ : BufTy).Contents (Elt Ideal)) (x10 : (⟨S1x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024x1024, .f32⟩ : BufTy).Contents (Elt Ideal)) (x14 : (⟨S1x1024, .f32⟩ : BufTy).Contents (Elt Ideal)) (x15 : (⟨S1x256x1024, .f32⟩ : BufTy).Contents (Elt Ideal)) (x16 : (⟨S1x1024x1024, .f32⟩ : BufTy).Contents (Elt Ideal)) (x17 : (⟨S1x1024, .f32⟩ : BufTy).Contents (Elt Ideal)) (x18 : (⟨S1x1024, .f32⟩ : BufTy).Contents (Elt Ideal))

/-- The first row of the spatial weights below the diagonal. -/
theorem row_v89 (h : Fin 8) (t : Fin 128) :
    val_main_v89 (F := Ideal) x7 (ix3 h 0 t) = if t.val = 0 then (spar x3 x4 x5 x6 x7 x8 x9 x10 x11 x12 x13 x14 x15 x16 x17 x18).wS h 0 0 else 0 := by
  pointwise [val_main_v89, val_main_v4, val_main_call1_v0, val_main_call1_v1, val_main_call1_v2, val_main_call1_v3, val_main_call1_v4, val_main_call1_v5, val_main_call1_v6, val_main_call1_c, val_main_call1_cst]
  first | rw [sge_first] | erw [sge_first]
  by_cases h' : t.val = 0
  · have ht : t = 0 := Fin.ext h'
    subst ht
    rfl
  · rw [if_neg h', if_neg h']
    rfl

/-- The value row under a chunk's fill. -/
theorem row_v87 (b : Fin 128) (d : Fin 1024) :
    val_main_v87 (F := Ideal) x0 x3 x4 x5 x6 (ix3 b 0 d) = (spar x3 x4 x5 x6 x7 x8 x9 x10 x11 x12 x13 x14 x15 x16 x17 x18).vn (sx x0 b) d := by
  have h : val_main_v87 (F := Ideal) x0 x3 x4 x5 x6 (ix3 b 0 d) = val_main_v86 (F := Ideal) x0 x3 x4 x5 x6 (ix3 b 0 d) := by
    pointwise [val_main_v87]
  exact h.trans (row_v86 x0 x3 x4 x5 x6 x7 x8 x9 x10 x11 x12 x13 x14 x15 x16 x17 x18 b d)

/-- The spatial mix of the step's row, first of its chunk. -/
theorem row_v97 (b : Fin 128) (d : Fin 1024) :
    val_main_v97 (F := Ideal) x0 x3 x4 x5 x6 x7 x8 (ix3 b 0 d) = (stepMix (spar x3 x4 x5 x6 x7 x8 x9 x10 x11 x12 x13 x14 x15 x16 x17 x18) (sx x0 b)) d := by
  have h : val_main_v97 (F := Ideal) x0 x3 x4 x5 x6 x7 x8 (ix3 b 0 d)
      = (∑ t : Fin 128, val_main_v87 (F := Ideal) x0 x3 x4 x5 x6 (ix3 b t d) * val_main_v89 (F := Ideal) x7 (ix3 ⟨d.val / 128, by omega⟩ 0 t))
        + x8 (ix3 0 ⟨d.val / 128, by omega⟩ 0) := by
    pointwise [val_main_v90, val_main_v91, val_main_v92, val_main_v93, val_main_v94, val_main_v95, val_main_v96, val_main_v97, val_main_v88, val_main_v5]
  rw [h, Finset.sum_eq_single (0 : Fin 128)]
  · rw [row_v87 x0 x3 x4 x5 x6 x7 x8 x9 x10 x11 x12 x13 x14 x15 x16 x17 x18, row_v89 x3 x4 x5 x6 x7 x8 x9 x10 x11 x12 x13 x14 x15 x16 x17 x18, if_pos (show (0 : Fin 128).val = 0 from rfl)]
    rfl
  · intro t _ ht
    rw [row_v89 x3 x4 x5 x6 x7 x8 x9 x10 x11 x12 x13 x14 x15 x16 x17 x18, if_neg (show ¬ t.val = 0 from fun h => ht (Fin.ext h)), mul_zero]
  · intro h
    exact absurd (Finset.mem_univ _) h

end Cert.SampleReferenceIdeal.Read

end
-- ==== Proof.StepOut.lean ====
/-
  The step's reference: its results read as row functions of the layer.
-/
module

public import proofs.«01_k».proof.Proof.StepPool
public import proofs.«01_k».proof.Proof.StepMix

@[expose] public section

set_option maxRecDepth 16384
set_option maxHeartbeats 1000000

noncomputable section

namespace Cert.SampleReferenceIdeal.Read

open Cert.SampleReferenceIdeal Cert.SampleReferenceIdeal.Gen Idealize.ShloMosaic Idealize.ShloMosaic.TcCoe Idealize.ShloMosaic.Tactic Idealize.SL.Sem Cert.Layer
open scoped BigOperators

variable (x0 : (⟨S128x1x1024, .f32⟩ : BufTy).Contents (Elt Ideal)) (x1 : (⟨S1x128x15x1024, .f32⟩ : BufTy).Contents (Elt Ideal)) (x2 : (⟨S1x128x1x256, .f32⟩ : BufTy).Contents (Elt Ideal)) (x3 : (⟨S1x1024, .f32⟩ : BufTy).Contents (Elt Ideal)) (x4 : (⟨S1x1024x7168, .f32⟩ : BufTy).Contents (Elt Ideal)) (x5 : (⟨S1x1024, .f32⟩ : BufTy).Contents (Elt Ideal)) (x6 : (⟨S1x1024, .f32⟩ : BufTy).Contents (Elt Ideal)) (x7 : (⟨S1x8x128x128, .f32⟩ : BufTy).Contents (Elt Ideal)) (x8 : (⟨S1x8x128, .f32⟩ : BufTy).Contents (Elt Ideal)) (x9 : (⟨S1x4x256x256, .f32⟩ : BufTy).Contents (Elt Ideal)) (x10 : (⟨S1x1024, .f32⟩ : BufTy).Contents (Elt Ideal)) (x11 : (⟨S1x1024x1024, .f32⟩ : BufTy).Contents (Elt Ideal)) (x12 : (⟨S1x1024x1024, .f32⟩ : BufTy).Contents (Elt Ideal)) (x13 : (⟨S1x1024x1024, .f32⟩ : BufTy).Contents (Elt Ideal)) (x14 : (⟨S1x1024, .f32⟩ : BufTy).Contents (Elt Ideal)) (x15 : (⟨S1x256x1024, .f32⟩ : BufTy).Contents (Elt Ideal)) (x16 : (⟨S1x1024x1024, .f32⟩ : BufTy).Contents (Elt Ideal)) (x17 : (⟨S1x1024, .f32⟩ : BufTy).Contents (Elt Ideal)) (x18 : (⟨S1x1024, .f32⟩ : BufTy).Contents (Elt Ideal))

/-- The first branch. -/
theorem row_v100 (b : Fin 128) (d : Fin 1024) :
    val_main_v100 (F := Ideal) x0 x3 x4 x5 x6 x7 x8 (ix3 b 0 d) = (spar x3 x4 x5 x6 x7 x8 x9 x10 x11 x12 x13 x14 x15 x16 x17 x18).ya (sx x0 b) (stepMix (spar x3 x4 x5 x6 x7 x8 x9 x10 x11 x12 x13 x14 x15 x16 x17 x18) (sx x0 b)) d := by
  have h : val_main_v100 (F := Ideal) x0 x3 x4 x5 x6 x7 x8 (ix3 b 0 d) = val_main_v51 (F := Ideal) x0 x3 x4 (ix3 b 0 d) * val_main_v97 (F := Ideal) x0 x3 x4 x5 x6 x7 x8 (ix3 b 0 d) * val_main_v99 (F := Ideal) x0 x3 x4 (ix3 b 0 d) := by
    pointwise [val_main_v98, val_main_v100]
  rw [h, row_v51 x0 x3 x4 x5 x6 x7 x8 x9 x10 x11 x12 x13 x14 x15 x16 x17 x18, row_v97 x0 x3 x4 x5 x6 x7 x8 x9 x10 x11 x12 x13 x14 x15 x16 x17 x18, row_v99 x0 x3 x4 x5 x6 x7 x8 x9 x10 x11 x12 x13 x14 x15 x16 x17 x18]
  rfl

section
variable (hK : KeptReal x1)
include hK

/-- The second branch. -/
theorem row_v174 (b : Fin 128) (d : Fin 1024) :
    val_main_v174 (F := Ideal) x0 x1 x3 x4 x9 x10 (ix3 b 0 d) = (spar x3 x4 x5 x6 x7 x8 x9 x10 x11 x12 x13 x14 x15 x16 x17 x18).yb (sx x0 b) (stepPooled (spar x3 x4 x5 x6 x7 x8 x9 x10 x11 x12 x13 x14 x15 x16 x17 x18) (sx x0 b) (sprev x1 b)) d := by
  have h : val_main_v174 (F := Ideal) x0 x1 x3 x4 x9 x10 (ix3 b 0 d) = val_main_v171 (F := Ideal) x0 x1 x3 x4 x9 x10 (ix3 b 0 d) * val_main_v173 (F := Ideal) x0 x3 x4 (ix3 b 0 d) := by
    pointwise [val_main_v174]
  rw [h, row_v171 x0 x1 x3 x4 x5 x6 x7 x8 x9 x10 x11 x12 x13 x14 x15 x16 x17 x18 hK, row_v173 x0 x3 x4 x5 x6 x7 x8 x9 x10 x11 x12 x13 x14 x15 x16 x17 x18]
  rfl

/-- The branches merged. -/
theorem row_v191 (b : Fin 128) (d : Fin 1024) :
    val_main_v191 (F := Ideal) x0 x1 x3 x4 x5 x6 x7 x8 x9 x10 x11 x12 (ix3 b 0 d) = (spar x3 x4 x5 x6 x7 x8 x9 x10 x11 x12 x13 x14 x15 x16 x17 x18).merged (sx x0 b) (stepMix (spar x3 x4 x5 x6 x7 x8 x9 x10 x11 x12 x13 x14 x15 x16 x17 x18) (sx x0 b)) (stepPooled (spar x3 x4 x5 x6 x7 x8 x9 x10 x11 x12 x13 x14 x15 x16 x17 x18) (sx x0 b) (sprev x1 b)) d := by
  have h : val_main_v191 (F := Ideal) x0 x1 x3 x4 x5 x6 x7 x8 x9 x10 x11 x12 (ix3 b 0 d)
      = val_main_v180 (F := Ideal) x0 x3 x4 (ix3 b 0 d) * lin (fun k => val_main_v100 (F := Ideal) x0 x3 x4 x5 x6 x7 x8 (ix3 b 0 k)) (fun k d => x11 (ix3 0 k d)) d
        + val_main_v188 (F := Ideal) x0 x3 x4 (ix3 b 0 d) * lin (fun k => val_main_v174 (F := Ideal) x0 x1 x3 x4 x9 x10 (ix3 b 0 k)) (fun k d => x12 (ix3 0 k d)) d := by
    unfold lin
    pointwise [val_main_v191, val_main_v182, val_main_v190, val_main_v181, val_main_v189, val_main_v8, val_main_v9]
  rw [h, row_v180 x0 x3 x4 x5 x6 x7 x8 x9 x10 x11 x12 x13 x14 x15 x16 x17 x18, row_v188 x0 x3 x4 x5 x6 x7 x8 x9 x10 x11 x12 x13 x14 x15 x16 x17 x18]
  exact congrArg₂ (· + ·) (congrArg₂ (· * ·) rfl (lin_congr (fun k => row_v100 x0 x3 x4 x5 x6 x7 x8 x9 x10 x11 x12 x13 x14 x15 x16 x17 x18 b k) (fun _ _ => rfl) d))
    (congrArg₂ (· * ·) rfl (lin_congr (fun k => row_v174 x0 x1 x3 x4 x5 x6 x7 x8 x9 x10 x11 x12 x13 x14 x15 x16 x17 x18 hK b k) (fun _ _ => rfl) d))

/-- The row after the output projection, its norm and the residual sum. -/
theorem row_v206 (b : Fin 128) (d : Fin 1024) :
    val_main_v206 (F := Ideal) x0 x1 x3 x4 x5 x6 x7 x8 x9 x10 x11 x12 x13 x14 (ix3 b 0 d) = (spar x3 x4 x5 x6 x7 x8 x9 x10 x11 x12 x13 x14 x15 x16 x17 x18).hid (sx x0 b) (stepMix (spar x3 x4 x5 x6 x7 x8 x9 x10 x11 x12 x13 x14 x15 x16 x17 x18) (sx x0 b)) (stepPooled (spar x3 x4 x5 x6 x7 x8 x9 x10 x11 x12 x13 x14 x15 x16 x17 x18) (sx x0 b) (sprev x1 b)) d := by
  have h0 (d : Fin 1024) : val_main_v192 (F := Ideal) x0 x1 x3 x4 x5 x6 x7 x8 x9 x10 x11 x12 x13 (ix3 b 0 d) = lin (fun k => val_main_v191 (F := Ideal) x0 x1 x3 x4 x5 x6 x7 x8 x9 x10 x11 x12 (ix3 b 0 k)) (fun k d => x13 (ix3 0 k d)) d := by
    unfold lin
    pointwise [val_main_v192, val_main_v10]
  have h : val_main_v206 (F := Ideal) x0 x1 x3 x4 x5 x6 x7 x8 x9 x10 x11 x12 x13 x14 (ix3 b 0 d) = x0 (ix3 b 0 d) + rms (fun k => val_main_v192 (F := Ideal) x0 x1 x3 x4 x5 x6 x7 x8 x9 x10 x11 x12 x13 (ix3 b 0 k)) (fun d => x14 (ix2 0 d)) d := by
    unfold rms kN kEps
    pointwise [val_main_v193, val_main_v194, val_main_v195, val_main_v196, val_main_v197, val_main_v198, val_main_v199, val_main_v200, val_main_v201, val_main_v202, val_main_v203, val_main_v204, val_main_v205, val_main_v206, val_main_v11, val_main_cst_29, val_main_cst_30, val_main_cst_31]
  rw [h]
  exact congrArg₂ (· + ·) rfl (rms_congr (fun k => (h0 k).trans (lin_congr (fun k => row_v191 x0 x1 x3 x4 x5 x6 x7 x8 x9 x10 x11 x12 x13 x14 x15 x16 x17 x18 hK b k) (fun _ _ => rfl) k)) (fun _ => rfl) d)

/-- The gated embedding. -/
theorem row_v228 (b : Fin 128) (d : Fin 1024) :
    val_main_v228 (F := Ideal) x0 x1 x2 x3 x4 x5 x6 x7 x8 x9 x10 x11 x12 x13 x14 x15 x16 x17 (ix3 b 0 d) = (spar x3 x4 x5 x6 x7 x8 x9 x10 x11 x12 x13 x14 x15 x16 x17 x18).emb ((spar x3 x4 x5 x6 x7 x8 x9 x10 x11 x12 x13 x14 x15 x16 x17 x18).hid (sx x0 b) (stepMix (spar x3 x4 x5 x6 x7 x8 x9 x10 x11 x12 x13 x14 x15 x16 x17 x18) (sx x0 b)) (stepPooled (spar x3 x4 x5 x6 x7 x8 x9 x10 x11 x12 x13 x14 x15 x16 x17 x18) (sx x0 b) (sprev x1 b))) (sp x2 b) d := by
  have h0 (d : Fin 1024) : val_main_v220 (F := Ideal) x0 x1 x3 x4 x5 x6 x7 x8 x9 x10 x11 x12 x13 x14 x17 (ix3 b 0 d) = rms (fun k => val_main_v206 (F := Ideal) x0 x1 x3 x4 x5 x6 x7 x8 x9 x10 x11 x12 x13 x14 (ix3 b 0 k)) (fun d => x17 (ix2 0 d)) d := by
    unfold rms kN kEps
    pointwise [val_main_v208, val_main_v209, val_main_v210, val_main_v211, val_main_v212, val_main_v213, val_main_v214, val_main_v215, val_main_v216, val_main_v217, val_main_v218, val_main_v219, val_main_v220, val_main_v14, val_main_cst_32, val_main_cst_33, val_main_cst_34]
  have h1 : val_main_v207 (F := Ideal) x2 x15 (ix3 b 0 d) = lin (sp x2 b) (fun k d => x15 (ix3 0 k d)) d := by
    unfold lin sp
    pointwise [val_main_v207, val_main_v12, val_main_v16]
  have h2 : val_main_v221 (F := Ideal) x0 x1 x3 x4 x5 x6 x7 x8 x9 x10 x11 x12 x13 x14 x16 x17 (ix3 b 0 d) = lin (fun k => val_main_v220 (F := Ideal) x0 x1 x3 x4 x5 x6 x7 x8 x9 x10 x11 x12 x13 x14 x17 (ix3 b 0 k)) (fun k d => x16 (ix3 0 k d)) d := by
    unfold lin
    pointwise [val_main_v221, val_main_v13]
  have h3 : val_main_v228 (F := Ideal) x0 x1 x2 x3 x4 x5 x6 x7 x8 x9 x10 x11 x12 x13 x14 x15 x16 x17 (ix3 b 0 d) = Layer.sig (val_main_v221 (F := Ideal) x0 x1 x3 x4 x5 x6 x7 x8 x9 x10 x11 x12 x13 x14 x16 x17 (ix3 b 0 d)) * val_main_v207 (F := Ideal) x2 x15 (ix3 b 0 d) := by
    generalize e0 : val_main_v221 (F := Ideal) x0 x1 x3 x4 x5 x6 x7 x8 x9 x10 x11 x12 x13 x14 x16 x17 (ix3 b 0 d) = u
    pointwise [val_main_v222, val_main_v223, val_main_v224, val_main_v225, val_main_v226, val_main_v227, val_main_v228, val_main_cst_35, val_main_cst_36]
    rw [e0]
    rfl
  rw [h3, h2, h1]
  exact congrArg₂ (· * ·) (congrArg Layer.sig (lin_congr (fun k => (h0 k).trans (rms_congr (fun k => row_v206 x0 x1 x3 x4 x5 x6 x7 x8 x9 x10 x11 x12 x13 x14 x15 x16 x17 x18 hK b k) (fun _ => rfl) k)) (fun _ _ => rfl) d)) rfl

/-- The first result. -/
theorem row_v243 (b : Fin 128) (d : Fin 1024) :
    val_main_v243 (F := Ideal) x0 x1 x2 x3 x4 x5 x6 x7 x8 x9 x10 x11 x12 x13 x14 x15 x16 x17 x18 (ix2 b d) = stepOut (spar x3 x4 x5 x6 x7 x8 x9 x10 x11 x12 x13 x14 x15 x16 x17 x18) (sx x0 b) (sprev x1 b) (sp x2 b) d := by
  have h : val_main_v243 (F := Ideal) x0 x1 x2 x3 x4 x5 x6 x7 x8 x9 x10 x11 x12 x13 x14 x15 x16 x17 x18 (ix2 b d) = val_main_v206 (F := Ideal) x0 x1 x3 x4 x5 x6 x7 x8 x9 x10 x11 x12 x13 x14 (ix3 b 0 d) + rms (fun k => val_main_v228 (F := Ideal) x0 x1 x2 x3 x4 x5 x6 x7 x8 x9 x10 x11 x12 x13 x14 x15 x16 x17 (ix3 b 0 k)) (fun d => x18 (ix2 0 d)) d := by
    unfold rms kN kEps
    pointwise [val_main_v229, val_main_v230, val_main_v231, val_main_v232, val_main_v233, val_main_v234, val_main_v235, val_main_v236, val_main_v237, val_main_v238, val_main_v239, val_main_v240, val_main_v241, val_main_v242, val_main_v243, val_main_v15, val_main_cst_37, val_main_cst_38, val_main_cst_39]
  rw [h, row_v206 x0 x1 x3 x4 x5 x6 x7 x8 x9 x10 x11 x12 x13 x14 x15 x16 x17 x18 hK]
  exact congrArg₂ (· + ·) rfl (rms_congr (fun k => row_v228 x0 x1 x2 x3 x4 x5 x6 x7 x8 x9 x10 x11 x12 x13 x14 x15 x16 x17 x18 hK b k) (fun _ => rfl) d)
end

/-- The second result. -/
theorem row_v244 (b : Fin 128) (d : Fin 1024) :
    val_main_v244 (F := Ideal) x0 x3 x4 x5 x6 (ix2 b d) = (spar x3 x4 x5 x6 x7 x8 x9 x10 x11 x12 x13 x14 x15 x16 x17 x18).vn (sx x0 b) d := by
  have h : val_main_v244 (F := Ideal) x0 x3 x4 x5 x6 (ix2 b d) = val_main_v86 (F := Ideal) x0 x3 x4 x5 x6 (ix3 b 0 d) := by
    pointwise [val_main_v244]
  rw [h, row_v86 x0 x3 x4 x5 x6 x7 x8 x9 x10 x11 x12 x13 x14 x15 x16 x17 x18]

/-- The third result: the kept rows moved up by one, and the step's own. -/
theorem row_v245 (b : Fin 128) (c : Fin 15360) :
    val_main_v245 (F := Ideal) x0 x1 x3 x4 (ix2 b c) = stepE (spar x3 x4 x5 x6 x7 x8 x9 x10 x11 x12 x13 x14 x15 x16 x17 x18) (sx x0 b) (sprev x1 b) (c.val / 1024 + 2) ⟨c.val % 1024, by omega⟩ := by
  have h : val_main_v245 (F := Ideal) x0 x1 x3 x4 (ix2 b c) = val_main_v101 (F := Ideal) x0 x1 x3 x4 (ix3 b ⟨1 + c.val / 1024, by omega⟩ ⟨c.val % 1024, by omega⟩) := by
    pointwise [val_main_v245, val_main_v172]
  rw [h, row_v101 x0 x1 x3 x4 x5 x6 x7 x8 x9 x10 x11 x12 x13 x14 x15 x16 x17 x18]
  exact congrArg (fun n => stepE (spar x3 x4 x5 x6 x7 x8 x9 x10 x11 x12 x13 x14 x15 x16 x17 x18) (sx x0 b) (sprev x1 b) n ⟨c.val % 1024, by omega⟩) (by show 1 + c.val / 1024 + 1 = c.val / 1024 + 2; omega)

end Cert.SampleReferenceIdeal.Read

end
-- ==== Proof.StepPre.lean ====
/-
  The step's second precondition, read at an entry.
-/
module

public import proofs.«01_k».proof.Pre_finite_pool_rows
public import proofs.«01_k».proof.Proof.PreRead

@[expose] public section

set_option maxRecDepth 16384

noncomputable section

namespace Cert.Layer

open Idealize.ShloMosaic Idealize.ShloMosaic.Tactic

/-- The side conditions of the precondition's operations. -/
instance facts_pool_rows : Cert.Pre_finite_pool_rows.Facts where
  slices_S1x128x15x1024_S1x128x14x256_0_0_0_0 := by decide
  bcast_S_S1x128x14x256 := by decide
  slices_S1x128x15x1024_S1x128x12x256_0_0_0_256 := by decide
  bcast_S_S1x128x12x256 := by decide
  slices_S1x128x15x1024_S1x128x8x256_0_0_0_512 := by decide
  bcast_S_S1x128x8x256 := by decide

open Cert.Pre_finite_pool_rows in
/-- The precondition's three results, read at an entry. -/
theorem pool_rows_read [Cert.Pre_finite_pool_rows.Facts] (x0 : FVec Ideal S128x1x1024 .f32) (x1 : FVec Ideal S1x128x15x1024 .f32) (x2 : FVec Ideal S1x128x1x256 .f32) (x3 : FVec Ideal S1x1024 .f32) (x4 : FVec Ideal S1x1024x7168 .f32) (x5 : FVec Ideal S1x1024 .f32) (x6 : FVec Ideal S1x1024 .f32) (x7 : FVec Ideal S1x8x128x128 .f32) (x8 : FVec Ideal S1x8x128 .f32) (x9 : FVec Ideal S1x4x256x256 .f32) (x10 : FVec Ideal S1x1024 .f32) (x11 : FVec Ideal S1x1024x1024 .f32) (x12 : FVec Ideal S1x1024x1024 .f32) (x13 : FVec Ideal S1x1024x1024 .f32) (x14 : FVec Ideal S1x1024 .f32) (x15 : FVec Ideal S1x256x1024 .f32) (x16 : FVec Ideal S1x1024x1024 .f32) (x17 : FVec Ideal S1x1024 .f32) (x18 : FVec Ideal S1x1024 .f32)
    (h : (fn (F := Ideal) x0 x1 x2 x3 x4 x5 x6 x7 x8 x9 x10 x11 x12 x13 x14 x15 x16 x17 x18).1 = (fun _ => 1#1) ∧ (fn (F := Ideal) x0 x1 x2 x3 x4 x5 x6 x7 x8 x9 x10 x11 x12 x13 x14 x15 x16 x17 x18).2.1 = (fun _ => 1#1) ∧ (fn (F := Ideal) x0 x1 x2 x3 x4 x5 x6 x7 x8 x9 x10 x11 x12 x13 x14 x15 x16 x17 x18).2.2 = (fun _ => 1#1)) :
    (∀ (b : Fin 128) (r : Fin 14) (d : Fin 256), IsReal (x1 (ix4 0 b ⟨r.val, by omega⟩ ⟨d.val, by omega⟩)))
    ∧ (∀ (b : Fin 128) (r : Fin 12) (d : Fin 256), IsReal (x1 (ix4 0 b ⟨r.val, by omega⟩ ⟨256 + d.val, by omega⟩)))
    ∧ (∀ (b : Fin 128) (r : Fin 8) (d : Fin 256), IsReal (x1 (ix4 0 b ⟨r.val, by omega⟩ ⟨512 + d.val, by omega⟩))) := by
  refine ⟨fun b r d => ?_, fun b r d => ?_, fun b r d => ?_⟩
  · have e := congrFun h.1 (ix4 0 b r d)
    unfold fn at e
    dsimp only at e
    have e' : (cmpf .olt (Host.absf (extractStridedSlice S1x128x14x256 ![0, 0, 0, 0] x1 Facts.slices_S1x128x15x1024_S1x128x14x256_0_0_0_0)) (broadcastInDim S1x128x14x256 ![] Facts.bcast_S_S1x128x14x256 (constant S_ .f32 0x7F800000#32)) : IVec S1x128x14x256 1) (ix4 0 b r d) = BitVec.ofBool (decide ((FloatOps.absf (F := Ideal) (φ := .f32) (x1 (ix4 0 b ⟨r.val, by omega⟩ ⟨d.val, by omega⟩)) : EReal) < Ideal.ofBits .f32 0x7F800000#32)) := by
      pointwise []
    exact isReal_of_cmp _ (e'.symm.trans e)
  · have e := congrFun h.2.1 (ix4 0 b r d)
    unfold fn at e
    dsimp only at e
    have e' : (cmpf .olt (Host.absf (extractStridedSlice S1x128x12x256 ![0, 0, 0, 256] x1 Facts.slices_S1x128x15x1024_S1x128x12x256_0_0_0_256)) (broadcastInDim S1x128x12x256 ![] Facts.bcast_S_S1x128x12x256 (constant S_ .f32 0x7F800000#32)) : IVec S1x128x12x256 1) (ix4 0 b r d) = BitVec.ofBool (decide ((FloatOps.absf (F := Ideal) (φ := .f32) (x1 (ix4 0 b ⟨r.val, by omega⟩ ⟨256 + d.val, by omega⟩)) : EReal) < Ideal.ofBits .f32 0x7F800000#32)) := by
      pointwise []
    exact isReal_of_cmp _ (e'.symm.trans e)
  · have e := congrFun h.2.2 (ix4 0 b r d)
    unfold fn at e
    dsimp only at e
    have e' : (cmpf .olt (Host.absf (extractStridedSlice S1x128x8x256 ![0, 0, 0, 512] x1 Facts.slices_S1x128x15x1024_S1x128x8x256_0_0_0_512)) (broadcastInDim S1x128x8x256 ![] Facts.bcast_S_S1x128x8x256 (constant S_ .f32 0x7F800000#32)) : IVec S1x128x8x256 1) (ix4 0 b r d) = BitVec.ofBool (decide ((FloatOps.absf (F := Ideal) (φ := .f32) (x1 (ix4 0 b ⟨r.val, by omega⟩ ⟨512 + d.val, by omega⟩)) : EReal) < Ideal.ofBits .f32 0x7F800000#32)) := by
      pointwise []
    exact isReal_of_cmp _ (e'.symm.trans e)

end Cert.Layer

end
-- ==== Proof.SampleClaim.lean ====
/-
  The sample step: kernel and reference compute the same three results.
-/
module

public import proofs.«01_k».proof.Defs
public import proofs.«01_k».proof.Proof.SampleResults
public import proofs.«01_k».proof.Proof.StepOut
public import proofs.«01_k».proof.Proof.StepPre

@[expose] public section

set_option maxRecDepth 16384
set_option backward.proofsInPublic true
set_option maxHeartbeats 1000000

noncomputable section

namespace Cert.SampleClaim

open Idealize.ShloMosaic Idealize.ShloMosaic.TcCoe Idealize.ShloMosaic.Tactic Idealize.SL.Sem Cert.Layer Cert.SampleReferenceIdeal.Read

/-- The memory of the kernel's program. -/
abbrev KMem : Type := (ℓ : Loc Cert.SampleIdeal.nD Cert.SampleIdeal.τ Cert.SampleIdeal.sig) → Buf (Elt Ideal) ℓ

variable (m : KMem) (c : Dev Cert.SampleIdeal.nD)

/-- Under the precondition the kept pooling inputs inside their windows are real numbers. -/
theorem kept_real (hp : Cert.Pre_SampleIdeal_finite_pool_rows m) : KeptReal (m ((c.tc : Thread Cert.SampleIdeal.nD Cert.SampleIdeal.τ).loc Cert.SampleIdeal.main_arg1)) := by
  obtain ⟨h0, h1, h2⟩ := pool_rows_read _ _ _ _ _ _ _ _ _ _ _ _ _ _ _ _ _ _ _ (hp c)
  intro b r d hw
  have hd : d.val < 256 ∨ (256 ≤ d.val ∧ d.val < 512) ∨ (512 ≤ d.val ∧ d.val < 768) ∨ 768 ≤ d.val := by omega
  have hlt := d.isLt
  unfold wid at hw
  rcases hd with g | g | g | g
  · have e : d.val / 256 = 0 := by omega
    rw [e] at hw
    exact h0 b ⟨r.val, by omega⟩ ⟨d.val, g⟩
  · have e : d.val / 256 = 1 := by omega
    rw [e] at hw
    have hd : d = ⟨256 + (d.val - 256), by omega⟩ := Fin.ext (by simp only []; omega)
    rw [hd]
    exact h1 b ⟨r.val, by omega⟩ ⟨d.val - 256, by omega⟩
  · have e : d.val / 256 = 2 := by omega
    rw [e] at hw
    have hd : d = ⟨512 + (d.val - 512), by omega⟩ := Fin.ext (by simp only []; omega)
    rw [hd]
    exact h2 b ⟨r.val, by omega⟩ ⟨d.val - 512, by omega⟩
  · have e : d.val / 256 = 3 := by omega
    rw [e] at hw
    omega

/-- The reference's results are the kernel's. -/
theorem same (hp : Cert.Pre_SampleIdeal_finite_pool_rows m)
    (x0 : (⟨Cert.SampleReferenceIdeal.S128x1x1024, .f32⟩ : BufTy).Contents (Elt Ideal))
    (x1 : (⟨Cert.SampleReferenceIdeal.S1x128x15x1024, .f32⟩ : BufTy).Contents (Elt Ideal))
    (x2 : (⟨Cert.SampleReferenceIdeal.S1x128x1x256, .f32⟩ : BufTy).Contents (Elt Ideal))
    (x3 : (⟨Cert.SampleReferenceIdeal.S1x1024, .f32⟩ : BufTy).Contents (Elt Ideal))
    (x4 : (⟨Cert.SampleReferenceIdeal.S1x1024x7168, .f32⟩ : BufTy).Contents (Elt Ideal))
    (x5 : (⟨Cert.SampleReferenceIdeal.S1x1024, .f32⟩ : BufTy).Contents (Elt Ideal))
    (x6 : (⟨Cert.SampleReferenceIdeal.S1x1024, .f32⟩ : BufTy).Contents (Elt Ideal))
    (x7 : (⟨Cert.SampleReferenceIdeal.S1x8x128x128, .f32⟩ : BufTy).Contents (Elt Ideal))
    (x8 : (⟨Cert.SampleReferenceIdeal.S1x8x128, .f32⟩ : BufTy).Contents (Elt Ideal))
    (x9 : (⟨Cert.SampleReferenceIdeal.S1x4x256x256, .f32⟩ : BufTy).Contents (Elt Ideal))
    (x10 : (⟨Cert.SampleReferenceIdeal.S1x1024, .f32⟩ : BufTy).Contents (Elt Ideal))
    (x11 : (⟨Cert.SampleReferenceIdeal.S1x1024x1024, .f32⟩ : BufTy).Contents (Elt Ideal))
    (x12 : (⟨Cert.SampleReferenceIdeal.S1x1024x1024, .f32⟩ : BufTy).Contents (Elt Ideal))
    (x13 : (⟨Cert.SampleReferenceIdeal.S1x1024x1024, .f32⟩ : BufTy).Contents (Elt Ideal))
    (x14 : (⟨Cert.SampleReferenceIdeal.S1x1024, .f32⟩ : BufTy).Contents (Elt Ideal))
    (x15 : (⟨Cert.SampleReferenceIdeal.S1x256x1024, .f32⟩ : BufTy).Contents (Elt Ideal))
    (x16 : (⟨Cert.SampleReferenceIdeal.S1x1024x1024, .f32⟩ : BufTy).Contents (Elt Ideal))
    (x17 : (⟨Cert.SampleReferenceIdeal.S1x1024, .f32⟩ : BufTy).Contents (Elt Ideal))
    (x18 : (⟨Cert.SampleReferenceIdeal.S1x1024, .f32⟩ : BufTy).Contents (Elt Ideal))
    (h0 : x0 = (m ((c.tc : Thread Cert.SampleIdeal.nD Cert.SampleIdeal.τ).loc Cert.SampleIdeal.main_arg0)))
    (h1 : x1 = (m ((c.tc : Thread Cert.SampleIdeal.nD Cert.SampleIdeal.τ).loc Cert.SampleIdeal.main_arg1)))
    (h2 : x2 = (m ((c.tc : Thread Cert.SampleIdeal.nD Cert.SampleIdeal.τ).loc Cert.SampleIdeal.main_arg2)))
    (h3 : x3 = (m ((c.tc : Thread Cert.SampleIdeal.nD Cert.SampleIdeal.τ).loc Cert.SampleIdeal.main_arg3)))
    (h4 : x4 = (m ((c.tc : Thread Cert.SampleIdeal.nD Cert.SampleIdeal.τ).loc Cert.SampleIdeal.main_arg4)))
    (h5 : x5 = (m ((c.tc : Thread Cert.SampleIdeal.nD Cert.SampleIdeal.τ).loc Cert.SampleIdeal.main_arg5)))
    (h6 : x6 = (m ((c.tc : Thread Cert.SampleIdeal.nD Cert.SampleIdeal.τ).loc Cert.SampleIdeal.main_arg6)))
    (h7 : x7 = (m ((c.tc : Thread Cert.SampleIdeal.nD Cert.SampleIdeal.τ).loc Cert.SampleIdeal.main_arg7)))
    (h8 : x8 = (m ((c.tc : Thread Cert.SampleIdeal.nD Cert.SampleIdeal.τ).loc Cert.SampleIdeal.main_arg8)))
    (h9 : x9 = (m ((c.tc : Thread Cert.SampleIdeal.nD Cert.SampleIdeal.τ).loc Cert.SampleIdeal.main_arg9)))
    (h10 : x10 = (m ((c.tc : Thread Cert.SampleIdeal.nD Cert.SampleIdeal.τ).loc Cert.SampleIdeal.main_arg10)))
    (h11 : x11 = (m ((c.tc : Thread Cert.SampleIdeal.nD Cert.SampleIdeal.τ).loc Cert.SampleIdeal.main_arg11)))
    (h12 : x12 = (m ((c.tc : Thread Cert.SampleIdeal.nD Cert.SampleIdeal.τ).loc Cert.SampleIdeal.main_arg12)))
    (h13 : x13 = (m ((c.tc : Thread Cert.SampleIdeal.nD Cert.SampleIdeal.τ).loc Cert.SampleIdeal.main_arg13)))
    (h14 : x14 = (m ((c.tc : Thread Cert.SampleIdeal.nD Cert.SampleIdeal.τ).loc Cert.SampleIdeal.main_arg14)))
    (h15 : x15 = (m ((c.tc : Thread Cert.SampleIdeal.nD Cert.SampleIdeal.τ).loc Cert.SampleIdeal.main_arg15)))
    (h16 : x16 = (m ((c.tc : Thread Cert.SampleIdeal.nD Cert.SampleIdeal.τ).loc Cert.SampleIdeal.main_arg16)))
    (h17 : x17 = (m ((c.tc : Thread Cert.SampleIdeal.nD Cert.SampleIdeal.τ).loc Cert.SampleIdeal.main_arg17)))
    (h18 : x18 = (m ((c.tc : Thread Cert.SampleIdeal.nD Cert.SampleIdeal.τ).loc Cert.SampleIdeal.main_arg18))) :
    val_main_v243 (F := Ideal) x0 x1 x2 x3 x4 x5 x6 x7 x8 x9 x10 x11 x12 x13 x14 x15 x16 x17 x18 = Cert.SampleIdeal.Gen.R13 m c
    ∧ val_main_v244 (F := Ideal) x0 x3 x4 x5 x6 = Cert.SampleIdeal.Gen.R14 m c
    ∧ val_main_v245 (F := Ideal) x0 x1 x3 x4 = Cert.SampleIdeal.Gen.R15 m c := by
  have hK : KeptReal x1 := by
    rw [h1]
    exact kept_real m c hp
  subst h0 h1 h2 h3 h4 h5 h6 h7 h8 h9 h10 h11 h12 h13 h14 h15 h16 h17 h18
  refine ⟨funext fun i => ?_, funext fun i => ?_, funext fun i => ?_⟩
  · have hi : i = ix2 (i 0) (i 1) := by funext a; fin_cases a <;> rfl
    rw [hi]
    exact row_v243 (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18)) hK (i 0) (i 1)
  · have hi : i = ix2 (i 0) (i 1) := by funext a; fin_cases a <;> rfl
    rw [hi]
    exact row_v244 (m ((c.tc : Thread Cert.SampleIdeal.nD Cert.SampleIdeal.τ).loc Cert.SampleIdeal.main_arg0)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18)) (i 0) (i 1)
  · have hi : i = ix2 (i 0) (i 1) := by funext a; fin_cases a <;> rfl
    rw [hi]
    exact row_v245 (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18)) (i 0) (i 1)

/-- The sample step's kernel and the reference leave the same values in their results. -/
theorem algebraic : Cert.algebraic_SampleIdeal_SampleReferenceIdeal_pre_finite_pool_rows := by
  intro m g m' g' hp ha
  refine ⟨fun c => Cert.SampleIdeal.Gen.R13 m c, fun c => Cert.SampleIdeal.Gen.R14 m c, fun c => Cert.SampleIdeal.Gen.R15 m c, ?_, ?_⟩
  · refine (θ_run Cert.SampleIdeal.defs _ _).mono (fun r h c => ?_) (Cert.SampleIdeal.Value.run_blocks (F := Ideal) m g)
    exact ⟨(h c).1.trans (Cert.SampleIdeal.Gen.final13 m c), (h c).2.1.trans (Cert.SampleIdeal.Gen.final14 m c),
      (h c).2.2.1.trans (Cert.SampleIdeal.Gen.final15 m c), (h c).2.2.2⟩
  · refine (θ_run Cert.SampleReferenceIdeal.defs _ _).mono (fun r h c => ?_) (Cert.SampleReferenceIdeal.Value.run (F := Ideal) m' g')
    obtain ⟨a0, a1, a2, a3, a4, a5, a6, a7, a8, a9, a10, a11, a12, a13, a14, a15, a16, a17, a18⟩ := ha c
    have hs := same m c hp _ _ _ _ _ _ _ _ _ _ _ _ _ _ _ _ _ _ _ a0 a1 a2 a3 a4 a5 a6 a7 a8 a9 a10 a11 a12 a13 a14 a15 a16 a17 a18
    exact ⟨(h c).1.trans ((val_main_v243_eq (StableHlo.launchContents m' c)).trans hs.1),
      (h c).2.1.trans ((val_main_v244_eq (StableHlo.launchContents m' c)).trans hs.2.1),
      (h c).2.2.1.trans ((val_main_v245_eq (StableHlo.launchContents m' c)).trans hs.2.2), (h c).2.2.2⟩

/-- The sample step's reference runs and keeps its arguments. -/
theorem frame_reference : Cert.quiescent_SampleReferenceIdeal := fun m g _ =>
  (θ_run Cert.SampleReferenceIdeal.defs _ _).mono (fun r h => ⟨fun c => (h c).2.2.2, sem_eq_zero_of_no_sems (by decide) r.2⟩)
    (Cert.SampleReferenceIdeal.Value.run (F := Ideal) m g)

end Cert.SampleClaim

end
-- ==== Proof.lean ====
/-
  The claims: the programs of the prompt and of the sample step run and keep their arguments; the
  kernels of both calls compute what their references compute.
-/
module

public import proofs.«01_k».proof.Defs
public import proofs.«01_k».proof.Proof.PromptClaim
public import proofs.«01_k».proof.Proof.SampleClaim
public import proofs.«01_k».proof.Proof.Gen.SampleReferenceIdeal.Run
public import proofs.«01_k».proof.Proof.Gen.SampleReferenceIdeal.Read
public import proofs.«01_k».proof.Proof.Gen.SampleIdeal.Value
public import proofs.«01_k».proof.Proof.Gen.Kernel.Frame
public import proofs.«01_k».proof.Proof.Gen.KernelIdeal.Frame
public import proofs.«01_k».proof.Proof.Gen.Sample.Frame
public import proofs.«01_k».proof.Proof.Gen.SampleIdeal.Frame
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Sample.Gen.facts,
    Cert.SampleIdeal.Gen.facts, Cert.SampleReferenceIdeal.Gen.facts, Cert.Layer.facts_pool_weights,
    Cert.Layer.facts_pool_rows,
    fun m g _ => Cert.Kernel.Gen.frame m g,
    fun m g _ => Cert.KernelIdeal.Gen.frame m g,
    fun m g _ => Cert.KernelIdeal.Gen.frame m g,
    Cert.PromptClaim.frame_reference,
    fun m g _ => Cert.PromptClaim.frame_reference m g trivial,
    fun m g _ => Cert.Sample.Gen.frame m g,
    fun m g _ => Cert.SampleIdeal.Gen.frame m g,
    fun m g _ => Cert.SampleIdeal.Gen.frame m g,
    Cert.SampleClaim.frame_reference,
    fun m g _ => Cert.SampleClaim.frame_reference m g trivial,
    trivial,
    Cert.PromptClaim.algebraic,
    trivial,
    Cert.SampleClaim.algebraic⟩

end Cert.Proof

end
